-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts : Cert.Pre_experts.Facts] (m : (ℓ : Loc Cert.Kernel3.nD Cert.Kernel3.τ Cert.Kernel3.sig) → Buf (Elt Bits) ℓ) : Prop :=
  ∀ c : Dev Cert.Kernel3.nD,
    (Cert.Pre_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts : Cert.Pre_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Kernel3Ideal_experts_finite [hPre_experts_finite : Cert.Pre_experts_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_experts_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_experts_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_finite [hPre_experts_finite : Cert.Pre_experts_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_experts_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_experts_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_padding [hPre_padding : Cert.Pre_padding.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_padding.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_padding [hPre_padding : Cert.Pre_padding.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_padding.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] [hPre_experts : Cert.Pre_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts : Cert.Pre_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_experts_finite [hKernel3Ideal : Cert.Kernel3Ideal.Facts] [hPre_experts_finite : Cert.Pre_experts_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_experts_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_finite [hReference3Ideal : Cert.Reference3Ideal.Facts] [hPre_experts_finite : Cert.Pre_experts_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_padding [hKernel9Ideal : Cert.Kernel9Ideal.Facts] [hPre_padding : Cert.Pre_padding.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_padding m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_padding [hReference9Ideal : Cert.Reference9Ideal.Facts] [hPre_padding : Cert.Pre_padding.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_padding m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_experts_finite [hKernel3Ideal : Cert.Kernel3Ideal.Facts] [hReference3Ideal : Cert.Reference3Ideal.Facts] [hPre_experts_finite : Cert.Pre_experts_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_experts_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v205) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  IdealRules.named_const.Statement Cert.Kernel7Ideal.κ "alpha" .f32 0x3FB504F3#32 ((Real.sqrt 2 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  IdealRules.named_const.Statement Cert.Kernel8Ideal.κ "alpha" .f32 0x3FB504F3#32 ((Real.sqrt 2 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v34) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_padding [hKernel9Ideal : Cert.Kernel9Ideal.Facts] [hReference9Ideal : Cert.Reference9Ideal.Facts] [hPre_padding : Cert.Pre_padding.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_padding m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v47) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v28) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v11_0)) (v1 : (c : Dev Cert.Kernel11Ideal.nD) → Buf (Elt Ideal) ((c.tc : Thread Cert.Kernel11Ideal.nD Cert.Kernel11Ideal.τ).loc Cert.Kernel11Ideal.main_v11_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11_0) = v0 c
          ∧ r.2.mem ((c.tc : Thread Cert.Kernel11Ideal.nD Cert.Kernel11Ideal.τ).loc Cert.Kernel11Ideal.main_v11_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_v20) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_experts : Cert.Pre_experts.Facts) (hPre_experts_finite : Cert.Pre_experts_finite.Facts) (hPre_finite : Cert.Pre_finite.Facts) (hPre_padding : Cert.Pre_padding.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts := hPre_experts)
    ∧ quiescent_Kernel3Ideal (hKernel3Ideal := hKernel3Ideal) (hPre_experts := hPre_experts)
    ∧ quiescent_Kernel3Ideal_pre_experts_finite (hKernel3Ideal := hKernel3Ideal) (hPre_experts_finite := hPre_experts_finite)
    ∧ quiescent_Reference3Ideal (hReference3Ideal := hReference3Ideal)
    ∧ quiescent_Reference3Ideal_pre_experts_finite (hReference3Ideal := hReference3Ideal) (hPre_experts_finite := hPre_experts_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_padding (hKernel9Ideal := hKernel9Ideal) (hPre_padding := hPre_padding)
    ∧ quiescent_Reference9Ideal (hReference9Ideal := hReference9Ideal)
    ∧ quiescent_Reference9Ideal_pre_padding (hReference9Ideal := hReference9Ideal) (hPre_padding := hPre_padding)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_experts_finite (hKernel3Ideal := hKernel3Ideal) (hReference3Ideal := hReference3Ideal) (hPre_experts_finite := hPre_experts_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_padding (hKernel9Ideal := hKernel9Ideal) (hReference9Ideal := hReference9Ideal) (hPre_padding := hPre_padding)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_experts.lean ====
abbrev S72 : Shape := ⟨1, ![72]⟩
abbrev S1 : Shape := ⟨1, ![1]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S36864x2048 .bf16) (main_arg3 : FVec F S8x2048x7168 .bf16) (main_arg4 : FVec F S8x2048x7168 .bf16) (main_arg5 : FVec F S8x7168x2048 .bf16) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_experts_finite.lean ====
abbrev S72 : Shape := ⟨1, ![72]⟩
abbrev S1 : Shape := ⟨1, ![1]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S72 : S_.BroadcastsInDim S72 (![] : Fin 0 → Fin S72.rank)
  bcast_S_S36864x2048 : S_.BroadcastsInDim S36864x2048 (![] : Fin 0 → Fin S36864x2048.rank)
  bcast_S_S8x2048x7168 : S_.BroadcastsInDim S8x2048x7168 (![] : Fin 0 → Fin S8x2048x7168.rank)

variable [Facts]

def fn {F : FTy → Type} [FloatOps F] (main_arg0 : IVec S72 32) (main_arg1 : IVec S1 32) (main_arg2 : FVec F S36864x2048 .bf16) (main_arg3 : FVec F S8x2048x7168 .bf16) (main_arg4 : FVec F S8x2048x7168 .bf16) (main_arg5 : FVec F S8x7168x2048 .bf16) : IVec S72 1 × IVec S36864x2048 1 × IVec S8x2048x7168 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_v5 : FVec F S36864x2048 .bf16 := Host.absf main_arg2
  let main_cst : FVec F S_ .bf16 := constant S_ .bf16 0x7F80#16
  let main_v6 : FVec F S36864x2048 .bf16 := broadcastInDim S36864x2048 ![] bcast_S_S36864x2048 main_cst
  let main_v7 : IVec S36864x2048 1 := cmpf .olt main_v5 main_v6
  let main_v8 : FVec F S8x2048x7168 .bf16 := Host.absf main_arg3
  let main_cst_1 : FVec F S_ .bf16 := constant S_ .bf16 0x7F80#16
  let main_v9 : FVec F S8x2048x7168 .bf16 := broadcastInDim S8x2048x7168 ![] bcast_S_S8x2048x7168 main_cst_1
  let main_v10 : IVec S8x2048x7168 1 := cmpf .olt main_v8 main_v9
  (main_v4, main_v7, main_v10)
-- ==== Pre_finite.lean ====
abbrev S17408x2048 : Shape := ⟨2, ![17408, 2048]⟩
abbrev S2048x5632 : Shape := ⟨2, ![2048, 5632]⟩
abbrev S_ : Shape := ⟨0, ![]⟩

class Facts : Prop where
  bcast_S_S17408x2048 : S_.BroadcastsInDim S17408x2048 (![] : Fin 0 → Fin S17408x2048.rank)
  bcast_S_S2048x5632 : S_.BroadcastsInDim S2048x5632 (![] : Fin 0 → Fin S2048x5632.rank)

variable [Facts]

def fn {F : FTy → Type} [FloatOps F] (main_arg0 : FVec F S17408x2048 .bf16) (main_arg1 : FVec F S2048x5632 .f32) (main_arg2 : FVec F S2048x5632 .f32) : IVec S17408x2048 1 × IVec S2048x5632 1 :=
  let main_v0 : FVec F S17408x2048 .bf16 := Host.absf main_arg0
  let main_cst : FVec F S_ .bf16 := constant S_ .bf16 0x7F80#16
  let main_v1 : FVec F S17408x2048 .bf16 := broadcastInDim S17408x2048 ![] bcast_S_S17408x2048 main_cst
  let main_v2 : IVec S17408x2048 1 := cmpf .olt main_v0 main_v1
  let main_v3 : FVec F S2048x5632 .f32 := Host.absf main_arg1
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  (main_v2, main_v5)
-- ==== Pre_padding.lean ====
abbrev S17408x16384 : Shape := ⟨2, ![17408, 16384]⟩
abbrev S2x17408x2176 : Shape := ⟨3, ![2, 17408, 2176]⟩
abbrev S3x2048 : Shape := ⟨2, ![3, 2048]⟩
abbrev S2048x2048 : Shape := ⟨2, ![2048, 2048]⟩
abbrev S4096 : Shape := ⟨1, ![4096]⟩
abbrev S4x4352x16384 : Shape := ⟨3, ![4, 4352, 16384]⟩
abbrev S4x2x2048 : Shape := ⟨3, ![4, 2, 2048]⟩
abbrev S_ : Shape := ⟨0, ![]⟩

class Facts : Prop where
  shapeCasts_S17408x16384_S4x4352x16384 : S17408x16384.ShapeCasts S4x4352x16384
  slices_S4x4352x16384_S4x2x2048_0_0_2048 : S4x4352x16384.Slices ![0, 0, 2048] S4x2x2048
  bcast_S_S4x2x2048 : S_.BroadcastsInDim S4x2x2048 (![] : Fin 0 → Fin S4x2x2048.rank)

variable [Facts]

def fn {F : FTy → Type} [FloatOps F] (main_arg0 : FVec F S17408x16384 .bf16) (main_arg1 : FVec F S2x17408x2176 .bf16) (main_arg2 : FVec F S3x2048 .f32) (main_arg3 : FVec F S2048x2048 .f32) (main_arg4 : FVec F S4096 .f32) : IVec S4x2x2048 1 :=
  let main_v0 : FVec F S4x4352x16384 .bf16 := shapeCast S4x4352x16384 main_arg0 shapeCasts_S17408x16384_S4x4352x16384
  let main_v1 : FVec F S4x2x2048 .bf16 := (extractStridedSlice S4x2x2048 ![0, 0, 2048] · slices_S4x4352x16384_S4x2x2048_0_0_2048) main_v0
  let main_cst : FVec F S_ .bf16 := constant S_ .bf16 0x0000#16
  let main_v2 : FVec F S4x2x2048 .bf16 := broadcastInDim S4x2x2048 ![] bcast_S_S4x2x2048 main_cst
  let main_v3 : IVec S4x2x2048 1 := cmpf .oeq main_v1 main_v2
  main_v3
-- ==== Kernel.lean ====
abbrev S17408x16384 : Shape := ⟨2, ![17408, 16384]⟩
abbrev S17408x128 : Shape := ⟨2, ![17408, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S64x64 : Shape := ⟨2, ![64, 64]⟩
abbrev S1x4096 : Shape := ⟨2, ![1, 4096]⟩
abbrev S1x6144 : Shape := ⟨2, ![1, 6144]⟩
abbrev S17408x4096 : Shape := ⟨2, ![17408, 4096]⟩
abbrev S4352x512 : Shape := ⟨2, ![4352, 512]⟩
abbrev S4352x128 : Shape := ⟨2, ![4352, 128]⟩
abbrev S4x512 : Shape := ⟨2, ![4, 512]⟩
abbrev S4x128 : Shape := ⟨2, ![4, 128]⟩
abbrev S1x512 : Shape := ⟨2, ![1, 512]⟩
abbrev S1x128 : Shape := ⟨2, ![1, 128]⟩
abbrev S128x512 : Shape := ⟨2, ![128, 512]⟩
abbrev S256x256 : Shape := ⟨2, ![256, 256]⟩
abbrev S4x768 : Shape := ⟨2, ![4, 768]⟩
abbrev S1x768 : Shape := ⟨2, ![1, 768]⟩
abbrev S256x1 : Shape := ⟨2, ![256, 1]⟩
abbrev S8x1 : Shape := ⟨2, ![8, 1]⟩
abbrev S128x128 : Shape := ⟨2, ![128, 128]⟩
abbrev S256x512 : Shape := ⟨2, ![256, 512]⟩
abbrev S256x128 : Shape := ⟨2, ![256, 128]⟩
abbrev S256x768 : Shape := ⟨2, ![256, 768]⟩
abbrev S16x512 : Shape := ⟨2, ![16, 512]⟩
abbrev S16x128 : Shape := ⟨2, ![16, 128]⟩
abbrev S16x768 : Shape := ⟨2, ![16, 768]⟩
abbrev S8x768 : Shape := ⟨2, ![8, 768]⟩
abbrev S248x768 : Shape := ⟨2, ![248, 768]⟩
abbrev S128x1 : Shape := ⟨2, ![128, 1]⟩
abbrev S1x1 : Shape := ⟨2, ![1, 1]⟩
abbrev S256 : Shape := ⟨1, ![256]⟩

abbrev nBuf : Space → Nat
  | .hbm => 13
  | .vmem => 31
  | .smem => 0
  | _ => 0

abbrev bufTy : (tb : Table) → Fin (tcTables nBuf tb) → BufTy
  | .hbm, ⟨0, _⟩ => ⟨S17408x16384, .bf16⟩
  | .hbm, ⟨1, _⟩ => ⟨S17408x128, .f32⟩
  | .hbm, ⟨2, _⟩ => ⟨S17408x128, .f32⟩
  | .hbm, ⟨3, _⟩ => ⟨S4x6144, .f32⟩
  | .hbm, ⟨4, _⟩ => ⟨S6144, .f32⟩
  | .hbm, ⟨5, _⟩ => ⟨S64, .f32⟩
  | .hbm, ⟨6, _⟩ => ⟨S4096, .f32⟩
  | .hbm, ⟨7, _⟩ => ⟨S64x64, .f32⟩
  | .hbm, ⟨8, _⟩ => ⟨S4096, .f32⟩
  | .hbm, ⟨9, _⟩ => ⟨S1x4096, .f32⟩
  | .hbm, ⟨10, _⟩ => ⟨S1x6144, .f32⟩
  | .hbm, ⟨11, _⟩ => ⟨S1x4096, .f32⟩
  | .hbm, ⟨12, _⟩ => ⟨S17408x4096, .bf16⟩
  | .local _ .vmem, ⟨0, _⟩ => ⟨S4352x512, .bf16⟩
  | .local _ .vmem, ⟨1, _⟩ => ⟨S4352x512, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S4352x512, .bf16⟩
  | .local _ .vmem, ⟨7, _⟩ => ⟨S4352x512, .bf16⟩
  | .local _ .vmem, ⟨8, _⟩ => ⟨S4352x128, .f32⟩
  | .local _ .vmem, ⟨9, _⟩ => ⟨S4352x128, .f32⟩
  | .local _ .vmem, ⟨10, _⟩ => ⟨S4352x128, .f32⟩
  | .local _ .vmem, ⟨11, _⟩ => ⟨S4352x128, .f32⟩
  | .local _ .vmem, ⟨12, _⟩ => ⟨S4x512, .f32⟩
  | .local _ .vmem, ⟨13, _⟩ => ⟨S4x512, .f32⟩
  | .local _ .vmem, ⟨14, _⟩ => ⟨S4x128, .f32⟩
  | .local _ .vmem, ⟨15, _⟩ => ⟨S4x128, .f32⟩
  | .local _ .vmem, ⟨16, _⟩ => ⟨S4x128, .f32⟩
  | .local _ .vmem, ⟨17, _⟩ => ⟨S4x128, .f32⟩
  | .local _ .vmem, ⟨18, _⟩ => ⟨S1x512, .f32⟩
  | .local _ .vmem, ⟨19, _⟩ => ⟨S1x512, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S4352x512, .bf16⟩
  | .local _ .vmem, ⟨29, _⟩ => ⟨S4352x512, .bf16⟩
  | .local _ .vmem, ⟨30, _⟩ => ⟨S128x512, .f32⟩
  | _, _ => ⟨S17408x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_22 : BitVec 32 := 0#32
  let c17_i32 : BitVec 32 := 17#32
  let v63 : BitVec 32 := Scalar.addi c0_i32_22 c17_i32
  let c1_i32_23 : BitVec 32 := 1#32
  ⟨c0_i32_22, v63, c1_i32_23⟩
def k0_mult1 (k0_t1 : Fin k0_t1_loop.trips) : BitVec 32 :=
  let c0_i32_22 : BitVec 32 := 0#32
  let c1_i32_23 : BitVec 32 := 1#32
  let arg18 : BitVec 32 := Scf.iv c0_i32_22 c1_i32_23 k0_t1
  let c256_i32 : BitVec 32 := 256#32
  let v64 : BitVec 32 := Scalar.muli arg18 c256_i32
  v64
def k0_mult2 (k0_t1 : Fin k0_t1_loop.trips) : BitVec 32 :=
  let c0_i32_22 : BitVec 32 := 0#32
  let c1_i32_23 : BitVec 32 := 1#32
  let arg18 : BitVec 32 := Scf.iv c0_i32_22 c1_i32_23 k0_t1
  let c256_i32 : BitVec 32 := 256#32
  let v64 : BitVec 32 := Scalar.muli arg18 c256_i32
  let v65 : BitVec 32 := v64
  let c16_i32 : BitVec 32 := 16#32
  let v66 : BitVec 32 := Scalar.subi v65 c16_i32
  let c0_i32_25 : BitVec 32 := 0#32
  let v67 : BitVec 32 := Scalar.maxsi v66 c0_i32_25
  v67
def k0_off1 (k0_t1 : Fin k0_t1_loop.trips) : Fin 2 → Nat :=
  let c0_i32_22 : BitVec 32 := 0#32
  let c1_i32_23 : BitVec 32 := 1#32
  let arg18 : BitVec 32 := Scf.iv c0_i32_22 c1_i32_23 k0_t1
  let c256_i32 : BitVec 32 := 256#32
  let v64 : BitVec 32 := Scalar.muli arg18 c256_i32
  let v65 : BitVec 32 := v64
  let v69 : Index := Scalar.indexCast v65
  let c0_26 : Index := 0#32
  ![v69.toNat, 0]
def k0_off2 (k0_t1 : Fin k0_t1_loop.trips) : Fin 2 → Nat :=
  let c0_i32_22 : BitVec 32 := 0#32
  let c1_i32_23 : BitVec 32 := 1#32
  let arg18 : BitVec 32 := Scf.iv c0_i32_22 c1_i32_23 k0_t1
  let c256_i32 : BitVec 32 := 256#32
  let v64 : BitVec 32 := Scalar.muli arg18 c256_i32
  let v65 : BitVec 32 := v64
  let v71 : Index := Scalar.indexCast v65
  let c0_27 : Index := 0#32
  ![v71.toNat, 0]
def k0_off3 (k0_t1 : Fin k0_t1_loop.trips) : Fin 2 → Nat :=
  let c0_i32_22 : BitVec 32 := 0#32
  let c1_i32_23 : BitVec 32 := 1#32
  let arg18 : BitVec 32 := Scf.iv c0_i32_22 c1_i32_23 k0_t1
  let c256_i32 : BitVec 32 := 256#32
  let v64 : BitVec 32 := Scalar.muli arg18 c256_i32
  let v65 : BitVec 32 := v64
  let c16_i32 : BitVec 32 := 16#32
  let v66 : BitVec 32 := Scalar.subi v65 c16_i32
  let c0_i32_25 : BitVec 32 := 0#32
  let v67 : BitVec 32 := Scalar.maxsi v66 c0_i32_25
  let v68 : BitVec 32 := v67
  let v76 : Index := Scalar.indexCast v68
  let c0_29 : Index := 0#32
  ![v76.toNat, 0]
def k0_off4 (k0_t1 : Fin k0_t1_loop.trips) : Fin 2 → Nat :=
  let c0_i32_22 : BitVec 32 := 0#32
  let c1_i32_23 : BitVec 32 := 1#32
  let arg18 : BitVec 32 := Scf.iv c0_i32_22 c1_i32_23 k0_t1
  let c256_i32 : BitVec 32 := 256#32
  let v64 : BitVec 32 := Scalar.muli arg18 c256_i32
  let v65 : BitVec 32 := v64
  let c16_i32 : BitVec 32 := 16#32
  let v66 : BitVec 32 := Scalar.subi v65 c16_i32
  let c0_i32_25 : BitVec 32 := 0#32
  let v67 : BitVec 32 := Scalar.maxsi v66 c0_i32_25
  let v68 : BitVec 32 := v67
  let v78 : Index := Scalar.indexCast v68
  let c0_30 : Index := 0#32
  ![v78.toNat, 0]
def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c120_i32 : BitVec 32 := 120#32
  let v0 : BitVec 32 := Scalar.addi c120_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4352x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4352x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S4352x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S17408x16384 : Shape := ⟨2, ![17408, 16384]⟩
abbrev S17408x128 : Shape := ⟨2, ![17408, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S4x4352x16384 : Shape := ⟨3, ![4, 4352, 16384]⟩
abbrev S4x4112x16384 : Shape := ⟨3, ![4, 4112, 16384]⟩
abbrev S4x4112x4096 : Shape := ⟨3, ![4, 4112, 4096]⟩
abbrev S4x4112x6144 : Shape := ⟨3, ![4, 4112, 6144]⟩
abbrev S_ : Shape := ⟨0, ![]⟩
abbrev S4x4115x6144 : Shape := ⟨3, ![4, 4115, 6144]⟩
abbrev S1x6144 : Shape := ⟨2, ![1, 6144]⟩
abbrev S1x1x6144 : Shape := ⟨3, ![1, 1, 6144]⟩
abbrev S4x4112x1024 : Shape := ⟨3, ![4, 4112, 1024]⟩
abbrev S4x4112x8x8x64 : Shape := ⟨5, ![4, 4112, 8, 8, 64]⟩
abbrev S4x4352x128 : Shape := ⟨3, ![4, 4352, 128]⟩
abbrev S4x4112x64 : Shape := ⟨3, ![4, 4112, 64]⟩
abbrev S4x4112x8x8 : Shape := ⟨4, ![4, 4112, 8, 8]⟩
abbrev S4x4352x64 : Shape := ⟨3, ![4, 4352, 64]⟩
abbrev S4x4352x8x8 : Shape := ⟨4, ![4, 4352, 8, 8]⟩
abbrev S4x4112x8x8x1 : Shape := ⟨5, ![4, 4112, 8, 8, 1]⟩
abbrev S4x4112x8x128 : Shape := ⟨4, ![4, 4112, 8, 128]⟩
abbrev S4x4352x8x8x64 : Shape := ⟨5, ![4, 4352, 8, 8, 64]⟩
abbrev S4x4352x8x128 : Shape := ⟨4, ![4, 4352, 8, 128]⟩
abbrev S256x256 : Shape := ⟨2, ![256, 256]⟩
abbrev S1x256x256x1x1 : Shape := ⟨5, ![1, 256, 256, 1, 1]⟩
abbrev S4x8x8x64x128 : Shape := ⟨5, ![4, 8, 8, 64, 128]⟩
abbrev S4x17x256x8x8x64 : Shape := ⟨6, ![4, 17, 256, 8, 8, 64]⟩
abbrev S17x4x256x8x8x64 : Shape := ⟨6, ![17, 4, 256, 8, 8, 64]⟩
abbrev S4x17x256x8x8 : Shape := ⟨5, ![4, 17, 256, 8, 8]⟩
abbrev S17x4x256x8x8 : Shape := ⟨5, ![17, 4, 256, 8, 8]⟩
abbrev S4x17x256x8x128 : Shape := ⟨5, ![4, 17, 256, 8, 128]⟩
abbrev S17x4x256x8x128 : Shape := ⟨5, ![17, 4, 256, 8, 128]⟩
abbrev S1x4x256x8x8x64 : Shape := ⟨6, ![1, 4, 256, 8, 8, 64]⟩
abbrev S4x256x8x8x64 : Shape := ⟨5, ![4, 256, 8, 8, 64]⟩
abbrev S1x4x256x8x8 : Shape := ⟨5, ![1, 4, 256, 8, 8]⟩
abbrev S4x256x8x8 : Shape := ⟨4, ![4, 256, 8, 8]⟩
abbrev S1x4x256x8x128 : Shape := ⟨5, ![1, 4, 256, 8, 128]⟩
abbrev S4x256x8x128 : Shape := ⟨4, ![4, 256, 8, 128]⟩
abbrev S4x256x1x8x8 : Shape := ⟨5, ![4, 256, 1, 8, 8]⟩
abbrev S4x1x256x8x8 : Shape := ⟨5, ![4, 1, 256, 8, 8]⟩
abbrev S4x256x256x8x8 : Shape := ⟨5, ![4, 256, 256, 8, 8]⟩
abbrev S4x8x256x256 : Shape := ⟨4, ![4, 8, 256, 256]⟩
abbrev S4x256x256x8 : Shape := ⟨4, ![4, 256, 256, 8]⟩
abbrev S4x256x256x8x1 : Shape := ⟨5, ![4, 256, 256, 8, 1]⟩
abbrev S4x8x8x64x256 : Shape := ⟨5, ![4, 8, 8, 64, 256]⟩
abbrev S4x256x8x8x1 : Shape := ⟨5, ![4, 256, 8, 8, 1]⟩
abbrev S4x1x8x8 : Shape := ⟨4, ![4, 1, 8, 8]⟩
abbrev S4x8x8 : Shape := ⟨3, ![4, 8, 8]⟩
abbrev S4x8x8x1x1 : Shape := ⟨5, ![4, 8, 8, 1, 1]⟩
abbrev S8x8 : Shape := ⟨2, ![8, 8]⟩
abbrev S8x8x1 : Shape := ⟨3, ![8, 8, 1]⟩
abbrev S1x1x8x8x1 : Shape := ⟨5, ![1, 1, 8, 8, 1]⟩
abbrev S4x4112x8x512 : Shape := ⟨4, ![4, 4112, 8, 512]⟩
abbrev S4x4112x8 : Shape := ⟨3, ![4, 4112, 8]⟩
abbrev S4x4112x8x1 : Shape := ⟨4, ![4, 4112, 8, 1]⟩
abbrev S1x1x4096 : Shape := ⟨3, ![1, 1, 4096]⟩
abbrev S4x4352x4096 : Shape := ⟨3, ![4, 4352, 4096]⟩
abbrev S17408x4096 : Shape := ⟨2, ![17408, 4096]⟩

abbrev nBuf : Space → Nat
  | .hbm => 233
  | .vmem => 0
  | .smem => 0
  | _ => 0

abbrev hbmTy0_0 (i : Nat) : BufTy := match i % 128 with
  | 0 => ⟨S17408x16384, .bf16⟩
  | 1 => ⟨S17408x128, .f32⟩
  | 2 => ⟨S17408x128, .f32⟩
  | 3 => ⟨S4x6144, .f32⟩
  | 4 => ⟨S6144, .f32⟩
  | 5 => ⟨S64, .f32⟩
  | 6 => ⟨S4096, .f32⟩
  | 7 => ⟨S17408x16384, .f32⟩
  | 8 => ⟨S4x4352x16384, .f32⟩
  | 9 => ⟨S4x4112x16384, .f32⟩
  | 10 => ⟨S4x4112x4096, .f32⟩
  | 11 => ⟨S4x4112x6144, .f32⟩
  | 12 => ⟨S_, .i32⟩
  | 13 => ⟨S_, .f32⟩
  | 14 => ⟨S4x4115x6144, .f32⟩
  | 15 => ⟨S1x6144, .f32⟩
  | 16 => ⟨S6144, .f32⟩
  | 17 => ⟨S4x4112x6144, .f32⟩
  | 18 => ⟨S1x1x6144, .f32⟩
  | 19 => ⟨S4x4112x6144, .f32⟩
  | 20 => ⟨S4x4112x6144, .f32⟩
  | 21 => ⟨S_, .f32⟩
  | 22 => ⟨S4x4112x6144, .f32⟩
  | 23 => ⟨S4x4112x6144, .f32⟩
  | 24 => ⟨S1x6144, .f32⟩
  | 25 => ⟨S6144, .f32⟩
  | 26 => ⟨S4x4112x6144, .f32⟩
  | 27 => ⟨S1x1x6144, .f32⟩
  | 28 => ⟨S4x4112x6144, .f32⟩
  | 29 => ⟨S4x4112x6144, .f32⟩
  | 30 => ⟨S4x4112x6144, .f32⟩
  | 31 => ⟨S1x6144, .f32⟩
  | 32 => ⟨S6144, .f32⟩
  | 33 => ⟨S4x4112x6144, .f32⟩
  | 34 => ⟨S1x1x6144, .f32⟩
  | 35 => ⟨S4x4112x6144, .f32⟩
  | 36 => ⟨S4x4112x6144, .f32⟩
  | 37 => ⟨S4x4112x6144, .f32⟩
  | 38 => ⟨S1x6144, .f32⟩
  | 39 => ⟨S6144, .f32⟩
  | 40 => ⟨S4x4112x6144, .f32⟩
  | 41 => ⟨S1x1x6144, .f32⟩
  | 42 => ⟨S4x4112x6144, .f32⟩
  | 43 => ⟨S4x4112x6144, .f32⟩
  | 44 => ⟨S4x4112x6144, .f32⟩
  | 45 => ⟨S1x1x6144, .f32⟩
  | 46 => ⟨S4x4112x6144, .f32⟩
  | 47 => ⟨S4x4112x6144, .f32⟩
  | 48 => ⟨S4x4112x6144, .f32⟩
  | 49 => ⟨S4x4112x6144, .f32⟩
  | 50 => ⟨S_, .f32⟩
  | 51 => ⟨S4x4112x6144, .f32⟩
  | 52 => ⟨S4x4112x6144, .f32⟩
  | 53 => ⟨S_, .f32⟩
  | 54 => ⟨S4x4112x6144, .f32⟩
  | 55 => ⟨S4x4112x6144, .f32⟩
  | 56 => ⟨S4x4112x6144, .f32⟩
  | 57 => ⟨S4x4112x4096, .f32⟩
  | 58 => ⟨S4x4112x1024, .f32⟩
  | 59 => ⟨S4x4112x1024, .f32⟩
  | 60 => ⟨S4x4112x8x8x64, .f32⟩
  | 61 => ⟨S4x4352x128, .f32⟩
  | 62 => ⟨S4x4112x64, .f32⟩
  | 63 => ⟨S4x4112x8x8, .f32⟩
  | 64 => ⟨S4x4352x128, .f32⟩
  | 65 => ⟨S4x4352x64, .f32⟩
  | 66 => ⟨S4x4352x8x8, .f32⟩
  | 67 => ⟨S4x4112x8x8x1, .f32⟩
  | 68 => ⟨S4x4112x8x8x64, .f32⟩
  | 69 => ⟨S4x4112x8x8x64, .f32⟩
  | 70 => ⟨S4x4112x8x128, .f32⟩
  | 71 => ⟨S4x4112x8x128, .f32⟩
  | 72 => ⟨S_, .i32⟩
  | 73 => ⟨S_, .f32⟩
  | 74 => ⟨S4x4352x8x8x64, .f32⟩
  | 75 => ⟨S_, .i32⟩
  | 76 => ⟨S_, .f32⟩
  | 77 => ⟨S4x4352x8x128, .f32⟩
  | 78 => ⟨S_, .i32⟩
  | 79 => ⟨S_, .f32⟩
  | 80 => ⟨S4x4352x8x128, .f32⟩
  | 81 => ⟨S_, .i1⟩
  | 82 => ⟨S256x256, .i1⟩
  | 83 => ⟨S256x256, .i32⟩
  | 84 => ⟨S_, .i32⟩
  | 85 => ⟨S256x256, .i32⟩
  | 86 => ⟨S256x256, .i32⟩
  | 87 => ⟨S256x256, .i32⟩
  | 88 => ⟨S256x256, .i1⟩
  | 89 => ⟨S_, .i1⟩
  | 90 => ⟨S256x256, .i1⟩
  | 91 => ⟨S256x256, .i1⟩
  | 92 => ⟨S1x256x256x1x1, .i1⟩
  | 93 => ⟨S_, .f32⟩
  | 94 => ⟨S4x8x8x64x128, .f32⟩
  | 95 => ⟨S4x17x256x8x8x64, .f32⟩
  | 96 => ⟨S17x4x256x8x8x64, .f32⟩
  | 97 => ⟨S4x17x256x8x8, .f32⟩
  | 98 => ⟨S17x4x256x8x8, .f32⟩
  | 99 => ⟨S4x17x256x8x128, .f32⟩
  | 100 => ⟨S17x4x256x8x128, .f32⟩
  | 101 => ⟨S4x17x256x8x128, .f32⟩
  | 102 => ⟨S17x4x256x8x128, .f32⟩
  | 103 => ⟨S_, .f32⟩
  | 104 => ⟨S17x4x256x8x8x64, .f32⟩
  | 105 => ⟨S_, .i32⟩
  | 106 => ⟨S17x4x256x8x8x64, .f32⟩
  | 107 => ⟨S17x4x256x8x8, .f32⟩
  | 108 => ⟨S17x4x256x8x128, .f32⟩
  | 109 => ⟨S17x4x256x8x128, .f32⟩
  | 110 => ⟨S1x256x256x1x1, .i1⟩
  | 111 => ⟨S_, .i32⟩
  | 112 => ⟨S4x8x8x64x128, .f32⟩
  | 113 => ⟨S17x4x256x8x8x64, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S1x4x256x8x8x64, .f32⟩
  | 122 => ⟨S4x256x8x8x64, .f32⟩
  | 123 => ⟨S_, .i32⟩
  | 124 => ⟨S_, .i32⟩
  | 125 => ⟨S_, .i32⟩
  | 126 => ⟨S_, .i32⟩
  | 127 => ⟨S1x4x256x8x8, .f32⟩
  | _ => ⟨S17408x16384, .bf16⟩

abbrev hbmTy0_1 (i : Nat) : BufTy := match i % 128 with
  | 0 => ⟨S4x256x8x8, .f32⟩
  | 1 => ⟨S_, .i32⟩
  | 2 => ⟨S_, .i32⟩
  | 3 => ⟨S_, .i32⟩
  | 4 => ⟨S_, .i32⟩
  | 5 => ⟨S1x4x256x8x128, .f32⟩
  | 6 => ⟨S4x256x8x128, .f32⟩
  | 7 => ⟨S_, .i32⟩
  | 8 => ⟨S_, .i32⟩
  | 9 => ⟨S_, .i32⟩
  | 10 => ⟨S_, .i32⟩
  | 11 => ⟨S1x4x256x8x128, .f32⟩
  | 12 => ⟨S4x256x8x128, .f32⟩
  | 13 => ⟨S4x256x1x8x8, .f32⟩
  | 14 => ⟨S4x1x256x8x8, .f32⟩
  | 15 => ⟨S4x256x256x8x8, .f32⟩
  | 16 => ⟨S4x256x256x8x8, .f32⟩
  | 17 => ⟨S4x256x256x8x8, .f32⟩
  | 18 => ⟨S_, .f32⟩
  | 19 => ⟨S_, .f32⟩
  | 20 => ⟨S4x256x256x8x8, .i1⟩
  | 21 => ⟨S4x256x256x8x8, .f32⟩
  | 22 => ⟨S4x256x256x8x8, .f32⟩
  | 23 => ⟨S4x256x256x8x8, .f32⟩
  | 24 => ⟨S4x8x256x256, .f32⟩
  | 25 => ⟨S4x256x256x8, .f32⟩
  | 26 => ⟨S4x256x256x8x1, .f32⟩
  | 27 => ⟨S4x256x256x8x8, .f32⟩
  | 28 => ⟨S4x256x256x8x8, .f32⟩
  | 29 => ⟨S4x8x8x64x256, .f32⟩
  | 30 => ⟨S4x256x8x8x64, .f32⟩
  | 31 => ⟨S4x8x8x64x256, .f32⟩
  | 32 => ⟨S4x256x8x8x64, .f32⟩
  | 33 => ⟨S4x256x8x8, .f32⟩
  | 34 => ⟨S4x256x8x8x1, .f32⟩
  | 35 => ⟨S4x256x8x8x64, .f32⟩
  | 36 => ⟨S4x256x8x8x64, .f32⟩
  | 37 => ⟨S4x1x8x8, .f32⟩
  | 38 => ⟨S4x8x8, .f32⟩
  | 39 => ⟨S4x1x8x8, .f32⟩
  | 40 => ⟨S4x256x8x8, .f32⟩
  | 41 => ⟨S4x256x8x8, .f32⟩
  | 42 => ⟨S4x256x8x8, .f32⟩
  | 43 => ⟨S4x8x8, .f32⟩
  | 44 => ⟨S4x8x8x1x1, .f32⟩
  | 45 => ⟨S4x8x8x64x128, .f32⟩
  | 46 => ⟨S4x8x8x64x128, .f32⟩
  | 47 => ⟨S4x256x8x8x1, .f32⟩
  | 48 => ⟨S4x256x8x8x64, .f32⟩
  | 49 => ⟨S4x256x8x8x64, .f32⟩
  | 50 => ⟨S4x8x8x64x128, .f32⟩
  | 51 => ⟨S4x8x8x64x128, .f32⟩
  | 52 => ⟨S4x256x8x8x64, .f32⟩
  | 53 => ⟨S1x4x256x8x8x64, .f32⟩
  | 54 => ⟨S_, .i32⟩
  | 55 => ⟨S_, .i32⟩
  | 56 => ⟨S_, .i32⟩
  | 57 => ⟨S_, .i32⟩
  | 58 => ⟨S_, .i32⟩
  | 59 => ⟨S17x4x256x8x8x64, .f32⟩
  | 60 => ⟨S_, .i32⟩
  | 61 => ⟨S_, .i32⟩
  | 62 => ⟨S4x17x256x8x8x64, .f32⟩
  | 63 => ⟨S4x4352x8x8x64, .f32⟩
  | 64 => ⟨S4x4112x8x8x64, .f32⟩
  | 65 => ⟨S8x8, .f32⟩
  | 66 => ⟨S8x8x1, .f32⟩
  | 67 => ⟨S1x1x8x8x1, .f32⟩
  | 68 => ⟨S4x4112x8x8x64, .f32⟩
  | 69 => ⟨S4x4112x8x8x64, .f32⟩
  | 70 => ⟨S4x4112x8x8x64, .f32⟩
  | 71 => ⟨S4x4112x4096, .f32⟩
  | 72 => ⟨S4x4112x4096, .f32⟩
  | 73 => ⟨S4x4112x4096, .f32⟩
  | 74 => ⟨S_, .f32⟩
  | 75 => ⟨S4x4112x4096, .f32⟩
  | 76 => ⟨S4x4112x4096, .f32⟩
  | 77 => ⟨S_, .f32⟩
  | 78 => ⟨S4x4112x4096, .f32⟩
  | 79 => ⟨S4x4112x4096, .f32⟩
  | 80 => ⟨S4x4112x4096, .f32⟩
  | 81 => ⟨S4x4112x4096, .f32⟩
  | 82 => ⟨S4x4112x8x512, .f32⟩
  | 83 => ⟨S4x4112x8x512, .f32⟩
  | 84 => ⟨S_, .f32⟩
  | 85 => ⟨S4x4112x8, .f32⟩
  | 86 => ⟨S4x4112x8x1, .f32⟩
  | 87 => ⟨S_, .f32⟩
  | 88 => ⟨S4x4112x8x1, .f32⟩
  | 89 => ⟨S4x4112x8x1, .f32⟩
  | 90 => ⟨S_, .f32⟩
  | 91 => ⟨S4x4112x8x1, .f32⟩
  | 92 => ⟨S4x4112x8x1, .f32⟩
  | 93 => ⟨S4x4112x8x1, .f32⟩
  | 94 => ⟨S4x4112x8x512, .f32⟩
  | 95 => ⟨S4x4112x8x512, .f32⟩
  | 96 => ⟨S4x4112x4096, .f32⟩
  | 97 => ⟨S1x1x4096, .f32⟩
  | 98 => ⟨S4x4112x4096, .f32⟩
  | 99 => ⟨S4x4112x4096, .f32⟩
  | 100 => ⟨S_, .i32⟩
  | 101 => ⟨S_, .f32⟩
  | 102 => ⟨S4x4352x4096, .f32⟩
  | 103 => ⟨S17408x4096, .f32⟩
  | 104 => ⟨S17408x4096, .bf16⟩
  | _ => ⟨S17408x16384, .bf16⟩

abbrev hbmTy (i : Nat) : BufTy := match i / 128 with
  | 0 => hbmTy0_0 i
  | 1 => hbmTy0_1 i
  | _ => ⟨S17408x16384, .bf16⟩

abbrev bufTy : (tb : Table) → Fin (tcTables nBuf tb) → BufTy
  | .hbm, ⟨i, _⟩ => hbmTy i
  | _, _ => ⟨S17408x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_0 : Ref sig .tc := ⟨.hbm, 72, rfl⟩
abbrev main_call2_v0 : Ref sig .tc := ⟨.hbm, 73, rfl⟩
abbrev main_v54 : Ref sig .tc := ⟨.hbm, 74, rfl⟩
abbrev main_c_1 : Ref sig .tc := ⟨.hbm, 75, rfl⟩
abbrev main_call3_v0 : Ref sig .tc := ⟨.hbm, 76, rfl⟩
abbrev main_v55 : Ref sig .tc := ⟨.hbm, 77, rfl⟩
abbrev main_c_2 : Ref sig .tc := ⟨.hbm, 78, rfl⟩
abbrev main_call4_v0 : Ref sig .tc := ⟨.hbm, 79, rfl⟩
abbrev main_v56 : Ref sig .tc := ⟨.hbm, 80, rfl⟩
abbrev main_c_3 : Ref sig .tc := ⟨.hbm, 81, rfl⟩
abbrev main_v57 : Ref sig .tc := ⟨.hbm, 82, rfl⟩
abbrev main_call5_v0 : Ref sig .tc := ⟨.hbm, 83, rfl⟩
abbrev main_call5_c : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_call5_c_0 : Ref sig .tc := ⟨.hbm, 89, rfl⟩
abbrev main_call5_v5 : Ref sig .tc := ⟨.hbm, 90, rfl⟩
abbrev main_v58 : Ref sig .tc := ⟨.hbm, 91, rfl⟩
abbrev main_v59 : Ref sig .tc := ⟨.hbm, 92, rfl⟩
abbrev main_cst_4 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_5 : Ref sig .tc := ⟨.hbm, 103, rfl⟩
abbrev main_v69 : Ref sig .tc := ⟨.hbm, 104, rfl⟩
abbrev main_c_6 : Ref sig .tc := ⟨.hbm, 105, rfl⟩
abbrev main_v70_0 : Ref sig .tc := ⟨.hbm, 106, rfl⟩
abbrev main_v70_1 : Ref sig .tc := ⟨.hbm, 107, rfl⟩
abbrev main_v70_2 : Ref sig .tc := ⟨.hbm, 108, rfl⟩
abbrev main_v70_3 : Ref sig .tc := ⟨.hbm, 109, rfl⟩
abbrev main_v70_4 : Ref sig .tc := ⟨.hbm, 110, rfl⟩
abbrev main_v70_5 : Ref sig .tc := ⟨.hbm, 111, rfl⟩
abbrev main_v70_6 : Ref sig .tc := ⟨.hbm, 112, rfl⟩
abbrev main_v70_7 : Ref sig .tc := ⟨.hbm, 113, rfl⟩
abbrev main_while0c_c_18 : Ref sig .tc := ⟨.hbm, 114, rfl⟩
abbrev main_while0c_v101 : Ref sig .tc := ⟨.hbm, 115, rfl⟩
abbrev main_while0b_call6_c : Ref sig .tc := ⟨.hbm, 116, rfl⟩
abbrev main_while0b_call6_c_0 : Ref sig .tc := ⟨.hbm, 117, rfl⟩
abbrev main_while0b_call6_c_1 : Ref sig .tc := ⟨.hbm, 118, rfl⟩
abbrev main_while0b_call6_c_2 : Ref sig .tc := ⟨.hbm, 119, rfl⟩
abbrev main_while0b_call6_c_3 : Ref sig .tc := ⟨.hbm, 120, rfl⟩
abbrev main_while0b_call6_v0 : Ref sig .tc := ⟨.hbm, 121, rfl⟩
abbrev main_while0b_v101 : Ref sig .tc := ⟨.hbm, 122, rfl⟩
abbrev main_while0b_call7_c : Ref sig .tc := ⟨.hbm, 123, rfl⟩
abbrev main_while0b_call7_c_0 : Ref sig .tc := ⟨.hbm, 124, rfl⟩
abbrev main_while0b_call7_c_1 : Ref sig .tc := ⟨.hbm, 125, rfl⟩
abbrev main_while0b_call7_c_2 : Ref sig .tc := ⟨.hbm, 126, rfl⟩
abbrev main_while0b_call7_v0 : Ref sig .tc := ⟨.hbm, 127, rfl⟩
abbrev main_while0b_v102 : Ref sig .tc := ⟨.hbm, 128, rfl⟩
abbrev main_while0b_call8_c : Ref sig .tc := ⟨.hbm, 129, rfl⟩
abbrev main_while0b_call8_c_0 : Ref sig .tc := ⟨.hbm, 130, rfl⟩
abbrev main_while0b_call8_c_1 : Ref sig .tc := ⟨.hbm, 131, rfl⟩
abbrev main_while0b_call8_c_2 : Ref sig .tc := ⟨.hbm, 132, rfl⟩
abbrev main_while0b_call8_v0 : Ref sig .tc := ⟨.hbm, 133, rfl⟩
abbrev main_while0b_v103 : Ref sig .tc := ⟨.hbm, 134, rfl⟩
abbrev main_while0b_call9_c : Ref sig .tc := ⟨.hbm, 135, rfl⟩
abbrev main_while0b_call9_c_0 : Ref sig .tc := ⟨.hbm, 136, rfl⟩
abbrev main_while0b_call9_c_1 : Ref sig .tc := ⟨.hbm, 137, rfl⟩
abbrev main_while0b_call9_c_2 : Ref sig .tc := ⟨.hbm, 138, rfl⟩
abbrev main_while0b_call9_v0 : Ref sig .tc := ⟨.hbm, 139, rfl⟩
abbrev main_while0b_v104 : Ref sig .tc := ⟨.hbm, 140, rfl⟩
abbrev main_while0b_v105 : Ref sig .tc := ⟨.hbm, 141, rfl⟩
abbrev main_while0b_v106 : Ref sig .tc := ⟨.hbm, 142, rfl⟩
abbrev main_while0b_v107 : Ref sig .tc := ⟨.hbm, 143, rfl⟩
abbrev main_while0b_v108 : Ref sig .tc := ⟨.hbm, 144, rfl⟩
abbrev main_while0b_v109 : Ref sig .tc := ⟨.hbm, 145, rfl⟩
abbrev main_while0b_cst_18 : Ref sig .tc := ⟨.hbm, 146, rfl⟩
abbrev main_while0b_call10_v0 : Ref sig .tc := ⟨.hbm, 147, rfl⟩
abbrev main_while0b_call10_v1 : Ref sig .tc := ⟨.hbm, 148, rfl⟩
abbrev main_while0b_call10_v2 : Ref sig .tc := ⟨.hbm, 149, rfl⟩
abbrev main_while0b_v110 : Ref sig .tc := ⟨.hbm, 150, rfl⟩
abbrev main_while0b_v111 : Ref sig .tc := ⟨.hbm, 151, rfl⟩
abbrev main_while0b_v112 : Ref sig .tc := ⟨.hbm, 152, rfl⟩
abbrev main_while0b_v113 : Ref sig .tc := ⟨.hbm, 153, rfl⟩
abbrev main_while0b_v114 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_v119 : Ref sig .tc := ⟨.hbm, 159, rfl⟩
abbrev main_while0b_v120 : Ref sig .tc := ⟨.hbm, 160, rfl⟩
abbrev main_while0b_v121 : Ref sig .tc := ⟨.hbm, 161, rfl⟩
abbrev main_while0b_v122 : Ref sig .tc := ⟨.hbm, 162, rfl⟩
abbrev main_while0b_v123 : Ref sig .tc := ⟨.hbm, 163, rfl⟩
abbrev main_while0b_v124 : Ref sig .tc := ⟨.hbm, 164, rfl⟩
abbrev main_while0b_v125 : Ref sig .tc := ⟨.hbm, 165, rfl⟩
abbrev main_while0b_v126 : Ref sig .tc := ⟨.hbm, 166, rfl⟩
abbrev main_while0b_v127 : Ref sig .tc := ⟨.hbm, 167, rfl⟩
abbrev main_while0b_v128 : Ref sig .tc := ⟨.hbm, 168, rfl⟩
abbrev main_while0b_v129 : Ref sig .tc := ⟨.hbm, 169, rfl⟩
abbrev main_while0b_v130 : Ref sig .tc := ⟨.hbm, 170, rfl⟩
abbrev main_while0b_v131 : Ref sig .tc := ⟨.hbm, 171, rfl⟩
abbrev main_while0b_v132 : Ref sig .tc := ⟨.hbm, 172, rfl⟩
abbrev main_while0b_v133 : Ref sig .tc := ⟨.hbm, 173, rfl⟩
abbrev main_while0b_v134 : Ref sig .tc := ⟨.hbm, 174, rfl⟩
abbrev main_while0b_v135 : Ref sig .tc := ⟨.hbm, 175, rfl⟩
abbrev main_while0b_v136 : Ref sig .tc := ⟨.hbm, 176, rfl⟩
abbrev main_while0b_v137 : Ref sig .tc := ⟨.hbm, 177, rfl⟩
abbrev main_while0b_v138 : Ref sig .tc := ⟨.hbm, 178, rfl⟩
abbrev main_while0b_v139 : Ref sig .tc := ⟨.hbm, 179, rfl⟩
abbrev main_while0b_v140 : Ref sig .tc := ⟨.hbm, 180, rfl⟩
abbrev main_while0b_call11_v0 : Ref sig .tc := ⟨.hbm, 181, rfl⟩
abbrev main_while0b_call11_c : Ref sig .tc := ⟨.hbm, 182, rfl⟩
abbrev main_while0b_call11_c_0 : Ref sig .tc := ⟨.hbm, 183, rfl⟩
abbrev main_while0b_call11_c_1 : Ref sig .tc := ⟨.hbm, 184, rfl⟩
abbrev main_while0b_call11_c_2 : Ref sig .tc := ⟨.hbm, 185, rfl⟩
abbrev main_while0b_call11_c_3 : Ref sig .tc := ⟨.hbm, 186, rfl⟩
abbrev main_while0b_v141 : Ref sig .tc := ⟨.hbm, 187, rfl⟩
abbrev main_while0b_c_19 : Ref sig .tc := ⟨.hbm, 188, rfl⟩
abbrev main_while0b_v142 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_call12_v0 : Ref sig .tc := ⟨.hbm, 200, rfl⟩
abbrev main_call12_v1 : Ref sig .tc := ⟨.hbm, 201, rfl⟩
abbrev main_call12_cst : Ref sig .tc := ⟨.hbm, 202, rfl⟩
abbrev main_call12_v2 : Ref sig .tc := ⟨.hbm, 203, rfl⟩
abbrev main_call12_v3 : Ref sig .tc := ⟨.hbm, 204, rfl⟩
abbrev main_call12_cst_0 : Ref sig .tc := ⟨.hbm, 205, rfl⟩
abbrev main_call12_v4 : Ref sig .tc := ⟨.hbm, 206, rfl⟩
abbrev main_call12_v5 : Ref sig .tc := ⟨.hbm, 207, rfl⟩
abbrev main_v81 : Ref sig .tc := ⟨.hbm, 208, rfl⟩
abbrev main_v82 : Ref sig .tc := ⟨.hbm, 209, rfl⟩
abbrev main_v83 : Ref sig .tc := ⟨.hbm, 210, rfl⟩
abbrev main_v84 : Ref sig .tc := ⟨.hbm, 211, rfl⟩
abbrev main_cst_7 : Ref sig .tc := ⟨.hbm, 212, rfl⟩
abbrev main_v85 : Ref sig .tc := ⟨.hbm, 213, rfl⟩
abbrev main_v86 : Ref sig .tc := ⟨.hbm, 214, rfl⟩
abbrev main_cst_8 : Ref sig .tc := ⟨.hbm, 215, rfl⟩
abbrev main_v87 : Ref sig .tc := ⟨.hbm, 216, rfl⟩
abbrev main_v88 : Ref sig .tc := ⟨.hbm, 217, rfl⟩
abbrev main_cst_9 : Ref sig .tc := ⟨.hbm, 218, rfl⟩
abbrev main_v89 : Ref sig .tc := ⟨.hbm, 219, rfl⟩
abbrev main_v90 : Ref sig .tc := ⟨.hbm, 220, rfl⟩
abbrev main_v91 : Ref sig .tc := ⟨.hbm, 221, rfl⟩
abbrev main_v92 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_c_10 : Ref sig .tc := ⟨.hbm, 228, rfl⟩
abbrev main_call13_v0 : Ref sig .tc := ⟨.hbm, 229, rfl⟩
abbrev main_v98 : Ref sig .tc := ⟨.hbm, 230, rfl⟩
abbrev main_v99 : Ref sig .tc := ⟨.hbm, 231, rfl⟩
abbrev main_v100 : Ref sig .tc := ⟨.hbm, 232, rfl⟩

abbrev nD : Nat := 1
abbrev τ : Topo := Topo.v7x

variable {F : FTy → Type} [FloatOps F]

abbrev main_while0_count : Scf.Loop 32 := ⟨0#32, 17#32, 1#32⟩
-- ==== Kernel2.lean ====
abbrev S17408x2048 : Shape := ⟨2, ![17408, 2048]⟩
abbrev S2048x20544 : Shape := ⟨2, ![2048, 20544]⟩
abbrev S17408x16384 : Shape := ⟨2, ![17408, 16384]⟩
abbrev S1024x2048 : Shape := ⟨2, ![1024, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x20544, .f32⟩
  | .hbm, ⟨2, _⟩ => ⟨S2048x20544, .bf16⟩
  | .hbm, ⟨3, _⟩ => ⟨S17408x16384, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S17408x2048 : Shape := ⟨2, ![17408, 2048]⟩
abbrev S2048x20544 : Shape := ⟨2, ![2048, 20544]⟩
abbrev S2048x16384 : Shape := ⟨2, ![2048, 16384]⟩
abbrev S17408x16384 : Shape := ⟨2, ![17408, 16384]⟩

abbrev nBuf : Space → Nat
  | .hbm => 6
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x20544, .f32⟩
  | .hbm, ⟨2, _⟩ => ⟨S17408x2048, .f32⟩
  | .hbm, ⟨3, _⟩ => ⟨S2048x16384, .f32⟩
  | .hbm, ⟨4, _⟩ => ⟨S17408x16384, .f32⟩
  | .hbm, ⟨5, _⟩ => ⟨S17408x16384, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S72 : Shape := ⟨1, ![72]⟩
abbrev S1 : Shape := ⟨1, ![1]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 5
  | .vmem => 11
  | .smem => 2
  | _ => 0

abbrev bufTy : (tb : Table) → Fin (tcTables nBuf tb) → BufTy
  | .hbm, ⟨0, _⟩ => ⟨S36864x2048, .bf16⟩
  | .hbm, ⟨1, _⟩ => ⟨S8x2048x7168, .bf16⟩
  | .hbm, ⟨2, _⟩ => ⟨S8x2048x7168, .bf16⟩
  | .hbm, ⟨3, _⟩ => ⟨S8x7168x2048, .bf16⟩
  | .hbm, ⟨4, _⟩ => ⟨S36864x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .smem, ⟨0, _⟩ => ⟨S72, .i32⟩
  | .local _ .smem, ⟨1, _⟩ => ⟨S1, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c6_i32 : BitVec 32 := 6#32
  let v8 : BitVec 1 := Scalar.cmpi .eq arg1 c6_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c0_i32_3 : BitVec 32 := 0#32
  let v13 : BitVec 1 := Scalar.cmpi .eq arg1 c0_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S72 : Shape := ⟨1, ![72]⟩
abbrev S1 : Shape := ⟨1, ![1]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S_ : Shape := ⟨0, ![]⟩
abbrev S72x512 : Shape := ⟨2, ![72, 512]⟩
abbrev S36864 : Shape := ⟨1, ![36864]⟩
abbrev S36864x1 : Shape := ⟨2, ![36864, 1]⟩
abbrev S1x2048x7168 : Shape := ⟨3, ![1, 2048, 7168]⟩
abbrev S2048x7168 : Shape := ⟨2, ![2048, 7168]⟩
abbrev S1x7168x2048 : Shape := ⟨3, ![1, 7168, 2048]⟩
abbrev S7168x2048 : Shape := ⟨2, ![7168, 2048]⟩
abbrev S36864x7168 : Shape := ⟨2, ![36864, 7168]⟩

abbrev nBuf : Space → Nat
  | .hbm => 317
  | .vmem => 0
  | .smem => 0
  | _ => 0

abbrev hbmTy0_0 (i : Nat) : BufTy := match i % 128 with
  | 0 => ⟨S72, .i32⟩
  | 1 => ⟨S1, .i32⟩
  | 2 => ⟨S36864x2048, .bf16⟩
  | 3 => ⟨S8x2048x7168, .bf16⟩
  | 4 => ⟨S8x2048x7168, .bf16⟩
  | 5 => ⟨S8x7168x2048, .bf16⟩
  | 6 => ⟨S36864x2048, .f32⟩
  | 7 => ⟨S8x2048x7168, .f32⟩
  | 8 => ⟨S8x2048x7168, .f32⟩
  | 9 => ⟨S8x7168x2048, .f32⟩
  | 10 => ⟨S72, .i32⟩
  | 11 => ⟨S_, .f32⟩
  | 12 => ⟨S36864x2048, .f32⟩
  | 13 => ⟨S_, .i32⟩
  | 14 => ⟨S72, .i32⟩
  | 15 => ⟨S72, .i1⟩
  | 16 => ⟨S_, .i32⟩
  | 17 => ⟨S72, .i32⟩
  | 18 => ⟨S72, .i1⟩
  | 19 => ⟨S72, .i1⟩
  | 20 => ⟨S_, .f32⟩
  | 21 => ⟨S_, .f32⟩
  | 22 => ⟨S72, .f32⟩
  | 23 => ⟨S72, .f32⟩
  | 24 => ⟨S72, .f32⟩
  | 25 => ⟨S72, .f32⟩
  | 26 => ⟨S72x512, .f32⟩
  | 27 => ⟨S36864, .f32⟩
  | 28 => ⟨S36864x1, .f32⟩
  | 29 => ⟨S1x2048x7168, .f32⟩
  | 30 => ⟨S2048x7168, .f32⟩
  | 31 => ⟨S1x2048x7168, .f32⟩
  | 32 => ⟨S2048x7168, .f32⟩
  | 33 => ⟨S1x7168x2048, .f32⟩
  | 34 => ⟨S7168x2048, .f32⟩
  | 35 => ⟨S36864x7168, .f32⟩
  | 36 => ⟨S36864x7168, .f32⟩
  | 37 => ⟨S36864x7168, .f32⟩
  | 38 => ⟨S_, .f32⟩
  | 39 => ⟨S36864x7168, .f32⟩
  | 40 => ⟨S36864x7168, .f32⟩
  | 41 => ⟨S_, .f32⟩
  | 42 => ⟨S36864x7168, .f32⟩
  | 43 => ⟨S36864x7168, .f32⟩
  | 44 => ⟨S36864x7168, .f32⟩
  | 45 => ⟨S36864x7168, .f32⟩
  | 46 => ⟨S36864x7168, .f32⟩
  | 47 => ⟨S36864x2048, .f32⟩
  | 48 => ⟨S36864x2048, .f32⟩
  | 49 => ⟨S36864x2048, .f32⟩
  | 50 => ⟨S36864x2048, .f32⟩
  | 51 => ⟨S_, .i32⟩
  | 52 => ⟨S72, .i32⟩
  | 53 => ⟨S72, .i1⟩
  | 54 => ⟨S_, .i32⟩
  | 55 => ⟨S72, .i32⟩
  | 56 => ⟨S72, .i1⟩
  | 57 => ⟨S72, .i1⟩
  | 58 => ⟨S_, .f32⟩
  | 59 => ⟨S_, .f32⟩
  | 60 => ⟨S72, .f32⟩
  | 61 => ⟨S72, .f32⟩
  | 62 => ⟨S72, .f32⟩
  | 63 => ⟨S72, .f32⟩
  | 64 => ⟨S72x512, .f32⟩
  | 65 => ⟨S36864, .f32⟩
  | 66 => ⟨S36864x1, .f32⟩
  | 67 => ⟨S1x2048x7168, .f32⟩
  | 68 => ⟨S2048x7168, .f32⟩
  | 69 => ⟨S1x2048x7168, .f32⟩
  | 70 => ⟨S2048x7168, .f32⟩
  | 71 => ⟨S1x7168x2048, .f32⟩
  | 72 => ⟨S7168x2048, .f32⟩
  | 73 => ⟨S36864x7168, .f32⟩
  | 74 => ⟨S36864x7168, .f32⟩
  | 75 => ⟨S36864x7168, .f32⟩
  | 76 => ⟨S_, .f32⟩
  | 77 => ⟨S36864x7168, .f32⟩
  | 78 => ⟨S36864x7168, .f32⟩
  | 79 => ⟨S_, .f32⟩
  | 80 => ⟨S36864x7168, .f32⟩
  | 81 => ⟨S36864x7168, .f32⟩
  | 82 => ⟨S36864x7168, .f32⟩
  | 83 => ⟨S36864x7168, .f32⟩
  | 84 => ⟨S36864x7168, .f32⟩
  | 85 => ⟨S36864x2048, .f32⟩
  | 86 => ⟨S36864x2048, .f32⟩
  | 87 => ⟨S36864x2048, .f32⟩
  | 88 => ⟨S36864x2048, .f32⟩
  | 89 => ⟨S_, .i32⟩
  | 90 => ⟨S72, .i32⟩
  | 91 => ⟨S72, .i1⟩
  | 92 => ⟨S_, .i32⟩
  | 93 => ⟨S72, .i32⟩
  | 94 => ⟨S72, .i1⟩
  | 95 => ⟨S72, .i1⟩
  | 96 => ⟨S_, .f32⟩
  | 97 => ⟨S_, .f32⟩
  | 98 => ⟨S72, .f32⟩
  | 99 => ⟨S72, .f32⟩
  | 100 => ⟨S72, .f32⟩
  | 101 => ⟨S72, .f32⟩
  | 102 => ⟨S72x512, .f32⟩
  | 103 => ⟨S36864, .f32⟩
  | 104 => ⟨S36864x1, .f32⟩
  | 105 => ⟨S1x2048x7168, .f32⟩
  | 106 => ⟨S2048x7168, .f32⟩
  | 107 => ⟨S1x2048x7168, .f32⟩
  | 108 => ⟨S2048x7168, .f32⟩
  | 109 => ⟨S1x7168x2048, .f32⟩
  | 110 => ⟨S7168x2048, .f32⟩
  | 111 => ⟨S36864x7168, .f32⟩
  | 112 => ⟨S36864x7168, .f32⟩
  | 113 => ⟨S36864x7168, .f32⟩
  | 114 => ⟨S_, .f32⟩
  | 115 => ⟨S36864x7168, .f32⟩
  | 116 => ⟨S36864x7168, .f32⟩
  | 117 => ⟨S_, .f32⟩
  | 118 => ⟨S36864x7168, .f32⟩
  | 119 => ⟨S36864x7168, .f32⟩
  | 120 => ⟨S36864x7168, .f32⟩
  | 121 => ⟨S36864x7168, .f32⟩
  | 122 => ⟨S36864x7168, .f32⟩
  | 123 => ⟨S36864x2048, .f32⟩
  | 124 => ⟨S36864x2048, .f32⟩
  | 125 => ⟨S36864x2048, .f32⟩
  | 126 => ⟨S36864x2048, .f32⟩
  | 127 => ⟨S_, .i32⟩
  | _ => ⟨S72, .i32⟩

abbrev hbmTy0_1 (i : Nat) : BufTy := match i % 128 with
  | 0 => ⟨S72, .i32⟩
  | 1 => ⟨S72, .i1⟩
  | 2 => ⟨S_, .i32⟩
  | 3 => ⟨S72, .i32⟩
  | 4 => ⟨S72, .i1⟩
  | 5 => ⟨S72, .i1⟩
  | 6 => ⟨S_, .f32⟩
  | 7 => ⟨S_, .f32⟩
  | 8 => ⟨S72, .f32⟩
  | 9 => ⟨S72, .f32⟩
  | 10 => ⟨S72, .f32⟩
  | 11 => ⟨S72, .f32⟩
  | 12 => ⟨S72x512, .f32⟩
  | 13 => ⟨S36864, .f32⟩
  | 14 => ⟨S36864x1, .f32⟩
  | 15 => ⟨S1x2048x7168, .f32⟩
  | 16 => ⟨S2048x7168, .f32⟩
  | 17 => ⟨S1x2048x7168, .f32⟩
  | 18 => ⟨S2048x7168, .f32⟩
  | 19 => ⟨S1x7168x2048, .f32⟩
  | 20 => ⟨S7168x2048, .f32⟩
  | 21 => ⟨S36864x7168, .f32⟩
  | 22 => ⟨S36864x7168, .f32⟩
  | 23 => ⟨S36864x7168, .f32⟩
  | 24 => ⟨S_, .f32⟩
  | 25 => ⟨S36864x7168, .f32⟩
  | 26 => ⟨S36864x7168, .f32⟩
  | 27 => ⟨S_, .f32⟩
  | 28 => ⟨S36864x7168, .f32⟩
  | 29 => ⟨S36864x7168, .f32⟩
  | 30 => ⟨S36864x7168, .f32⟩
  | 31 => ⟨S36864x7168, .f32⟩
  | 32 => ⟨S36864x7168, .f32⟩
  | 33 => ⟨S36864x2048, .f32⟩
  | 34 => ⟨S36864x2048, .f32⟩
  | 35 => ⟨S36864x2048, .f32⟩
  | 36 => ⟨S36864x2048, .f32⟩
  | 37 => ⟨S_, .i32⟩
  | 38 => ⟨S72, .i32⟩
  | 39 => ⟨S72, .i1⟩
  | 40 => ⟨S_, .i32⟩
  | 41 => ⟨S72, .i32⟩
  | 42 => ⟨S72, .i1⟩
  | 43 => ⟨S72, .i1⟩
  | 44 => ⟨S_, .f32⟩
  | 45 => ⟨S_, .f32⟩
  | 46 => ⟨S72, .f32⟩
  | 47 => ⟨S72, .f32⟩
  | 48 => ⟨S72, .f32⟩
  | 49 => ⟨S72, .f32⟩
  | 50 => ⟨S72x512, .f32⟩
  | 51 => ⟨S36864, .f32⟩
  | 52 => ⟨S36864x1, .f32⟩
  | 53 => ⟨S1x2048x7168, .f32⟩
  | 54 => ⟨S2048x7168, .f32⟩
  | 55 => ⟨S1x2048x7168, .f32⟩
  | 56 => ⟨S2048x7168, .f32⟩
  | 57 => ⟨S1x7168x2048, .f32⟩
  | 58 => ⟨S7168x2048, .f32⟩
  | 59 => ⟨S36864x7168, .f32⟩
  | 60 => ⟨S36864x7168, .f32⟩
  | 61 => ⟨S36864x7168, .f32⟩
  | 62 => ⟨S_, .f32⟩
  | 63 => ⟨S36864x7168, .f32⟩
  | 64 => ⟨S36864x7168, .f32⟩
  | 65 => ⟨S_, .f32⟩
  | 66 => ⟨S36864x7168, .f32⟩
  | 67 => ⟨S36864x7168, .f32⟩
  | 68 => ⟨S36864x7168, .f32⟩
  | 69 => ⟨S36864x7168, .f32⟩
  | 70 => ⟨S36864x7168, .f32⟩
  | 71 => ⟨S36864x2048, .f32⟩
  | 72 => ⟨S36864x2048, .f32⟩
  | 73 => ⟨S36864x2048, .f32⟩
  | 74 => ⟨S36864x2048, .f32⟩
  | 75 => ⟨S_, .i32⟩
  | 76 => ⟨S72, .i32⟩
  | 77 => ⟨S72, .i1⟩
  | 78 => ⟨S_, .i32⟩
  | 79 => ⟨S72, .i32⟩
  | 80 => ⟨S72, .i1⟩
  | 81 => ⟨S72, .i1⟩
  | 82 => ⟨S_, .f32⟩
  | 83 => ⟨S_, .f32⟩
  | 84 => ⟨S72, .f32⟩
  | 85 => ⟨S72, .f32⟩
  | 86 => ⟨S72, .f32⟩
  | 87 => ⟨S72, .f32⟩
  | 88 => ⟨S72x512, .f32⟩
  | 89 => ⟨S36864, .f32⟩
  | 90 => ⟨S36864x1, .f32⟩
  | 91 => ⟨S1x2048x7168, .f32⟩
  | 92 => ⟨S2048x7168, .f32⟩
  | 93 => ⟨S1x2048x7168, .f32⟩
  | 94 => ⟨S2048x7168, .f32⟩
  | 95 => ⟨S1x7168x2048, .f32⟩
  | 96 => ⟨S7168x2048, .f32⟩
  | 97 => ⟨S36864x7168, .f32⟩
  | 98 => ⟨S36864x7168, .f32⟩
  | 99 => ⟨S36864x7168, .f32⟩
  | 100 => ⟨S_, .f32⟩
  | 101 => ⟨S36864x7168, .f32⟩
  | 102 => ⟨S36864x7168, .f32⟩
  | 103 => ⟨S_, .f32⟩
  | 104 => ⟨S36864x7168, .f32⟩
  | 105 => ⟨S36864x7168, .f32⟩
  | 106 => ⟨S36864x7168, .f32⟩
  | 107 => ⟨S36864x7168, .f32⟩
  | 108 => ⟨S36864x7168, .f32⟩
  | 109 => ⟨S36864x2048, .f32⟩
  | 110 => ⟨S36864x2048, .f32⟩
  | 111 => ⟨S36864x2048, .f32⟩
  | 112 => ⟨S36864x2048, .f32⟩
  | 113 => ⟨S_, .i32⟩
  | 114 => ⟨S72, .i32⟩
  | 115 => ⟨S72, .i1⟩
  | 116 => ⟨S_, .i32⟩
  | 117 => ⟨S72, .i32⟩
  | 118 => ⟨S72, .i1⟩
  | 119 => ⟨S72, .i1⟩
  | 120 => ⟨S_, .f32⟩
  | 121 => ⟨S_, .f32⟩
  | 122 => ⟨S72, .f32⟩
  | 123 => ⟨S72, .f32⟩
  | 124 => ⟨S72, .f32⟩
  | 125 => ⟨S72, .f32⟩
  | 126 => ⟨S72x512, .f32⟩
  | 127 => ⟨S36864, .f32⟩
  | _ => ⟨S72, .i32⟩

abbrev hbmTy0_2 (i : Nat) : BufTy := match i % 128 with
  | 0 => ⟨S36864x1, .f32⟩
  | 1 => ⟨S1x2048x7168, .f32⟩
  | 2 => ⟨S2048x7168, .f32⟩
  | 3 => ⟨S1x2048x7168, .f32⟩
  | 4 => ⟨S2048x7168, .f32⟩
  | 5 => ⟨S1x7168x2048, .f32⟩
  | 6 => ⟨S7168x2048, .f32⟩
  | 7 => ⟨S36864x7168, .f32⟩
  | 8 => ⟨S36864x7168, .f32⟩
  | 9 => ⟨S36864x7168, .f32⟩
  | 10 => ⟨S_, .f32⟩
  | 11 => ⟨S36864x7168, .f32⟩
  | 12 => ⟨S36864x7168, .f32⟩
  | 13 => ⟨S_, .f32⟩
  | 14 => ⟨S36864x7168, .f32⟩
  | 15 => ⟨S36864x7168, .f32⟩
  | 16 => ⟨S36864x7168, .f32⟩
  | 17 => ⟨S36864x7168, .f32⟩
  | 18 => ⟨S36864x7168, .f32⟩
  | 19 => ⟨S36864x2048, .f32⟩
  | 20 => ⟨S36864x2048, .f32⟩
  | 21 => ⟨S36864x2048, .f32⟩
  | 22 => ⟨S36864x2048, .f32⟩
  | 23 => ⟨S_, .i32⟩
  | 24 => ⟨S72, .i32⟩
  | 25 => ⟨S72, .i1⟩
  | 26 => ⟨S_, .i32⟩
  | 27 => ⟨S72, .i32⟩
  | 28 => ⟨S72, .i1⟩
  | 29 => ⟨S72, .i1⟩
  | 30 => ⟨S_, .f32⟩
  | 31 => ⟨S_, .f32⟩
  | 32 => ⟨S72, .f32⟩
  | 33 => ⟨S72, .f32⟩
  | 34 => ⟨S72, .f32⟩
  | 35 => ⟨S72, .f32⟩
  | 36 => ⟨S72x512, .f32⟩
  | 37 => ⟨S36864, .f32⟩
  | 38 => ⟨S36864x1, .f32⟩
  | 39 => ⟨S1x2048x7168, .f32⟩
  | 40 => ⟨S2048x7168, .f32⟩
  | 41 => ⟨S1x2048x7168, .f32⟩
  | 42 => ⟨S2048x7168, .f32⟩
  | 43 => ⟨S1x7168x2048, .f32⟩
  | 44 => ⟨S7168x2048, .f32⟩
  | 45 => ⟨S36864x7168, .f32⟩
  | 46 => ⟨S36864x7168, .f32⟩
  | 47 => ⟨S36864x7168, .f32⟩
  | 48 => ⟨S_, .f32⟩
  | 49 => ⟨S36864x7168, .f32⟩
  | 50 => ⟨S36864x7168, .f32⟩
  | 51 => ⟨S_, .f32⟩
  | 52 => ⟨S36864x7168, .f32⟩
  | 53 => ⟨S36864x7168, .f32⟩
  | 54 => ⟨S36864x7168, .f32⟩
  | 55 => ⟨S36864x7168, .f32⟩
  | 56 => ⟨S36864x7168, .f32⟩
  | 57 => ⟨S36864x2048, .f32⟩
  | 58 => ⟨S36864x2048, .f32⟩
  | 59 => ⟨S36864x2048, .f32⟩
  | 60 => ⟨S36864x2048, .f32⟩
  | _ => ⟨S72, .i32⟩

abbrev hbmTy (i : Nat) : BufTy := match i / 128 with
  | 0 => hbmTy0_0 i
  | 1 => hbmTy0_1 i
  | 2 => hbmTy0_2 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call3_v0 : Ref sig .tc := ⟨.hbm, 74, rfl⟩
abbrev main_call3_v1 : Ref sig .tc := ⟨.hbm, 75, rfl⟩
abbrev main_call3_cst : Ref sig .tc := ⟨.hbm, 76, rfl⟩
abbrev main_call3_v2 : Ref sig .tc := ⟨.hbm, 77, rfl⟩
abbrev main_call3_v3 : Ref sig .tc := ⟨.hbm, 78, rfl⟩
abbrev main_call3_cst_0 : Ref sig .tc := ⟨.hbm, 79, rfl⟩
abbrev main_call3_v4 : Ref sig .tc := ⟨.hbm, 80, rfl⟩
abbrev main_call3_v5 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_5 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_6 : Ref sig .tc := ⟨.hbm, 96, rfl⟩
abbrev main_cst_7 : Ref sig .tc := ⟨.hbm, 97, rfl⟩
abbrev main_call4_v0 : Ref sig .tc := ⟨.hbm, 98, rfl⟩
abbrev main_call4_v1 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_8 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_9 : Ref sig .tc := ⟨.hbm, 134, rfl⟩
abbrev main_cst_10 : Ref sig .tc := ⟨.hbm, 135, rfl⟩
abbrev main_call6_v0 : Ref sig .tc := ⟨.hbm, 136, rfl⟩
abbrev main_call6_v1 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call7_v0 : Ref sig .tc := ⟨.hbm, 150, rfl⟩
abbrev main_call7_v1 : Ref sig .tc := ⟨.hbm, 151, rfl⟩
abbrev main_call7_cst : Ref sig .tc := ⟨.hbm, 152, rfl⟩
abbrev main_call7_v2 : Ref sig .tc := ⟨.hbm, 153, rfl⟩
abbrev main_call7_v3 : Ref sig .tc := ⟨.hbm, 154, rfl⟩
abbrev main_call7_cst_0 : Ref sig .tc := ⟨.hbm, 155, rfl⟩
abbrev main_call7_v4 : Ref sig .tc := ⟨.hbm, 156, rfl⟩
abbrev main_call7_v5 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_c_11 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_cst_12 : Ref sig .tc := ⟨.hbm, 172, rfl⟩
abbrev main_cst_13 : Ref sig .tc := ⟨.hbm, 173, rfl⟩
abbrev main_call8_v0 : Ref sig .tc := ⟨.hbm, 174, rfl⟩
abbrev main_call8_v1 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_call9_v0 : Ref sig .tc := ⟨.hbm, 188, rfl⟩
abbrev main_call9_v1 : Ref sig .tc := ⟨.hbm, 189, rfl⟩
abbrev main_call9_cst : Ref sig .tc := ⟨.hbm, 190, rfl⟩
abbrev main_call9_v2 : Ref sig .tc := ⟨.hbm, 191, rfl⟩
abbrev main_call9_v3 : Ref sig .tc := ⟨.hbm, 192, rfl⟩
abbrev main_call9_cst_0 : Ref sig .tc := ⟨.hbm, 193, rfl⟩
abbrev main_call9_v4 : Ref sig .tc := ⟨.hbm, 194, rfl⟩
abbrev main_call9_v5 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_c_14 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_cst_15 : Ref sig .tc := ⟨.hbm, 210, rfl⟩
abbrev main_cst_16 : Ref sig .tc := ⟨.hbm, 211, rfl⟩
abbrev main_call10_v0 : Ref sig .tc := ⟨.hbm, 212, rfl⟩
abbrev main_call10_v1 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_call11_v0 : Ref sig .tc := ⟨.hbm, 226, rfl⟩
abbrev main_call11_v1 : Ref sig .tc := ⟨.hbm, 227, rfl⟩
abbrev main_call11_cst : Ref sig .tc := ⟨.hbm, 228, rfl⟩
abbrev main_call11_v2 : Ref sig .tc := ⟨.hbm, 229, rfl⟩
abbrev main_call11_v3 : Ref sig .tc := ⟨.hbm, 230, rfl⟩
abbrev main_call11_cst_0 : Ref sig .tc := ⟨.hbm, 231, rfl⟩
abbrev main_call11_v4 : Ref sig .tc := ⟨.hbm, 232, rfl⟩
abbrev main_call11_v5 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_c_17 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_cst_18 : Ref sig .tc := ⟨.hbm, 248, rfl⟩
abbrev main_cst_19 : Ref sig .tc := ⟨.hbm, 249, rfl⟩
abbrev main_call12_v0 : Ref sig .tc := ⟨.hbm, 250, rfl⟩
abbrev main_call12_v1 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_call13_v0 : Ref sig .tc := ⟨.hbm, 264, rfl⟩
abbrev main_call13_v1 : Ref sig .tc := ⟨.hbm, 265, rfl⟩
abbrev main_call13_cst : Ref sig .tc := ⟨.hbm, 266, rfl⟩
abbrev main_call13_v2 : Ref sig .tc := ⟨.hbm, 267, rfl⟩
abbrev main_call13_v3 : Ref sig .tc := ⟨.hbm, 268, rfl⟩
abbrev main_call13_cst_0 : Ref sig .tc := ⟨.hbm, 269, rfl⟩
abbrev main_call13_v4 : Ref sig .tc := ⟨.hbm, 270, rfl⟩
abbrev main_call13_v5 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_c_20 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_cst_21 : Ref sig .tc := ⟨.hbm, 286, rfl⟩
abbrev main_cst_22 : Ref sig .tc := ⟨.hbm, 287, rfl⟩
abbrev main_call14_v0 : Ref sig .tc := ⟨.hbm, 288, rfl⟩
abbrev main_call14_v1 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_call15_v0 : Ref sig .tc := ⟨.hbm, 302, rfl⟩
abbrev main_call15_v1 : Ref sig .tc := ⟨.hbm, 303, rfl⟩
abbrev main_call15_cst : Ref sig .tc := ⟨.hbm, 304, rfl⟩
abbrev main_call15_v2 : Ref sig .tc := ⟨.hbm, 305, rfl⟩
abbrev main_call15_v3 : Ref sig .tc := ⟨.hbm, 306, rfl⟩
abbrev main_call15_cst_0 : Ref sig .tc := ⟨.hbm, 307, rfl⟩
abbrev main_call15_v4 : Ref sig .tc := ⟨.hbm, 308, rfl⟩
abbrev main_call15_v5 : Ref sig .tc := ⟨.hbm, 309, rfl⟩
abbrev main_v199 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_v203 : Ref sig .tc := ⟨.hbm, 314, rfl⟩
abbrev main_v204 : Ref sig .tc := ⟨.hbm, 315, rfl⟩
abbrev main_v205 : Ref sig .tc := ⟨.hbm, 316, rfl⟩

abbrev nD : Nat := 1
abbrev τ : Topo := Topo.v7x

variable {F : FTy → Type} [FloatOps F]
-- ==== Kernel4.lean ====
abbrev S17408x2048 : Shape := ⟨2, ![17408, 2048]⟩
abbrev S2048x20544 : Shape := ⟨2, ![2048, 20544]⟩
abbrev S2048x2176 : Shape := ⟨2, ![2048, 2176]⟩
abbrev S2048x2112 : Shape := ⟨2, ![2048, 2112]⟩
abbrev S_ : Shape := ⟨0, ![]⟩
abbrev S1x2048x2176 : Shape := ⟨3, ![1, 2048, 2176]⟩
abbrev S2x2048x2176 : Shape := ⟨3, ![2, 2048, 2176]⟩
abbrev S2x17408x2176 : Shape := ⟨3, ![2, 17408, 2176]⟩
abbrev S1024x2048 : Shape := ⟨2, ![1024, 2048]⟩
abbrev S1x1024x2176 : Shape := ⟨3, ![1, 1024, 2176]⟩
abbrev S1024x2176 : Shape := ⟨2, ![1024, 2176]⟩

abbrev nBuf : Space → Nat
  | .hbm => 12
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x20544, .f32⟩
  | .hbm, ⟨2, _⟩ => ⟨S2048x20544, .bf16⟩
  | .hbm, ⟨3, _⟩ => ⟨S2048x2176, .bf16⟩
  | .hbm, ⟨4, _⟩ => ⟨S2048x2112, .bf16⟩
  | .hbm, ⟨5, _⟩ => ⟨S_, .i32⟩
  | .hbm, ⟨6, _⟩ => ⟨S_, .bf16⟩
  | .hbm, ⟨7, _⟩ => ⟨S2048x2176, .bf16⟩
  | .hbm, ⟨8, _⟩ => ⟨S1x2048x2176, .bf16⟩
  | .hbm, ⟨9, _⟩ => ⟨S1x2048x2176, .bf16⟩
  | .hbm, ⟨10, _⟩ => ⟨S2x2048x2176, .bf16⟩
  | .hbm, ⟨11, _⟩ => ⟨S2x17408x2176, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2176, .bf16⟩
  | .local _ .vmem, ⟨3, _⟩ => ⟨S1x2048x2176, .bf16⟩
  | .local _ .vmem, ⟨4, _⟩ => ⟨S1x1024x2176, .bf16⟩
  | .local _ .vmem, ⟨5, _⟩ => ⟨S1x1024x2176, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S17408x2048 : Shape := ⟨2, ![17408, 2048]⟩
abbrev S2048x20544 : Shape := ⟨2, ![2048, 20544]⟩
abbrev S2048x4160 : Shape := ⟨2, ![2048, 4160]⟩
abbrev S17408x4160 : Shape := ⟨2, ![17408, 4160]⟩
abbrev S17408x2176 : Shape := ⟨2, ![17408, 2176]⟩
abbrev S17408x2112 : Shape := ⟨2, ![17408, 2112]⟩
abbrev S_ : Shape := ⟨0, ![]⟩
abbrev S1x17408x2176 : Shape := ⟨3, ![1, 17408, 2176]⟩
abbrev S2x17408x2176 : Shape := ⟨3, ![2, 17408, 2176]⟩

abbrev nBuf : Space → Nat
  | .hbm => 14
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x20544, .f32⟩
  | .hbm, ⟨2, _⟩ => ⟨S17408x2048, .f32⟩
  | .hbm, ⟨3, _⟩ => ⟨S2048x4160, .f32⟩
  | .hbm, ⟨4, _⟩ => ⟨S17408x4160, .f32⟩
  | .hbm, ⟨5, _⟩ => ⟨S17408x4160, .bf16⟩
  | .hbm, ⟨6, _⟩ => ⟨S17408x2176, .bf16⟩
  | .hbm, ⟨7, _⟩ => ⟨S17408x2112, .bf16⟩
  | .hbm, ⟨8, _⟩ => ⟨S_, .i32⟩
  | .hbm, ⟨9, _⟩ => ⟨S_, .bf16⟩
  | .hbm, ⟨10, _⟩ => ⟨S17408x2176, .bf16⟩
  | .hbm, ⟨11, _⟩ => ⟨S1x17408x2176, .bf16⟩
  | .hbm, ⟨12, _⟩ => ⟨S1x17408x2176, .bf16⟩
  | .hbm, ⟨13, _⟩ => ⟨S2x17408x2176, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S17408x2048 : Shape := ⟨2, ![17408, 2048]⟩
abbrev S2048x5632 : Shape := ⟨2, ![2048, 5632]⟩
abbrev S17408x5632 : Shape := ⟨2, ![17408, 5632]⟩
abbrev S256x2048 : Shape := ⟨2, ![256, 2048]⟩
abbrev S2048x2816 : Shape := ⟨2, ![2048, 2816]⟩
abbrev S256x2816 : Shape := ⟨2, ![256, 2816]⟩
abbrev S128x2048 : Shape := ⟨2, ![128, 2048]⟩
abbrev S128x2816 : Shape := ⟨2, ![128, 2816]⟩

abbrev nBuf : Space → Nat
  | .hbm => 6
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2048x5632, .bf16⟩
  | .hbm, ⟨5, _⟩ => ⟨S17408x5632, .bf16⟩
  | .local _ .vmem, ⟨0, _⟩ => ⟨S256x2048, .bf16⟩
  | .local _ .vmem, ⟨1, _⟩ => ⟨S256x2048, .bf16⟩
  | .local _ .vmem, ⟨2, _⟩ => ⟨S2048x2816, .bf16⟩
  | .local _ .vmem, ⟨3, _⟩ => ⟨S2048x2816, .bf16⟩
  | .local _ .vmem, ⟨4, _⟩ => ⟨S256x2816, .bf16⟩
  | .local _ .vmem, ⟨5, _⟩ => ⟨S256x2816, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 68], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S17408x2048 : Shape := ⟨2, ![17408, 2048]⟩
abbrev S2048x5632 : Shape := ⟨2, ![2048, 5632]⟩
abbrev S17408x5632 : Shape := ⟨2, ![17408, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x5632, .f32⟩
  | .hbm, ⟨2, _⟩ => ⟨S2048x5632, .f32⟩
  | .hbm, ⟨3, _⟩ => ⟨S17408x2048, .f32⟩
  | .hbm, ⟨4, _⟩ => ⟨S17408x5632, .f32⟩
  | .hbm, ⟨5, _⟩ => ⟨S17408x5632, .f32⟩
  | .hbm, ⟨6, _⟩ => ⟨S17408x5632, .f32⟩
  | .hbm, ⟨7, _⟩ => ⟨S_, .f32⟩
  | .hbm, ⟨8, _⟩ => ⟨S17408x5632, .f32⟩
  | .hbm, ⟨9, _⟩ => ⟨S17408x5632, .f32⟩
  | .hbm, ⟨10, _⟩ => ⟨S_, .f32⟩
  | .hbm, ⟨11, _⟩ => ⟨S17408x5632, .f32⟩
  | .hbm, ⟨12, _⟩ => ⟨S17408x5632, .f32⟩
  | .hbm, ⟨13, _⟩ => ⟨S17408x5632, .f32⟩
  | .hbm, ⟨14, _⟩ => ⟨S17408x5632, .f32⟩
  | .hbm, ⟨15, _⟩ => ⟨S17408x5632, .f32⟩
  | .hbm, ⟨16, _⟩ => ⟨S17408x5632, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel6.lean ====
abbrev S17408x4096 : Shape := ⟨2, ![17408, 4096]⟩
abbrev S4096x2048 : Shape := ⟨2, ![4096, 2048]⟩
abbrev S2x17408x2176 : Shape := ⟨3, ![2, 17408, 2176]⟩
abbrev S4096 : Shape := ⟨1, ![4096]⟩
abbrev S17408x2048 : Shape := ⟨2, ![17408, 2048]⟩
abbrev S2048 : Shape := ⟨1, ![2048]⟩
abbrev S1x2048 : Shape := ⟨2, ![1, 2048]⟩
abbrev S512x4096 : Shape := ⟨2, ![512, 4096]⟩
abbrev S1x512x2176 : Shape := ⟨3, ![1, 512, 2176]⟩
abbrev S512x2048 : Shape := ⟨2, ![512, 2048]⟩
abbrev S128x4096 : Shape := ⟨2, ![128, 4096]⟩
abbrev S128x2048 : Shape := ⟨2, ![128, 2048]⟩
abbrev S1x128x2048 : Shape := ⟨3, ![1, 128, 2048]⟩

abbrev nBuf : Space → Nat
  | .hbm => 9
  | .vmem => 10
  | .smem => 0
  | _ => 0

abbrev bufTy : (tb : Table) → Fin (tcTables nBuf tb) → BufTy
  | .hbm, ⟨0, _⟩ => ⟨S17408x4096, .bf16⟩
  | .hbm, ⟨1, _⟩ => ⟨S4096x2048, .f32⟩
  | .hbm, ⟨2, _⟩ => ⟨S2x17408x2176, .bf16⟩
  | .hbm, ⟨3, _⟩ => ⟨S4096, .f32⟩
  | .hbm, ⟨4, _⟩ => ⟨S17408x2048, .bf16⟩
  | .hbm, ⟨5, _⟩ => ⟨S4096x2048, .bf16⟩
  | .hbm, ⟨6, _⟩ => ⟨S2048, .f32⟩
  | .hbm, ⟨7, _⟩ => ⟨S1x2048, .f32⟩
  | .hbm, ⟨8, _⟩ => ⟨S17408x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S1x512x2176, .bf16⟩
  | .local _ .vmem, ⟨4, _⟩ => ⟨S1x512x2176, .bf16⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S17408x4096 : Shape := ⟨2, ![17408, 4096]⟩
abbrev S4096x2048 : Shape := ⟨2, ![4096, 2048]⟩
abbrev S2x17408x2176 : Shape := ⟨3, ![2, 17408, 2176]⟩
abbrev S4096 : Shape := ⟨1, ![4096]⟩
abbrev S17408x2048 : Shape := ⟨2, ![17408, 2048]⟩
abbrev S1x17408x2048 : Shape := ⟨3, ![1, 17408, 2048]⟩
abbrev S2048 : Shape := ⟨1, ![2048]⟩
abbrev S1x2048 : Shape := ⟨2, ![1, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x2048, .f32⟩
  | .hbm, ⟨2, _⟩ => ⟨S2x17408x2176, .bf16⟩
  | .hbm, ⟨3, _⟩ => ⟨S4096, .f32⟩
  | .hbm, ⟨4, _⟩ => ⟨S17408x2048, .bf16⟩
  | .hbm, ⟨5, _⟩ => ⟨S17408x4096, .f32⟩
  | .hbm, ⟨6, _⟩ => ⟨S17408x2048, .f32⟩
  | .hbm, ⟨7, _⟩ => ⟨S1x17408x2048, .bf16⟩
  | .hbm, ⟨8, _⟩ => ⟨S17408x2048, .bf16⟩
  | .hbm, ⟨9, _⟩ => ⟨S17408x2048, .f32⟩
  | .hbm, ⟨10, _⟩ => ⟨S2048, .f32⟩
  | .hbm, ⟨11, _⟩ => ⟨S1x2048, .f32⟩
  | .hbm, ⟨12, _⟩ => ⟨S17408x2048, .f32⟩
  | .hbm, ⟨13, _⟩ => ⟨S17408x2048, .f32⟩
  | .hbm, ⟨14, _⟩ => ⟨S17408x2048, .f32⟩
  | .hbm, ⟨15, _⟩ => ⟨S17408x2048, .f32⟩
  | .hbm, ⟨16, _⟩ => ⟨S_, .f32⟩
  | .hbm, ⟨17, _⟩ => ⟨S17408x2048, .f32⟩
  | .hbm, ⟨18, _⟩ => ⟨S17408x2048, .f32⟩
  | .hbm, ⟨19, _⟩ => ⟨S_, .f32⟩
  | .hbm, ⟨20, _⟩ => ⟨S17408x2048, .f32⟩
  | .hbm, ⟨21, _⟩ => ⟨S17408x2048, .f32⟩
  | .hbm, ⟨22, _⟩ => ⟨S17408x2048, .f32⟩
  | .hbm, ⟨23, _⟩ => ⟨S17408x2048, .f32⟩
  | .hbm, ⟨24, _⟩ => ⟨S17408x2048, .f32⟩
  | .hbm, ⟨25, _⟩ => ⟨S17408x2048, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel7.lean ====
abbrev S17408x2048 : Shape := ⟨2, ![17408, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 10
  | .vmem => 11
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S17408x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S17408x2048, .f32⟩
  | .hbm, ⟨9, _⟩ => ⟨S17408x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel7Ideal.lean ====
variable {F : FTy → Type} [FloatOps F] [Named F]
def κ : String → Option EReal := fun
  | "alpha" => some ((Real.sqrt 2 : ℝ) : EReal)
  | _ => none
-- ==== Reference7Ideal.lean ====
abbrev S17408x2048 : Shape := ⟨2, ![17408, 2048]⟩
abbrev S2048x2048 : Shape := ⟨2, ![2048, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S17408x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S17408x2048, .f32⟩
  | .hbm, ⟨9, _⟩ => ⟨S17408x2048, .f32⟩
  | .hbm, ⟨10, _⟩ => ⟨S17408x2048, .f32⟩
  | .hbm, ⟨11, _⟩ => ⟨S17408x2048, .f32⟩
  | .hbm, ⟨12, _⟩ => ⟨S17408x2048, .f32⟩
  | .hbm, ⟨13, _⟩ => ⟨S_, .f32⟩
  | .hbm, ⟨14, _⟩ => ⟨S17408, .f32⟩
  | .hbm, ⟨15, _⟩ => ⟨S17408x1, .f32⟩
  | .hbm, ⟨16, _⟩ => ⟨S_, .f32⟩
  | .hbm, ⟨17, _⟩ => ⟨S17408x1, .f32⟩
  | .hbm, ⟨18, _⟩ => ⟨S17408x1, .f32⟩
  | .hbm, ⟨19, _⟩ => ⟨S17408x2048, .f32⟩
  | .hbm, ⟨20, _⟩ => ⟨S17408x2048, .f32⟩
  | .hbm, ⟨21, _⟩ => ⟨S17408x2048, .f32⟩
  | .hbm, ⟨22, _⟩ => ⟨S_, .f32⟩
  | .hbm, ⟨23, _⟩ => ⟨S17408, .f32⟩
  | .hbm, ⟨24, _⟩ => ⟨S17408x1, .f32⟩
  | .hbm, ⟨25, _⟩ => ⟨S_, .f32⟩
  | .hbm, ⟨26, _⟩ => ⟨S17408x1, .f32⟩
  | .hbm, ⟨27, _⟩ => ⟨S17408x1, .f32⟩
  | .hbm, ⟨28, _⟩ => ⟨S17408x2048, .f32⟩
  | .hbm, ⟨29, _⟩ => ⟨S17408x2048, .f32⟩
  | .hbm, ⟨30, _⟩ => ⟨S_, .f32⟩
  | .hbm, ⟨31, _⟩ => ⟨S17408x1, .f32⟩
  | .hbm, ⟨32, _⟩ => ⟨S17408x1, .f32⟩
  | .hbm, ⟨33, _⟩ => ⟨S17408x1, .f32⟩
  | .hbm, ⟨34, _⟩ => ⟨S17408x2048, .f32⟩
  | .hbm, ⟨35, _⟩ => ⟨S17408x2048, .f32⟩
  | .hbm, ⟨36, _⟩ => ⟨S1x2048, .f32⟩
  | .hbm, ⟨37, _⟩ => ⟨S17408x2048, .f32⟩
  | .hbm, ⟨38, _⟩ => ⟨S17408x2048, .f32⟩
  | .hbm, ⟨39, _⟩ => ⟨S1x2048, .f32⟩
  | .hbm, ⟨40, _⟩ => ⟨S17408x2048, .f32⟩
  | .hbm, ⟨41, _⟩ => ⟨S17408x2048, .f32⟩
  | .hbm, ⟨42, _⟩ => ⟨S17408x2048, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel8.lean ====
abbrev S17408x5632 : Shape := ⟨2, ![17408, 5632]⟩
abbrev S5632x2048 : Shape := ⟨2, ![5632, 2048]⟩
abbrev S17408x2048 : Shape := ⟨2, ![17408, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S256x1 : Shape := ⟨2, ![256, 1]⟩
abbrev S128x5632 : Shape := ⟨2, ![128, 5632]⟩
abbrev S128x2048 : Shape := ⟨2, ![128, 2048]⟩
abbrev S128 : Shape := ⟨1, ![128]⟩
abbrev S128x1 : Shape := ⟨2, ![128, 1]⟩

abbrev nBuf : Space → Nat
  | .hbm => 10
  | .vmem => 11
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S1x2048, .f32⟩
  | .hbm, ⟨7, _⟩ => ⟨S1x2048, .f32⟩
  | .hbm, ⟨8, _⟩ => ⟨S17408x2048, .f32⟩
  | .hbm, ⟨9, _⟩ => ⟨S17408x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
variable {F : FTy → Type} [FloatOps F] [Named F]
def κ : String → Option EReal := fun
  | "alpha" => some ((Real.sqrt 2 : ℝ) : EReal)
  | _ => none
-- ==== Reference8Ideal.lean ====
abbrev S17408x5632 : Shape := ⟨2, ![17408, 5632]⟩
abbrev S5632x2048 : Shape := ⟨2, ![5632, 2048]⟩
abbrev S17408x2048 : Shape := ⟨2, ![17408, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S1x2048 : Shape := ⟨2, ![1, 2048]⟩
abbrev S4x4352x2048 : Shape := ⟨3, ![4, 4352, 2048]⟩
abbrev S4x4112x2048 : Shape := ⟨3, ![4, 4112, 2048]⟩

abbrev nBuf : Space → Nat
  | .hbm => 49
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S17408x2048, .f32⟩
  | .hbm, ⟨9, _⟩ => ⟨S17408x2048, .f32⟩
  | .hbm, ⟨10, _⟩ => ⟨S17408x5632, .f32⟩
  | .hbm, ⟨11, _⟩ => ⟨S17408x2048, .f32⟩
  | .hbm, ⟨12, _⟩ => ⟨S17408x2048, .f32⟩
  | .hbm, ⟨13, _⟩ => ⟨S_, .f32⟩
  | .hbm, ⟨14, _⟩ => ⟨S17408, .f32⟩
  | .hbm, ⟨15, _⟩ => ⟨S17408x1, .f32⟩
  | .hbm, ⟨16, _⟩ => ⟨S_, .f32⟩
  | .hbm, ⟨17, _⟩ => ⟨S17408x1, .f32⟩
  | .hbm, ⟨18, _⟩ => ⟨S17408x1, .f32⟩
  | .hbm, ⟨19, _⟩ => ⟨S17408x2048, .f32⟩
  | .hbm, ⟨20, _⟩ => ⟨S17408x2048, .f32⟩
  | .hbm, ⟨21, _⟩ => ⟨S17408x2048, .f32⟩
  | .hbm, ⟨22, _⟩ => ⟨S_, .f32⟩
  | .hbm, ⟨23, _⟩ => ⟨S17408, .f32⟩
  | .hbm, ⟨24, _⟩ => ⟨S17408x1, .f32⟩
  | .hbm, ⟨25, _⟩ => ⟨S_, .f32⟩
  | .hbm, ⟨26, _⟩ => ⟨S17408x1, .f32⟩
  | .hbm, ⟨27, _⟩ => ⟨S17408x1, .f32⟩
  | .hbm, ⟨28, _⟩ => ⟨S17408x2048, .f32⟩
  | .hbm, ⟨29, _⟩ => ⟨S17408x2048, .f32⟩
  | .hbm, ⟨30, _⟩ => ⟨S_, .f32⟩
  | .hbm, ⟨31, _⟩ => ⟨S17408x1, .f32⟩
  | .hbm, ⟨32, _⟩ => ⟨S17408x1, .f32⟩
  | .hbm, ⟨33, _⟩ => ⟨S17408x1, .f32⟩
  | .hbm, ⟨34, _⟩ => ⟨S17408x2048, .f32⟩
  | .hbm, ⟨35, _⟩ => ⟨S17408x2048, .f32⟩
  | .hbm, ⟨36, _⟩ => ⟨S1x2048, .f32⟩
  | .hbm, ⟨37, _⟩ => ⟨S17408x2048, .f32⟩
  | .hbm, ⟨38, _⟩ => ⟨S17408x2048, .f32⟩
  | .hbm, ⟨39, _⟩ => ⟨S1x2048, .f32⟩
  | .hbm, ⟨40, _⟩ => ⟨S17408x2048, .f32⟩
  | .hbm, ⟨41, _⟩ => ⟨S17408x2048, .f32⟩
  | .hbm, ⟨42, _⟩ => ⟨S4x4352x2048, .f32⟩
  | .hbm, ⟨43, _⟩ => ⟨S4x4112x2048, .f32⟩
  | .hbm, ⟨44, _⟩ => ⟨S_, .i32⟩
  | .hbm, ⟨45, _⟩ => ⟨S_, .f32⟩
  | .hbm, ⟨46, _⟩ => ⟨S4x4352x2048, .f32⟩
  | .hbm, ⟨47, _⟩ => ⟨S17408x2048, .f32⟩
  | .hbm, ⟨48, _⟩ => ⟨S17408x2048, .bf16⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel9.lean ====
abbrev S17408x16384 : Shape := ⟨2, ![17408, 16384]⟩
abbrev S2x17408x2176 : Shape := ⟨3, ![2, 17408, 2176]⟩
abbrev S3x2048 : Shape := ⟨2, ![3, 2048]⟩
abbrev S2048x2048 : Shape := ⟨2, ![2048, 2048]⟩
abbrev S4096 : Shape := ⟨1, ![4096]⟩
abbrev S2048 : Shape := ⟨1, ![2048]⟩
abbrev S1x2048 : Shape := ⟨2, ![1, 2048]⟩
abbrev S17408x2048 : Shape := ⟨2, ![17408, 2048]⟩
abbrev S512x2048 : Shape := ⟨2, ![512, 2048]⟩
abbrev S16x2048 : Shape := ⟨2, ![16, 2048]⟩
abbrev S1x512x2176 : Shape := ⟨3, ![1, 512, 2176]⟩
abbrev S8x2048 : Shape := ⟨2, ![8, 2048]⟩
abbrev S8x1 : Shape := ⟨2, ![8, 1]⟩
abbrev S504x2048 : Shape := ⟨2, ![504, 2048]⟩
abbrev S1x512x2048 : Shape := ⟨3, ![1, 512, 2048]⟩

abbrev nBuf : Space → Nat
  | .hbm => 9
  | .vmem => 17
  | .smem => 0
  | _ => 0

abbrev bufTy : (tb : Table) → Fin (tcTables nBuf tb) → BufTy
  | .hbm, ⟨0, _⟩ => ⟨S17408x16384, .bf16⟩
  | .hbm, ⟨1, _⟩ => ⟨S2x17408x2176, .bf16⟩
  | .hbm, ⟨2, _⟩ => ⟨S3x2048, .f32⟩
  | .hbm, ⟨3, _⟩ => ⟨S2048x2048, .f32⟩
  | .hbm, ⟨4, _⟩ => ⟨S4096, .f32⟩
  | .hbm, ⟨5, _⟩ => ⟨S2048x2048, .bf16⟩
  | .hbm, ⟨6, _⟩ => ⟨S2048, .f32⟩
  | .hbm, ⟨7, _⟩ => ⟨S1x2048, .f32⟩
  | .hbm, ⟨8, _⟩ => ⟨S17408x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S16x2048, .bf16⟩
  | .local _ .vmem, ⟨7, _⟩ => ⟨S16x2048, .bf16⟩
  | .local _ .vmem, ⟨8, _⟩ => ⟨S16x2048, .bf16⟩
  | .local _ .vmem, ⟨9, _⟩ => ⟨S16x2048, .bf16⟩
  | .local _ .vmem, ⟨10, _⟩ => ⟨S1x512x2176, .bf16⟩
  | .local _ .vmem, ⟨11, _⟩ => ⟨S1x512x2176, .bf16⟩
  | .local _ .vmem, ⟨12, _⟩ => ⟨S3x2048, .f32⟩
  | .local _ .vmem, ⟨13, _⟩ => ⟨S2048x2048, .bf16⟩
  | .local _ .vmem, ⟨14, _⟩ => ⟨S1x2048, .f32⟩
  | .local _ .vmem, ⟨15, _⟩ => ⟨S512x2048, .bf16⟩
  | .local _ .vmem, ⟨16, _⟩ => ⟨S512x2048, .bf16⟩
  | _, _ => ⟨S17408x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2176 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S17408x16384 : Shape := ⟨2, ![17408, 16384]⟩
abbrev S2x17408x2176 : Shape := ⟨3, ![2, 17408, 2176]⟩
abbrev S3x2048 : Shape := ⟨2, ![3, 2048]⟩
abbrev S2048x2048 : Shape := ⟨2, ![2048, 2048]⟩
abbrev S4096 : Shape := ⟨1, ![4096]⟩
abbrev S4x4352x16384 : Shape := ⟨3, ![4, 4352, 16384]⟩
abbrev S4x4352x6144 : Shape := ⟨3, ![4, 4352, 6144]⟩
abbrev S4x4352x2048 : Shape := ⟨3, ![4, 4352, 2048]⟩
abbrev S_ : Shape := ⟨0, ![]⟩
abbrev S4x4354x2048 : Shape := ⟨3, ![4, 4354, 2048]⟩
abbrev S1x2048 : Shape := ⟨2, ![1, 2048]⟩
abbrev S2048 : Shape := ⟨1, ![2048]⟩
abbrev S1x1x2048 : Shape := ⟨3, ![1, 1, 2048]⟩
abbrev S1x17408x2048 : Shape := ⟨3, ![1, 17408, 2048]⟩
abbrev S17408x2048 : Shape := ⟨2, ![17408, 2048]⟩

abbrev nBuf : Space → Nat
  | .hbm => 58
  | .vmem => 0
  | .smem => 0
  | _ => 0

abbrev bufTy : (tb : Table) → Fin (tcTables nBuf tb) → BufTy
  | .hbm, ⟨0, _⟩ => ⟨S17408x16384, .bf16⟩
  | .hbm, ⟨1, _⟩ => ⟨S2x17408x2176, .bf16⟩
  | .hbm, ⟨2, _⟩ => ⟨S3x2048, .f32⟩
  | .hbm, ⟨3, _⟩ => ⟨S2048x2048, .f32⟩
  | .hbm, ⟨4, _⟩ => ⟨S4096, .f32⟩
  | .hbm, ⟨5, _⟩ => ⟨S17408x16384, .f32⟩
  | .hbm, ⟨6, _⟩ => ⟨S4x4352x16384, .f32⟩
  | .hbm, ⟨7, _⟩ => ⟨S4x4352x6144, .f32⟩
  | .hbm, ⟨8, _⟩ => ⟨S4x4352x2048, .f32⟩
  | .hbm, ⟨9, _⟩ => ⟨S4x4352x2048, .f32⟩
  | .hbm, ⟨10, _⟩ => ⟨S4x4352x2048, .f32⟩
  | .hbm, ⟨11, _⟩ => ⟨S4x4352x2048, .f32⟩
  | .hbm, ⟨12, _⟩ => ⟨S_, .i32⟩
  | .hbm, ⟨13, _⟩ => ⟨S_, .f32⟩
  | .hbm, ⟨14, _⟩ => ⟨S4x4354x2048, .f32⟩
  | .hbm, ⟨15, _⟩ => ⟨S1x2048, .f32⟩
  | .hbm, ⟨16, _⟩ => ⟨S2048, .f32⟩
  | .hbm, ⟨17, _⟩ => ⟨S4x4352x2048, .f32⟩
  | .hbm, ⟨18, _⟩ => ⟨S1x1x2048, .f32⟩
  | .hbm, ⟨19, _⟩ => ⟨S4x4352x2048, .f32⟩
  | .hbm, ⟨20, _⟩ => ⟨S4x4352x2048, .f32⟩
  | .hbm, ⟨21, _⟩ => ⟨S_, .f32⟩
  | .hbm, ⟨22, _⟩ => ⟨S4x4352x2048, .f32⟩
  | .hbm, ⟨23, _⟩ => ⟨S4x4352x2048, .f32⟩
  | .hbm, ⟨24, _⟩ => ⟨S1x2048, .f32⟩
  | .hbm, ⟨25, _⟩ => ⟨S2048, .f32⟩
  | .hbm, ⟨26, _⟩ => ⟨S4x4352x2048, .f32⟩
  | .hbm, ⟨27, _⟩ => ⟨S1x1x2048, .f32⟩
  | .hbm, ⟨28, _⟩ => ⟨S4x4352x2048, .f32⟩
  | .hbm, ⟨29, _⟩ => ⟨S4x4352x2048, .f32⟩
  | .hbm, ⟨30, _⟩ => ⟨S4x4352x2048, .f32⟩
  | .hbm, ⟨31, _⟩ => ⟨S1x2048, .f32⟩
  | .hbm, ⟨32, _⟩ => ⟨S2048, .f32⟩
  | .hbm, ⟨33, _⟩ => ⟨S4x4352x2048, .f32⟩
  | .hbm, ⟨34, _⟩ => ⟨S1x1x2048, .f32⟩
  | .hbm, ⟨35, _⟩ => ⟨S4x4352x2048, .f32⟩
  | .hbm, ⟨36, _⟩ => ⟨S4x4352x2048, .f32⟩
  | .hbm, ⟨37, _⟩ => ⟨S4x4352x2048, .f32⟩
  | .hbm, ⟨38, _⟩ => ⟨S4x4352x2048, .f32⟩
  | .hbm, ⟨39, _⟩ => ⟨S4x4352x2048, .f32⟩
  | .hbm, ⟨40, _⟩ => ⟨S1x17408x2048, .bf16⟩
  | .hbm, ⟨41, _⟩ => ⟨S17408x2048, .bf16⟩
  | .hbm, ⟨42, _⟩ => ⟨S17408x2048, .f32⟩
  | .hbm, ⟨43, _⟩ => ⟨S2048, .f32⟩
  | .hbm, ⟨44, _⟩ => ⟨S1x2048, .f32⟩
  | .hbm, ⟨45, _⟩ => ⟨S17408x2048, .f32⟩
  | .hbm, ⟨46, _⟩ => ⟨S17408x2048, .f32⟩
  | .hbm, ⟨47, _⟩ => ⟨S17408x2048, .f32⟩
  | .hbm, ⟨48, _⟩ => ⟨S17408x2048, .f32⟩
  | .hbm, ⟨49, _⟩ => ⟨S_, .f32⟩
  | .hbm, ⟨50, _⟩ => ⟨S17408x2048, .f32⟩
  | .hbm, ⟨51, _⟩ => ⟨S17408x2048, .f32⟩
  | .hbm, ⟨52, _⟩ => ⟨S_, .f32⟩
  | .hbm, ⟨53, _⟩ => ⟨S17408x2048, .f32⟩
  | .hbm, ⟨54, _⟩ => ⟨S17408x2048, .f32⟩
  | .hbm, ⟨55, _⟩ => ⟨S17408x2048, .f32⟩
  | .hbm, ⟨56, _⟩ => ⟨S17408x2048, .f32⟩
  | .hbm, ⟨57, _⟩ => ⟨S17408x2048, .bf16⟩
  | _, _ => ⟨S17408x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_0 : Ref sig .tc := ⟨.hbm, 49, rfl⟩
abbrev main_v41 : Ref sig .tc := ⟨.hbm, 50, rfl⟩
abbrev main_v42 : Ref sig .tc := ⟨.hbm, 51, rfl⟩
abbrev main_cst_1 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel10.lean ====
abbrev S4x4096x2048 : Shape := ⟨3, ![4, 4096, 2048]⟩
abbrev S16x2048 : Shape := ⟨2, ![16, 2048]⟩
abbrev S2048 : Shape := ⟨1, ![2048]⟩
abbrev S1x2048 : Shape := ⟨2, ![1, 2048]⟩
abbrev S17408x2048 : Shape := ⟨2, ![17408, 2048]⟩
abbrev S1x256x2048 : Shape := ⟨3, ![1, 256, 2048]⟩
abbrev S256x2048 : Shape := ⟨2, ![256, 2048]⟩
abbrev S16 : Shape := ⟨1, ![16]⟩
abbrev S16x1 : Shape := ⟨2, ![16, 1]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S17408x2048, .f32⟩
  | .hbm, ⟨7, _⟩ => ⟨S17408x2048, .bf16⟩
  | .local _ .vmem, ⟨0, _⟩ => ⟨S1x256x2048, .f32⟩
  | .local _ .vmem, ⟨1, _⟩ => ⟨S1x256x2048, .f32⟩
  | .local _ .vmem, ⟨2, _⟩ => ⟨S16x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4x4096x2048 : Shape := ⟨3, ![4, 4096, 2048]⟩
abbrev S16x2048 : Shape := ⟨2, ![16, 2048]⟩
abbrev S2048 : Shape := ⟨1, ![2048]⟩
abbrev S1x16x2048 : Shape := ⟨3, ![1, 16, 2048]⟩
abbrev S4x16x2048 : Shape := ⟨3, ![4, 16, 2048]⟩
abbrev S4x4112x2048 : Shape := ⟨3, ![4, 4112, 2048]⟩
abbrev S_ : Shape := ⟨0, ![]⟩
abbrev S4x4112 : Shape := ⟨2, ![4, 4112]⟩
abbrev S4x4112x1 : Shape := ⟨3, ![4, 4112, 1]⟩
abbrev S1x1x2048 : Shape := ⟨3, ![1, 1, 2048]⟩
abbrev S4x4352x2048 : Shape := ⟨3, ![4, 4352, 2048]⟩
abbrev S17408x2048 : Shape := ⟨2, ![17408, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S2048, .f32⟩
  | .hbm, ⟨3, _⟩ => ⟨S2048, .f32⟩
  | .hbm, ⟨4, _⟩ => ⟨S1x16x2048, .f32⟩
  | .hbm, ⟨5, _⟩ => ⟨S4x16x2048, .f32⟩
  | .hbm, ⟨6, _⟩ => ⟨S4x4112x2048, .f32⟩
  | .hbm, ⟨7, _⟩ => ⟨S_, .f32⟩
  | .hbm, ⟨8, _⟩ => ⟨S4x4112, .f32⟩
  | .hbm, ⟨9, _⟩ => ⟨S4x4112x1, .f32⟩
  | .hbm, ⟨10, _⟩ => ⟨S_, .f32⟩
  | .hbm, ⟨11, _⟩ => ⟨S4x4112x1, .f32⟩
  | .hbm, ⟨12, _⟩ => ⟨S4x4112x1, .f32⟩
  | .hbm, ⟨13, _⟩ => ⟨S4x4112x2048, .f32⟩
  | .hbm, ⟨14, _⟩ => ⟨S4x4112x2048, .f32⟩
  | .hbm, ⟨15, _⟩ => ⟨S4x4112x2048, .f32⟩
  | .hbm, ⟨16, _⟩ => ⟨S_, .f32⟩
  | .hbm, ⟨17, _⟩ => ⟨S4x4112, .f32⟩
  | .hbm, ⟨18, _⟩ => ⟨S4x4112x1, .f32⟩
  | .hbm, ⟨19, _⟩ => ⟨S_, .f32⟩
  | .hbm, ⟨20, _⟩ => ⟨S4x4112x1, .f32⟩
  | .hbm, ⟨21, _⟩ => ⟨S4x4112x1, .f32⟩
  | .hbm, ⟨22, _⟩ => ⟨S4x4112x2048, .f32⟩
  | .hbm, ⟨23, _⟩ => ⟨S4x4112x2048, .f32⟩
  | .hbm, ⟨24, _⟩ => ⟨S_, .f32⟩
  | .hbm, ⟨25, _⟩ => ⟨S4x4112x1, .f32⟩
  | .hbm, ⟨26, _⟩ => ⟨S4x4112x1, .f32⟩
  | .hbm, ⟨27, _⟩ => ⟨S4x4112x1, .f32⟩
  | .hbm, ⟨28, _⟩ => ⟨S4x4112x2048, .f32⟩
  | .hbm, ⟨29, _⟩ => ⟨S4x4112x2048, .f32⟩
  | .hbm, ⟨30, _⟩ => ⟨S1x1x2048, .f32⟩
  | .hbm, ⟨31, _⟩ => ⟨S4x4112x2048, .f32⟩
  | .hbm, ⟨32, _⟩ => ⟨S4x4112x2048, .f32⟩
  | .hbm, ⟨33, _⟩ => ⟨S1x1x2048, .f32⟩
  | .hbm, ⟨34, _⟩ => ⟨S4x4112x2048, .f32⟩
  | .hbm, ⟨35, _⟩ => ⟨S4x4112x2048, .f32⟩
  | .hbm, ⟨36, _⟩ => ⟨S_, .i32⟩
  | .hbm, ⟨37, _⟩ => ⟨S_, .f32⟩
  | .hbm, ⟨38, _⟩ => ⟨S4x4352x2048, .f32⟩
  | .hbm, ⟨39, _⟩ => ⟨S17408x2048, .f32⟩
  | .hbm, ⟨40, _⟩ => ⟨S17408x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel11.lean ====
abbrev S17408x2048 : Shape := ⟨2, ![17408, 2048]⟩
abbrev S2048x20544 : Shape := ⟨2, ![2048, 20544]⟩
abbrev S64 : Shape := ⟨1, ![64]⟩
abbrev S128 : Shape := ⟨1, ![128]⟩
abbrev S1x128 : Shape := ⟨2, ![1, 128]⟩
abbrev S_ : Shape := ⟨0, ![]⟩
abbrev S2048x128 : Shape := ⟨2, ![2048, 128]⟩
abbrev S1x64 : Shape := ⟨2, ![1, 64]⟩
abbrev S17408x128 : Shape := ⟨2, ![17408, 128]⟩
abbrev S256x2048 : Shape := ⟨2, ![256, 2048]⟩
abbrev S256x128 : Shape := ⟨2, ![256, 128]⟩
abbrev S256x1 : Shape := ⟨2, ![256, 1]⟩
abbrev S256x256 : Shape := ⟨2, ![256, 256]⟩

abbrev nBuf : Space → Nat
  | .hbm => 26
  | .vmem => 9
  | .smem => 0
  | _ => 0

abbrev bufTy : (tb : Table) → Fin (tcTables nBuf tb) → BufTy
  | .hbm, ⟨0, _⟩ => ⟨S17408x2048, .bf16⟩
  | .hbm, ⟨1, _⟩ => ⟨S2048x20544, .f32⟩
  | .hbm, ⟨2, _⟩ => ⟨S64, .f32⟩
  | .hbm, ⟨3, _⟩ => ⟨S64, .f32⟩
  | .hbm, ⟨4, _⟩ => ⟨S128, .i32⟩
  | .hbm, ⟨5, _⟩ => ⟨S1x128, .i32⟩
  | .hbm, ⟨6, _⟩ => ⟨S_, .i32⟩
  | .hbm, ⟨7, _⟩ => ⟨S1x128, .i32⟩
  | .hbm, ⟨8, _⟩ => ⟨S1x128, .i1⟩
  | .hbm, ⟨9, _⟩ => ⟨S2048x128, .f32⟩
  | .hbm, ⟨10, _⟩ => ⟨S_, .f32⟩
  | .hbm, ⟨11, _⟩ => ⟨S_, .f32⟩
  | .hbm, ⟨12, _⟩ => ⟨S2048x128, .i1⟩
  | .hbm, ⟨13, _⟩ => ⟨S2048x128, .f32⟩
  | .hbm, ⟨14, _⟩ => ⟨S2048x128, .f32⟩
  | .hbm, ⟨15, _⟩ => ⟨S2048x128, .bf16⟩
  | .hbm, ⟨16, _⟩ => ⟨S1x64, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1x64, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S17408x128, .f32⟩
  | .hbm, ⟨25, _⟩ => ⟨S17408x128, .f32⟩
  | .local _ .vmem, ⟨0, _⟩ => ⟨S256x2048, .bf16⟩
  | .local _ .vmem, ⟨1, _⟩ => ⟨S256x2048, .bf16⟩
  | .local _ .vmem, ⟨2, _⟩ => ⟨S2048x128, .bf16⟩
  | .local _ .vmem, ⟨3, _⟩ => ⟨S1x128, .f32⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S17408x2048 : Shape := ⟨2, ![17408, 2048]⟩
abbrev S2048x20544 : Shape := ⟨2, ![2048, 20544]⟩
abbrev S64 : Shape := ⟨1, ![64]⟩
abbrev S2048x64 : Shape := ⟨2, ![2048, 64]⟩
abbrev S_ : Shape := ⟨0, ![]⟩
abbrev S2048x128 : Shape := ⟨2, ![2048, 128]⟩
abbrev S17408x128 : Shape := ⟨2, ![17408, 128]⟩
abbrev S128 : Shape := ⟨1, ![128]⟩
abbrev S1x128 : Shape := ⟨2, ![1, 128]⟩
abbrev S4x4352x128 : Shape := ⟨3, ![4, 4352, 128]⟩
abbrev S4x4112x128 : Shape := ⟨3, ![4, 4112, 128]⟩
abbrev S68x256x128 : Shape := ⟨3, ![68, 256, 128]⟩

abbrev nBuf : Space → Nat
  | .hbm => 48
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x20544, .f32⟩
  | .hbm, ⟨2, _⟩ => ⟨S64, .f32⟩
  | .hbm, ⟨3, _⟩ => ⟨S64, .f32⟩
  | .hbm, ⟨4, _⟩ => ⟨S17408x2048, .f32⟩
  | .hbm, ⟨5, _⟩ => ⟨S2048x64, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S17408x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S17408x128, .f32⟩
  | .hbm, ⟨15, _⟩ => ⟨S17408x128, .f32⟩
  | .hbm, ⟨16, _⟩ => ⟨S_, .f32⟩
  | .hbm, ⟨17, _⟩ => ⟨S17408x128, .f32⟩
  | .hbm, ⟨18, _⟩ => ⟨S17408x128, .f32⟩
  | .hbm, ⟨19, _⟩ => ⟨S17408x128, .f32⟩
  | .hbm, ⟨20, _⟩ => ⟨S17408x128, .f32⟩
  | .hbm, ⟨21, _⟩ => ⟨S17408x128, .i1⟩
  | .hbm, ⟨22, _⟩ => ⟨S17408x128, .f32⟩
  | .hbm, ⟨23, _⟩ => ⟨S17408x128, .f32⟩
  | .hbm, ⟨24, _⟩ => ⟨S17408x128, .f32⟩
  | .hbm, ⟨25, _⟩ => ⟨S17408x128, .f32⟩
  | .hbm, ⟨26, _⟩ => ⟨S17408x128, .f32⟩
  | .hbm, ⟨27, _⟩ => ⟨S17408x128, .f32⟩
  | .hbm, ⟨28, _⟩ => ⟨S17408x128, .f32⟩
  | .hbm, ⟨29, _⟩ => ⟨S17408x128, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S17408x128, .f32⟩
  | .hbm, ⟨37, _⟩ => ⟨S17408x128, .f32⟩
  | .hbm, ⟨38, _⟩ => ⟨S4x4352x128, .f32⟩
  | .hbm, ⟨39, _⟩ => ⟨S4x4112x128, .f32⟩
  | .hbm, ⟨40, _⟩ => ⟨S_, .i32⟩
  | .hbm, ⟨41, _⟩ => ⟨S_, .f32⟩
  | .hbm, ⟨42, _⟩ => ⟨S4x4352x128, .f32⟩
  | .hbm, ⟨43, _⟩ => ⟨S68x256x128, .f32⟩
  | .hbm, ⟨44, _⟩ => ⟨S_, .f32⟩
  | .hbm, ⟨45, _⟩ => ⟨S_, .f32⟩
  | .hbm, ⟨46, _⟩ => ⟨S68x256x128, .f32⟩
  | .hbm, ⟨47, _⟩ => ⟨S17408x128, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call2_cst : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_call2_v5 : Ref sig .tc := ⟨.hbm, 22, rfl⟩
abbrev main_call2_v6 : Ref sig .tc := ⟨.hbm, 23, rfl⟩
abbrev main_call2_v7 : Ref sig .tc := ⟨.hbm, 24, rfl⟩
abbrev main_call2_v8 : Ref sig .tc := ⟨.hbm, 25, rfl⟩
abbrev main_call2_v9 : Ref sig .tc := ⟨.hbm, 26, rfl⟩
abbrev main_call2_v10 : Ref sig .tc := ⟨.hbm, 27, rfl⟩
abbrev main_call2_v11 : Ref sig .tc := ⟨.hbm, 28, rfl⟩
abbrev main_v8 : Ref sig .tc := ⟨.hbm, 29, rfl⟩
abbrev main_c_1 : Ref sig .tc := ⟨.hbm, 30, rfl⟩
abbrev main_call3_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_call4_v0 : Ref sig .tc := ⟨.hbm, 41, rfl⟩
abbrev main_v17 : Ref sig .tc := ⟨.hbm, 42, rfl⟩
abbrev main_v18 : Ref sig .tc := ⟨.hbm, 43, rfl⟩
abbrev main_call5_call0_cst : Ref sig .tc := ⟨.hbm, 44, rfl⟩
abbrev main_call5_call0_v0 : Ref sig .tc := ⟨.hbm, 45, rfl⟩
abbrev main_v19 : Ref sig .tc := ⟨.hbm, 46, rfl⟩
abbrev main_v20 : Ref sig .tc := ⟨.hbm, 47, rfl⟩

abbrev nD : Nat := 1
abbrev τ : Topo := Topo.v7x

variable {F : FTy → Type} [FloatOps F]
-- ==== Proof.ChunkStores.lean ====
/- What the chunk loop leaves in the output block does not depend on what the block held before: each trip stores a whole
   row block computed from the inputs and the carried state. -/
module

public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What one chunk stores into the output block is the same whatever the block held. -/
theorem trip_out_any (𝒱 : Variants) (c : Dev nD) (bd : Option 𝒱.V) (i : grid0.Coords) (arg2 : Memref sig .tc .vmem S4352x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x512 .bf16) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4x512 .f32) (harg8 : arg8.IsWhole) (arg9 : Memref sig .tc .vmem S4x128 .f32) (harg9 : arg9.IsWhole) (arg10 : Memref sig .tc .vmem S4x128 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S4352x512 .bf16) (harg16 : arg16.IsWhole) (arg17 : Memref sig .tc .vmem S128x512 .f32) (harg17 : arg17.IsWhole) (v11 : FVec F S256x256 .bf16) (v17 : FVec F S256x256 .bf16) (v23 : FVec F S256x256 .bf16) (v34 : FVec F S1x768 .f32) (v35 : FVec F S1x768 .f32) (v36 : FVec F S1x768 .f32) (v37 : FVec F S1x768 .f32) (v38 : FVec F S1x768 .f32) (v50 : BitVec 32) (v51 : IVec S256x1 32) (v52 : IVec S8x1 32) (v59 : Vec F S1x512 .f32) (v61 : Vec F S1x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips)  (f f' : BufTy.Contents (Elt F) arg16.view.ty) (g : BufTy.Contents (Elt F) arg17.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v11 v17 v23 v34 v35 v36 v37 v38 v50 v51 v52 v59 v61 X_arg2 X_arg3 X_arg4 X_arg5 X_arg6 X_arg7 k).1 f g = (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v11 v17 v23 v34 v35 v36 v37 v38 v50 v51 v52 v59 v61 X_arg2 X_arg3 X_arg4 X_arg5 X_arg6 X_arg7 k).1 f' g := by
  unfold trip_k0_t1; rfl

/-- The state one chunk leaves is the same whatever the output block held. -/
theorem trip_state_any (𝒱 : Variants) (c : Dev nD) (bd : Option 𝒱.V) (i : grid0.Coords) (arg2 : Memref sig .tc .vmem S4352x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x512 .bf16) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4x512 .f32) (harg8 : arg8.IsWhole) (arg9 : Memref sig .tc .vmem S4x128 .f32) (harg9 : arg9.IsWhole) (arg10 : Memref sig .tc .vmem S4x128 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S4352x512 .bf16) (harg16 : arg16.IsWhole) (arg17 : Memref sig .tc .vmem S128x512 .f32) (harg17 : arg17.IsWhole) (v11 : FVec F S256x256 .bf16) (v17 : FVec F S256x256 .bf16) (v23 : FVec F S256x256 .bf16) (v34 : FVec F S1x768 .f32) (v35 : FVec F S1x768 .f32) (v36 : FVec F S1x768 .f32) (v37 : FVec F S1x768 .f32) (v38 : FVec F S1x768 .f32) (v50 : BitVec 32) (v51 : IVec S256x1 32) (v52 : IVec S8x1 32) (v59 : Vec F S1x512 .f32) (v61 : Vec F S1x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips)  (f f' : BufTy.Contents (Elt F) arg16.view.ty) (g : BufTy.Contents (Elt F) arg17.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v11 v17 v23 v34 v35 v36 v37 v38 v50 v51 v52 v59 v61 X_arg2 X_arg3 X_arg4 X_arg5 X_arg6 X_arg7 k).2.1 f g = (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v11 v17 v23 v34 v35 v36 v37 v38 v50 v51 v52 v59 v61 X_arg2 X_arg3 X_arg4 X_arg5 X_arg6 X_arg7 k).2.1 f' g := by
  unfold trip_k0_t1; rfl

/-- The stores of the first `n` chunks are the same whatever the output block held at the start. -/
theorem chunks_any (𝒱 : Variants) (c : Dev nD) (bd : Option 𝒱.V) (i : grid0.Coords) (arg2 : Memref sig .tc .vmem S4352x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x512 .bf16) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4x512 .f32) (harg8 : arg8.IsWhole) (arg9 : Memref sig .tc .vmem S4x128 .f32) (harg9 : arg9.IsWhole) (arg10 : Memref sig .tc .vmem S4x128 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S4352x512 .bf16) (harg16 : arg16.IsWhole) (arg17 : Memref sig .tc .vmem S128x512 .f32) (harg17 : arg17.IsWhole) (v11 : FVec F S256x256 .bf16) (v17 : FVec F S256x256 .bf16) (v23 : FVec F S256x256 .bf16) (v34 : FVec F S1x768 .f32) (v35 : FVec F S1x768 .f32) (v36 : FVec F S1x768 .f32) (v37 : FVec F S1x768 .f32) (v38 : FVec F S1x768 .f32) (v50 : BitVec 32) (v51 : IVec S256x1 32) (v52 : IVec S8x1 32) (v59 : Vec F S1x512 .f32) (v61 : Vec F S1x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)  (f f' : BufTy.Contents (Elt F) arg16.view.ty) (g : BufTy.Contents (Elt F) arg17.view.ty) (n : ℕ) (hn : n ≤ k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v11 v17 v23 v34 v35 v36 v37 v38 v50 v51 v52 v59 v61 X_arg2 X_arg3 X_arg4 X_arg5 X_arg6 X_arg7 f g n = pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v11 v17 v23 v34 v35 v36 v37 v38 v50 v51 v52 v59 v61 X_arg2 X_arg3 X_arg4 X_arg5 X_arg6 X_arg7 f' g n := by
  induction n with
  | zero => rfl
  | succ n ih =>
    have h := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v11 v17 v23 v34 v35 v36 v37 v38 v50 v51 v52 v59 v61 X_arg2 X_arg3 X_arg4 X_arg5 X_arg6 X_arg7 f g ⟨n, hn⟩
    have h' := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v11 v17 v23 v34 v35 v36 v37 v38 v50 v51 v52 v59 v61 X_arg2 X_arg3 X_arg4 X_arg5 X_arg6 X_arg7 f' g ⟨n, hn⟩
    rw [h, h', ih (Nat.le_of_succ_le hn)]
    exact congrArg₂ Prod.mk (congrArg (· ++ _) (trip_out_any ..)) (congrArg (· ++ _) (trip_state_any ..))

end Cert.KernelIdeal.Gen

end
-- ==== Proof.PointRun.lean ====
/- One grid point of the scan, run from start to end: the kernel body's stores into its output block. The chunk loop's
   stores are stated over an output block of no particular contents, which `chunks_any` allows. -/
module

public import proofs.«01_k».proof.Proof.Gen.KernelIdeal.Frame.Runs
public import proofs.«01_k».proof.Proof.ChunkStores

@[expose] public section

set_option maxRecDepth 16384

noncomputable section

namespace Cert.KernelIdeal.Scan

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- One grid point from start to end: the stores its body makes into the output block, with the proof that the body runs
    and makes them, its input blocks unchanged. The stores do not mention what the output block held before
    (`chunks_any`). -/
noncomputable def pointRun (c : Dev nD) (i : grid0.Coords) (arg2 : Memref sig .tc .vmem S4352x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x512 .bf16) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4x512 .f32) (harg8 : arg8.IsWhole) (arg9 : Memref sig .tc .vmem S4x128 .f32) (harg9 : arg9.IsWhole) (arg10 : Memref sig .tc .vmem S4x128 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S4352x512 .bf16) (harg16 : arg16.IsWhole) (arg17 : Memref sig .tc .vmem S128x512 .f32) (harg17 : arg17.IsWhole)
    (x0 : Vec F S4352x512 .bf16) (x1 : Vec F S4352x128 .bf16) (x2 : Vec F S4352x128 .bf16) (x3 : Vec F S4352x512 .bf16) (x4 : Vec F S4352x128 .f32) (x5 : Vec F S4352x128 .f32) (x6 : Vec F S4x512 .f32) (x7 : Vec F S4x128 .f32) (x8 : Vec F S4x128 .f32) (x9 : Vec F S1x512 .f32) (x10 : Vec F S1x128 .f32) (x11 : Vec F S1x128 .f32) (x12 : Vec F S1x512 .f32) (x13 : Vec F S1x512 .f32) :
    { L14 : List (View.Piece (Elt F) S4352x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ d, owns (c : Thread nD τ) arg17 fullShare d)) -∗ K ⟨⟩))
          ⊢ wp frame (wpE (defs₀ (F := F)) Variants.none c none) E (cc0_ssd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_ssd_eq_skeleton]; unfold cc0_ssd_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists f14
      rw [chunks_any (F := F) (f := f14) (f' := arg16.view.junk) (hn := le_rfl)]
      iexact H14
    iexists _, _; isplitr; swap; · iexact HS0
    ipureintro; rfl

end Cert.KernelIdeal.Scan

end
-- ==== Proof.Launched.lean ====
/- The whole launch of the scan: every grid point's output block, written back, makes the result array, and the arguments
   are left as they were. -/
module

public import proofs.«01_k».proof.Proof.PointRun
public import Idealize.ShloMosaic.Lib.Pipeline.Value
public import Idealize.ShloMosaic.Lib.Claim

@[expose] public section

set_option maxRecDepth 16384

noncomputable section

namespace Cert.KernelIdeal.Scan

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The 17 chunks' row blocks cover the output block. -/
theorem cover (c : Dev nD) (i : grid0.Coords) (arg2 : Memref sig .tc .vmem S4352x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x512 .bf16) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4x512 .f32) (harg8 : arg8.IsWhole) (arg9 : Memref sig .tc .vmem S4x128 .f32) (harg9 : arg9.IsWhole) (arg10 : Memref sig .tc .vmem S4x128 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S4352x512 .bf16) (harg16 : arg16.IsWhole) (arg17 : Memref sig .tc .vmem S128x512 .f32) (harg17 : arg17.IsWhole)
    (x0 : Vec F S4352x512 .bf16) (x1 : Vec F S4352x128 .bf16) (x2 : Vec F S4352x128 .bf16) (x3 : Vec F S4352x512 .bf16) (x4 : Vec F S4352x128 .f32) (x5 : Vec F S4352x128 .f32) (x6 : Vec F S4x512 .f32) (x7 : Vec F S4x128 .f32) (x8 : Vec F S4x128 .f32) (x9 : Vec F S1x512 .f32) (x10 : Vec F S1x128 .f32) (x11 : Vec F S1x128 .f32) (x12 : Vec F S1x512 .f32) (x13 : Vec F S1x512 .f32) (y : S4352x512.Idx) :
    ∃ pc ∈ (pointRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).1, y ∈ pc.1.set :=
  View.cover_of_tiledL (pointRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).1 S256x512.size (by sl_kernel_rfl) y

/-- What one grid point leaves in its output block. -/
def pointOut (c : Dev nD) (i : grid0.Coords) (arg2 : Memref sig .tc .vmem S4352x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S4352x512 .bf16) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4x512 .f32) (harg8 : arg8.IsWhole) (arg9 : Memref sig .tc .vmem S4x128 .f32) (harg9 : arg9.IsWhole) (arg10 : Memref sig .tc .vmem S4x128 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S4352x512 .bf16) (harg16 : arg16.IsWhole) (arg17 : Memref sig .tc .vmem S128x512 .f32) (harg17 : arg17.IsWhole)
    (x0 : Vec F S4352x512 .bf16) (x1 : Vec F S4352x128 .bf16) (x2 : Vec F S4352x128 .bf16) (x3 : Vec F S4352x512 .bf16) (x4 : Vec F S4352x128 .f32) (x5 : Vec F S4352x128 .f32) (x6 : Vec F S4x512 .f32) (x7 : Vec F S4x128 .f32) (x8 : Vec F S4x128 .f32) (x9 : Vec F S1x512 .f32) (x10 : Vec F S1x128 .f32) (x11 : Vec F S1x128 .f32) (x12 : Vec F S1x512 .f32) (x13 : Vec F S1x512 .f32) : Vec F S4352x512 .bf16 :=
  VO0_14.read (Elt F) (VO0_14.writes (Elt F) VO0_14.junk (pointRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).1)

/-! ## What the outputs hold after each point -/

/-- What the output block holds after point `t`, at that point's input blocks. -/
def outAt (c : Dev nD) (t : Fin cfg0.N) : Vec F S4352x512 .bf16 :=
  pointOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-! ## The pipeline's proof data -/

/-- The pipeline's data: inputs keep their blocks, the output block holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outAt m c t)
  Φ _ := Pipeline.ΦA spec0 c
  q w := Pipeline.shareOf spec0 w
  owed _ := 0

/-- The arrays the pipeline starts from. -/
theorem A_eq (c : Dev nD) (w : Fin cfg0.W) : (dats m 0 c).A w = V m c (Pipeline.arrRef spec0 w) := by
  dsimp only [dats]

/-- What each window's buffer holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outAt m c t) := by dsimp only [dats]

/-- Before a point each input's buffer holds that point's block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body starts from at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What the body ends with at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 1600000 in
/-- The body at any point: the point's run applies, since each input's buffer holds its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.castSucc = Pipeline.ΦA spec0 c from rfl, PhiA0_eq]
  unfold outAt
  unfold pointOut
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((pointRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  iintro ⟨H0, H1, H2, H3, H4, H5, H6, H7, H8, H9, H10, H11, H12, H13, ⟨%e14, H14⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns; iexists _; isplitr
  swap; · iexact H14
  ipureintro; exact View.read_writes_of_cover _ _ _ _ _ (cover c _ _ _ _ _ _ _ _ _ _ _ _ _ _ _ _ _ _ _ _ _ _ _ _ _ _ _ _ _ _ _ _ _ _ _ _ _ _ _ _ _ _ _ _ _ _ _)

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole launch: it ends, the arrays are as the pipeline leaves them, and every semaphore is at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The launch ends, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-! ## Blockwise: what each point writes back, and the final array block by block -/

/-- What point `t` writes back. -/
theorem flushed14 (c : Dev nD) (t : Fin cfg0.N) :
    (dats m 0 c).flushed 14 t = (cfg0.win 14).cut (grid0.coords t) (outAt m c t) := by
  show (cfg0.win 14).cut (grid0.coords t) ((dats m 0 c).after 14 t) = _
  rw [after0_14]

/-- What point `t` writes back, as the point's own output. -/
theorem flushed14_A (c : Dev nD) (t : Fin cfg0.N) :
    (dats m 0 c).flushed 14 t = (cfg0.win 14).cut (grid0.coords t) (pointOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed14, outAt]

/-- Different points write different blocks. -/
theorem idx_inj14 : ∀ t t' : Fin cfg0.N, win0_14.index t = win0_14.index t' → t = t' :=
  (by decide +kernel : ∀ t t' : Fin grid0.N, win0_14.index t = win0_14.index t' → t = t')

/-- Different points' blocks do not meet. -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- Block `t` of the final array is what point `t` wrote. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- The result after the launch. -/
theorem post14 (r : PUnit × MemSt nD τ sig (Elt F)) (h : Pipeline.FramePost cfgs (dats m) 0 (V m) r) (c : Dev nD) :
    r.2.mem ((c : Thread nD τ).loc main_v5) = (dats m 0 c).arrAt 14 cfg0.N :=
  (h c).1 14

/-- `main_arg0` after the launch is as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- `main_arg1` after the launch is as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- `main_arg2` after the launch is as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- `main_arg3` after the launch is as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 8).trans (((dats m 0 c).arrAt_in 8 rfl _).trans ((A_eq m c 8).trans (V_main_arg3 m c)))

/-- `main_arg4` after the launch is as it was. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- `main_arg5` after the launch is as it was. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- `main_arg6` after the launch is as it was. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The launch with its result named and its arguments unchanged. -/
theorem run_blocks : θ_run defs (onTc (τ := τ) (main (F := F))) ⟨m, fun _ => 0, ρ⟩ fun r => ∀ c : Dev nD,
      r.2.mem ((c : Thread nD τ).loc main_v5) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post14 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Scan

end
-- ==== Proof.RefRun.lean ====
/-
  The reference program's run: it terminates, its seven arguments end as they were, and every semaphore reads zero.
-/
module

public import proofs.«01_k».proof.Proof.Gen.ReferenceIdeal.Run
public import Idealize.ShloMosaic.Lib.Claim
public import Idealize.ShloMosaic.Lib.Quiescent

@[expose] public section

set_option maxRecDepth 16384

noncomputable section

namespace Cert.ReferenceIdeal.Ref

open Idealize.ShloMosaic Idealize.ShloMosaic.TcCoe Idealize.ShloMosaic.StableHlo
open Idealize.SL Idealize.SL.Sem
open Cert.ReferenceIdeal.Gen Cert.ReferenceIdeal.Value

variable {F : FTy → Type} [FloatOps F]

/-- The reference each operation of `hostOps0_13` writes, in order. -/
abbrev hostOps0_13_out : List (Ref sig .tc) := [main_v71, main_v72, main_v73, main_v74, main_v75, main_v76, main_v77, main_v78, main_v79, main_v80]
theorem hostOps0_13_outs : (hostOps0_13 : List (HloOp τ sig (Elt F))).Forall fun op => op.writes ⊆ (hostOps0_13_out.map (Proc.devRef (τ := τ) .tc)).toFinset :=
  StableHlo.forall_writes_sub_of_map rfl

/-- The reference each operation of `hostOps0_14` writes, in order. -/
abbrev hostOps0_14_out : List (Ref sig .tc) := [main_call12_v0, main_call12_v1, main_call12_cst, main_call12_v2, main_call12_v3, main_call12_cst_0, main_call12_v4, main_call12_v5, main_v81]
theorem hostOps0_14_outs : (hostOps0_14 : List (HloOp τ sig (Elt F))).Forall fun op => op.writes ⊆ (hostOps0_14_out.map (Proc.devRef (τ := τ) .tc)).toFinset :=
  StableHlo.forall_writes_sub_of_map rfl

/-- The reference each operation of `hostOps0_15` writes, in order. -/
abbrev hostOps0_15_out : List (Ref sig .tc) := [main_v82, main_v83, main_v84, main_cst_7, main_v85, main_v86, main_cst_8, main_v87, main_v88, main_cst_9, main_v89, main_v90, main_v91, main_v92, main_v93, main_v94, main_v95, main_v96, main_v97, main_c_10]
theorem hostOps0_15_outs : (hostOps0_15 : List (HloOp τ sig (Elt F))).Forall fun op => op.writes ⊆ (hostOps0_15_out.map (Proc.devRef (τ := τ) .tc)).toFinset :=
  StableHlo.forall_writes_sub_of_map rfl

/-- The reference each operation of `hostOps0_16` writes, in order. -/
abbrev hostOps0_16_out : List (Ref sig .tc) := [main_call13_v0, main_v98]
theorem hostOps0_16_outs : (hostOps0_16 : List (HloOp τ sig (Elt F))).Forall fun op => op.writes ⊆ (hostOps0_16_out.map (Proc.devRef (τ := τ) .tc)).toFinset :=
  StableHlo.forall_writes_sub_of_map rfl

/-- The reference each operation of `hostOps0_17` writes, in order. -/
abbrev hostOps0_17_out : List (Ref sig .tc) := [main_v99, main_v100]
theorem hostOps0_17_outs : (hostOps0_17 : List (HloOp τ sig (Elt F))).Forall fun op => op.writes ⊆ (hostOps0_17_out.map (Proc.devRef (τ := τ) .tc)).toFinset :=
  StableHlo.forall_writes_sub_of_map rfl

variable (m : (ℓ : Loc nD τ sig) → Buf (Elt F) ℓ) (ρ : Dev nD → PrngReg)

/-- Nothing before the loop writes argument `main_arg0`. -/
theorem entry_main_arg0 (c : Dev nD) : entryContents preI m c (Proc.devRef .tc main_arg0) = m ((c.tc : Thread nD τ).loc main_arg0) := by
  simp only [entryContents, afterL_cons, afterL_nil]
  rw [after_of_writes_sub hostOps0_12 _ hostOps0_12_writes (by decide +kernel), after_of_writes_sub hostOps0_11 _ hostOps0_11_writes (by decide +kernel), after_of_writes_sub hostOps0_10 _ hostOps0_10_writes (by decide +kernel), after_of_writes_sub hostOps0_9 _ hostOps0_9_writes (by decide +kernel), after_of_writes_sub hostOps0_8 _ hostOps0_8_writes (by decide +kernel), after_of_writes_sub hostOps0_7 _ hostOps0_7_writes (by decide +kernel), after_of_writes_sub hostOps0_6 _ hostOps0_6_writes (by decide +kernel), after_of_writes_sub hostOps0_5 _ hostOps0_5_writes (by decide +kernel), after_of_writes_sub hostOps0_4 _ hostOps0_4_writes (by decide +kernel), after_of_writes_sub hostOps0_3 _ hostOps0_3_writes (by decide +kernel), after_of_writes_sub hostOps0_2 _ hostOps0_2_writes (by decide +kernel), after_of_writes_sub hostOps0_1 _ hostOps0_1_writes (by decide +kernel), after_of_writes_sub hostOps0 _ hostOps0_writes (by decide +kernel)]
/-- Nor does a trip of the loop. -/
theorem trips_main_arg0 (c : Dev nD) : ∀ k, atK m k c (Proc.devRef .tc main_arg0) = m ((c.tc : Thread nD τ).loc main_arg0)
  | 0 => entry_main_arg0 m c
  | k + 1 => by
    rw [show atK m (k + 1) c = afterL bodyI (after condOps (atK m k c)) from rfl]
    simp only [afterL_cons, afterL_nil]
    rw [after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub condOps _ condOps_writes (by decide +kernel), trips_main_arg0 c k]
/-- Nor does what follows the loop. -/
theorem final_main_arg0 (c : Dev nD) : finalContents condOps preI bodyI postI 17 m c (Proc.devRef .tc main_arg0) = m ((c.tc : Thread nD τ).loc main_arg0) := by
  simp only [finalContents, afterL_cons, afterL_nil]
  rw [after_of_writes_sub hostOps0_17 _ hostOps0_17_outs (by decide +kernel), after_of_writes_sub hostOps0_16 _ hostOps0_16_outs (by decide +kernel), after_of_writes_sub hostOps0_15 _ hostOps0_15_outs (by decide +kernel), after_of_writes_sub hostOps0_14 _ hostOps0_14_outs (by decide +kernel), after_of_writes_sub hostOps0_13 _ hostOps0_13_outs (by decide +kernel), after_of_writes_sub condOps _ condOps_writes (by decide +kernel)]
  exact trips_main_arg0 m c 17

/-- Nothing before the loop writes argument `main_arg1`. -/
theorem entry_main_arg1 (c : Dev nD) : entryContents preI m c (Proc.devRef .tc main_arg1) = m ((c.tc : Thread nD τ).loc main_arg1) := by
  simp only [entryContents, afterL_cons, afterL_nil]
  rw [after_of_writes_sub hostOps0_12 _ hostOps0_12_writes (by decide +kernel), after_of_writes_sub hostOps0_11 _ hostOps0_11_writes (by decide +kernel), after_of_writes_sub hostOps0_10 _ hostOps0_10_writes (by decide +kernel), after_of_writes_sub hostOps0_9 _ hostOps0_9_writes (by decide +kernel), after_of_writes_sub hostOps0_8 _ hostOps0_8_writes (by decide +kernel), after_of_writes_sub hostOps0_7 _ hostOps0_7_writes (by decide +kernel), after_of_writes_sub hostOps0_6 _ hostOps0_6_writes (by decide +kernel), after_of_writes_sub hostOps0_5 _ hostOps0_5_writes (by decide +kernel), after_of_writes_sub hostOps0_4 _ hostOps0_4_writes (by decide +kernel), after_of_writes_sub hostOps0_3 _ hostOps0_3_writes (by decide +kernel), after_of_writes_sub hostOps0_2 _ hostOps0_2_writes (by decide +kernel), after_of_writes_sub hostOps0_1 _ hostOps0_1_writes (by decide +kernel), after_of_writes_sub hostOps0 _ hostOps0_writes (by decide +kernel)]
/-- Nor does a trip of the loop. -/
theorem trips_main_arg1 (c : Dev nD) : ∀ k, atK m k c (Proc.devRef .tc main_arg1) = m ((c.tc : Thread nD τ).loc main_arg1)
  | 0 => entry_main_arg1 m c
  | k + 1 => by
    rw [show atK m (k + 1) c = afterL bodyI (after condOps (atK m k c)) from rfl]
    simp only [afterL_cons, afterL_nil]
    rw [after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub condOps _ condOps_writes (by decide +kernel), trips_main_arg1 c k]
/-- Nor does what follows the loop. -/
theorem final_main_arg1 (c : Dev nD) : finalContents condOps preI bodyI postI 17 m c (Proc.devRef .tc main_arg1) = m ((c.tc : Thread nD τ).loc main_arg1) := by
  simp only [finalContents, afterL_cons, afterL_nil]
  rw [after_of_writes_sub hostOps0_17 _ hostOps0_17_outs (by decide +kernel), after_of_writes_sub hostOps0_16 _ hostOps0_16_outs (by decide +kernel), after_of_writes_sub hostOps0_15 _ hostOps0_15_outs (by decide +kernel), after_of_writes_sub hostOps0_14 _ hostOps0_14_outs (by decide +kernel), after_of_writes_sub hostOps0_13 _ hostOps0_13_outs (by decide +kernel), after_of_writes_sub condOps _ condOps_writes (by decide +kernel)]
  exact trips_main_arg1 m c 17

/-- Nothing before the loop writes argument `main_arg2`. -/
theorem entry_main_arg2 (c : Dev nD) : entryContents preI m c (Proc.devRef .tc main_arg2) = m ((c.tc : Thread nD τ).loc main_arg2) := by
  simp only [entryContents, afterL_cons, afterL_nil]
  rw [after_of_writes_sub hostOps0_12 _ hostOps0_12_writes (by decide +kernel), after_of_writes_sub hostOps0_11 _ hostOps0_11_writes (by decide +kernel), after_of_writes_sub hostOps0_10 _ hostOps0_10_writes (by decide +kernel), after_of_writes_sub hostOps0_9 _ hostOps0_9_writes (by decide +kernel), after_of_writes_sub hostOps0_8 _ hostOps0_8_writes (by decide +kernel), after_of_writes_sub hostOps0_7 _ hostOps0_7_writes (by decide +kernel), after_of_writes_sub hostOps0_6 _ hostOps0_6_writes (by decide +kernel), after_of_writes_sub hostOps0_5 _ hostOps0_5_writes (by decide +kernel), after_of_writes_sub hostOps0_4 _ hostOps0_4_writes (by decide +kernel), after_of_writes_sub hostOps0_3 _ hostOps0_3_writes (by decide +kernel), after_of_writes_sub hostOps0_2 _ hostOps0_2_writes (by decide +kernel), after_of_writes_sub hostOps0_1 _ hostOps0_1_writes (by decide +kernel), after_of_writes_sub hostOps0 _ hostOps0_writes (by decide +kernel)]
/-- Nor does a trip of the loop. -/
theorem trips_main_arg2 (c : Dev nD) : ∀ k, atK m k c (Proc.devRef .tc main_arg2) = m ((c.tc : Thread nD τ).loc main_arg2)
  | 0 => entry_main_arg2 m c
  | k + 1 => by
    rw [show atK m (k + 1) c = afterL bodyI (after condOps (atK m k c)) from rfl]
    simp only [afterL_cons, afterL_nil]
    rw [after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub condOps _ condOps_writes (by decide +kernel), trips_main_arg2 c k]
/-- Nor does what follows the loop. -/
theorem final_main_arg2 (c : Dev nD) : finalContents condOps preI bodyI postI 17 m c (Proc.devRef .tc main_arg2) = m ((c.tc : Thread nD τ).loc main_arg2) := by
  simp only [finalContents, afterL_cons, afterL_nil]
  rw [after_of_writes_sub hostOps0_17 _ hostOps0_17_outs (by decide +kernel), after_of_writes_sub hostOps0_16 _ hostOps0_16_outs (by decide +kernel), after_of_writes_sub hostOps0_15 _ hostOps0_15_outs (by decide +kernel), after_of_writes_sub hostOps0_14 _ hostOps0_14_outs (by decide +kernel), after_of_writes_sub hostOps0_13 _ hostOps0_13_outs (by decide +kernel), after_of_writes_sub condOps _ condOps_writes (by decide +kernel)]
  exact trips_main_arg2 m c 17

/-- Nothing before the loop writes argument `main_arg3`. -/
theorem entry_main_arg3 (c : Dev nD) : entryContents preI m c (Proc.devRef .tc main_arg3) = m ((c.tc : Thread nD τ).loc main_arg3) := by
  simp only [entryContents, afterL_cons, afterL_nil]
  rw [after_of_writes_sub hostOps0_12 _ hostOps0_12_writes (by decide +kernel), after_of_writes_sub hostOps0_11 _ hostOps0_11_writes (by decide +kernel), after_of_writes_sub hostOps0_10 _ hostOps0_10_writes (by decide +kernel), after_of_writes_sub hostOps0_9 _ hostOps0_9_writes (by decide +kernel), after_of_writes_sub hostOps0_8 _ hostOps0_8_writes (by decide +kernel), after_of_writes_sub hostOps0_7 _ hostOps0_7_writes (by decide +kernel), after_of_writes_sub hostOps0_6 _ hostOps0_6_writes (by decide +kernel), after_of_writes_sub hostOps0_5 _ hostOps0_5_writes (by decide +kernel), after_of_writes_sub hostOps0_4 _ hostOps0_4_writes (by decide +kernel), after_of_writes_sub hostOps0_3 _ hostOps0_3_writes (by decide +kernel), after_of_writes_sub hostOps0_2 _ hostOps0_2_writes (by decide +kernel), after_of_writes_sub hostOps0_1 _ hostOps0_1_writes (by decide +kernel), after_of_writes_sub hostOps0 _ hostOps0_writes (by decide +kernel)]
/-- Nor does a trip of the loop. -/
theorem trips_main_arg3 (c : Dev nD) : ∀ k, atK m k c (Proc.devRef .tc main_arg3) = m ((c.tc : Thread nD τ).loc main_arg3)
  | 0 => entry_main_arg3 m c
  | k + 1 => by
    rw [show atK m (k + 1) c = afterL bodyI (after condOps (atK m k c)) from rfl]
    simp only [afterL_cons, afterL_nil]
    rw [after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub condOps _ condOps_writes (by decide +kernel), trips_main_arg3 c k]
/-- Nor does what follows the loop. -/
theorem final_main_arg3 (c : Dev nD) : finalContents condOps preI bodyI postI 17 m c (Proc.devRef .tc main_arg3) = m ((c.tc : Thread nD τ).loc main_arg3) := by
  simp only [finalContents, afterL_cons, afterL_nil]
  rw [after_of_writes_sub hostOps0_17 _ hostOps0_17_outs (by decide +kernel), after_of_writes_sub hostOps0_16 _ hostOps0_16_outs (by decide +kernel), after_of_writes_sub hostOps0_15 _ hostOps0_15_outs (by decide +kernel), after_of_writes_sub hostOps0_14 _ hostOps0_14_outs (by decide +kernel), after_of_writes_sub hostOps0_13 _ hostOps0_13_outs (by decide +kernel), after_of_writes_sub condOps _ condOps_writes (by decide +kernel)]
  exact trips_main_arg3 m c 17

/-- Nothing before the loop writes argument `main_arg4`. -/
theorem entry_main_arg4 (c : Dev nD) : entryContents preI m c (Proc.devRef .tc main_arg4) = m ((c.tc : Thread nD τ).loc main_arg4) := by
  simp only [entryContents, afterL_cons, afterL_nil]
  rw [after_of_writes_sub hostOps0_12 _ hostOps0_12_writes (by decide +kernel), after_of_writes_sub hostOps0_11 _ hostOps0_11_writes (by decide +kernel), after_of_writes_sub hostOps0_10 _ hostOps0_10_writes (by decide +kernel), after_of_writes_sub hostOps0_9 _ hostOps0_9_writes (by decide +kernel), after_of_writes_sub hostOps0_8 _ hostOps0_8_writes (by decide +kernel), after_of_writes_sub hostOps0_7 _ hostOps0_7_writes (by decide +kernel), after_of_writes_sub hostOps0_6 _ hostOps0_6_writes (by decide +kernel), after_of_writes_sub hostOps0_5 _ hostOps0_5_writes (by decide +kernel), after_of_writes_sub hostOps0_4 _ hostOps0_4_writes (by decide +kernel), after_of_writes_sub hostOps0_3 _ hostOps0_3_writes (by decide +kernel), after_of_writes_sub hostOps0_2 _ hostOps0_2_writes (by decide +kernel), after_of_writes_sub hostOps0_1 _ hostOps0_1_writes (by decide +kernel), after_of_writes_sub hostOps0 _ hostOps0_writes (by decide +kernel)]
/-- Nor does a trip of the loop. -/
theorem trips_main_arg4 (c : Dev nD) : ∀ k, atK m k c (Proc.devRef .tc main_arg4) = m ((c.tc : Thread nD τ).loc main_arg4)
  | 0 => entry_main_arg4 m c
  | k + 1 => by
    rw [show atK m (k + 1) c = afterL bodyI (after condOps (atK m k c)) from rfl]
    simp only [afterL_cons, afterL_nil]
    rw [after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub condOps _ condOps_writes (by decide +kernel), trips_main_arg4 c k]
/-- Nor does what follows the loop. -/
theorem final_main_arg4 (c : Dev nD) : finalContents condOps preI bodyI postI 17 m c (Proc.devRef .tc main_arg4) = m ((c.tc : Thread nD τ).loc main_arg4) := by
  simp only [finalContents, afterL_cons, afterL_nil]
  rw [after_of_writes_sub hostOps0_17 _ hostOps0_17_outs (by decide +kernel), after_of_writes_sub hostOps0_16 _ hostOps0_16_outs (by decide +kernel), after_of_writes_sub hostOps0_15 _ hostOps0_15_outs (by decide +kernel), after_of_writes_sub hostOps0_14 _ hostOps0_14_outs (by decide +kernel), after_of_writes_sub hostOps0_13 _ hostOps0_13_outs (by decide +kernel), after_of_writes_sub condOps _ condOps_writes (by decide +kernel)]
  exact trips_main_arg4 m c 17

/-- Nothing before the loop writes argument `main_arg5`. -/
theorem entry_main_arg5 (c : Dev nD) : entryContents preI m c (Proc.devRef .tc main_arg5) = m ((c.tc : Thread nD τ).loc main_arg5) := by
  simp only [entryContents, afterL_cons, afterL_nil]
  rw [after_of_writes_sub hostOps0_12 _ hostOps0_12_writes (by decide +kernel), after_of_writes_sub hostOps0_11 _ hostOps0_11_writes (by decide +kernel), after_of_writes_sub hostOps0_10 _ hostOps0_10_writes (by decide +kernel), after_of_writes_sub hostOps0_9 _ hostOps0_9_writes (by decide +kernel), after_of_writes_sub hostOps0_8 _ hostOps0_8_writes (by decide +kernel), after_of_writes_sub hostOps0_7 _ hostOps0_7_writes (by decide +kernel), after_of_writes_sub hostOps0_6 _ hostOps0_6_writes (by decide +kernel), after_of_writes_sub hostOps0_5 _ hostOps0_5_writes (by decide +kernel), after_of_writes_sub hostOps0_4 _ hostOps0_4_writes (by decide +kernel), after_of_writes_sub hostOps0_3 _ hostOps0_3_writes (by decide +kernel), after_of_writes_sub hostOps0_2 _ hostOps0_2_writes (by decide +kernel), after_of_writes_sub hostOps0_1 _ hostOps0_1_writes (by decide +kernel), after_of_writes_sub hostOps0 _ hostOps0_writes (by decide +kernel)]
/-- Nor does a trip of the loop. -/
theorem trips_main_arg5 (c : Dev nD) : ∀ k, atK m k c (Proc.devRef .tc main_arg5) = m ((c.tc : Thread nD τ).loc main_arg5)
  | 0 => entry_main_arg5 m c
  | k + 1 => by
    rw [show atK m (k + 1) c = afterL bodyI (after condOps (atK m k c)) from rfl]
    simp only [afterL_cons, afterL_nil]
    rw [after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub condOps _ condOps_writes (by decide +kernel), trips_main_arg5 c k]
/-- Nor does what follows the loop. -/
theorem final_main_arg5 (c : Dev nD) : finalContents condOps preI bodyI postI 17 m c (Proc.devRef .tc main_arg5) = m ((c.tc : Thread nD τ).loc main_arg5) := by
  simp only [finalContents, afterL_cons, afterL_nil]
  rw [after_of_writes_sub hostOps0_17 _ hostOps0_17_outs (by decide +kernel), after_of_writes_sub hostOps0_16 _ hostOps0_16_outs (by decide +kernel), after_of_writes_sub hostOps0_15 _ hostOps0_15_outs (by decide +kernel), after_of_writes_sub hostOps0_14 _ hostOps0_14_outs (by decide +kernel), after_of_writes_sub hostOps0_13 _ hostOps0_13_outs (by decide +kernel), after_of_writes_sub condOps _ condOps_writes (by decide +kernel)]
  exact trips_main_arg5 m c 17

/-- Nothing before the loop writes argument `main_arg6`. -/
theorem entry_main_arg6 (c : Dev nD) : entryContents preI m c (Proc.devRef .tc main_arg6) = m ((c.tc : Thread nD τ).loc main_arg6) := by
  simp only [entryContents, afterL_cons, afterL_nil]
  rw [after_of_writes_sub hostOps0_12 _ hostOps0_12_writes (by decide +kernel), after_of_writes_sub hostOps0_11 _ hostOps0_11_writes (by decide +kernel), after_of_writes_sub hostOps0_10 _ hostOps0_10_writes (by decide +kernel), after_of_writes_sub hostOps0_9 _ hostOps0_9_writes (by decide +kernel), after_of_writes_sub hostOps0_8 _ hostOps0_8_writes (by decide +kernel), after_of_writes_sub hostOps0_7 _ hostOps0_7_writes (by decide +kernel), after_of_writes_sub hostOps0_6 _ hostOps0_6_writes (by decide +kernel), after_of_writes_sub hostOps0_5 _ hostOps0_5_writes (by decide +kernel), after_of_writes_sub hostOps0_4 _ hostOps0_4_writes (by decide +kernel), after_of_writes_sub hostOps0_3 _ hostOps0_3_writes (by decide +kernel), after_of_writes_sub hostOps0_2 _ hostOps0_2_writes (by decide +kernel), after_of_writes_sub hostOps0_1 _ hostOps0_1_writes (by decide +kernel), after_of_writes_sub hostOps0 _ hostOps0_writes (by decide +kernel)]
/-- Nor does a trip of the loop. -/
theorem trips_main_arg6 (c : Dev nD) : ∀ k, atK m k c (Proc.devRef .tc main_arg6) = m ((c.tc : Thread nD τ).loc main_arg6)
  | 0 => entry_main_arg6 m c
  | k + 1 => by
    rw [show atK m (k + 1) c = afterL bodyI (after condOps (atK m k c)) from rfl]
    simp only [afterL_cons, afterL_nil]
    rw [after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub condOps _ condOps_writes (by decide +kernel), trips_main_arg6 c k]
/-- Nor does what follows the loop. -/
theorem final_main_arg6 (c : Dev nD) : finalContents condOps preI bodyI postI 17 m c (Proc.devRef .tc main_arg6) = m ((c.tc : Thread nD τ).loc main_arg6) := by
  simp only [finalContents, afterL_cons, afterL_nil]
  rw [after_of_writes_sub hostOps0_17 _ hostOps0_17_outs (by decide +kernel), after_of_writes_sub hostOps0_16 _ hostOps0_16_outs (by decide +kernel), after_of_writes_sub hostOps0_15 _ hostOps0_15_outs (by decide +kernel), after_of_writes_sub hostOps0_14 _ hostOps0_14_outs (by decide +kernel), after_of_writes_sub hostOps0_13 _ hostOps0_13_outs (by decide +kernel), after_of_writes_sub condOps _ condOps_writes (by decide +kernel)]
  exact trips_main_arg6 m c 17

/-- The reference terminates with its arguments unchanged and every semaphore at zero. -/
theorem frame : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h c main_arg0 (by decide +kernel)).trans (final_main_arg0 m c), (h c main_arg1 (by decide +kernel)).trans (final_main_arg1 m c), (h c main_arg2 (by decide +kernel)).trans (final_main_arg2 m c), (h c main_arg3 (by decide +kernel)).trans (final_main_arg3 m c), (h c main_arg4 (by decide +kernel)).trans (final_main_arg4 m c), (h c main_arg5 (by decide +kernel)).trans (final_main_arg5 m c), (h c main_arg6 (by decide +kernel)).trans (final_main_arg6 m c)⟩,
    Idealize.ShloMosaic.sem_eq_zero_of_no_sems (by decide) r.2⟩) (run_fold m ρ)

/-- The same run, with the result's contents named. -/
theorem run_result : θ_run (defs (F := F)) (onTc (τ := τ) (main (F := F))) ⟨m, fun _ => 0, ρ⟩
    (fun r => ∀ c : Dev nD,
      r.2.mem ((c.tc : Thread nD τ).loc main_v100) = finalContents condOps preI bodyI postI 17 m c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c main_v100 (by decide +kernel), (h c main_arg0 (by decide +kernel)).trans (final_main_arg0 m c), (h c main_arg1 (by decide +kernel)).trans (final_main_arg1 m c), (h c main_arg2 (by decide +kernel)).trans (final_main_arg2 m c), (h c main_arg3 (by decide +kernel)).trans (final_main_arg3 m c), (h c main_arg4 (by decide +kernel)).trans (final_main_arg4 m c), (h c main_arg5 (by decide +kernel)).trans (final_main_arg5 m c), (h c main_arg6 (by decide +kernel)).trans (final_main_arg6 m c)⟩) (run_fold m ρ)

end Cert.ReferenceIdeal.Ref
-- ==== Proof.InProj.lean ====
/-
  The input projection: what the tiled kernel leaves in its result is the reference's product.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.StableHlo.RunRead
public import Idealize.ShloMosaic.Lib.Quiescent

@[expose] public section

set_option maxRecDepth 16384

noncomputable section

namespace Cert.Kernel2Ideal.InProj

open Idealize.ShloMosaic Idealize.ShloMosaic.TcCoe Idealize.SL.Sem
open Idealize.ShloMosaic.Pipeline (Dat)
open Cert.Kernel2Ideal Cert.Kernel2Ideal.Gen Cert.Kernel2Ideal.Value

variable (m : (ℓ : Loc nD τ sig) → Buf (Elt Ideal) ℓ)

/-- The reference's product of the hidden rows and the first columns of the weights. -/
def product (h : FVec Ideal S17408x2048 .bf16) (w : FVec Ideal S2048x20544 .f32) : FVec Ideal Cert.Reference2Ideal.S17408x16384 .bf16 :=
  truncf .bf16 (Host.dotGeneral Cert.Reference2Ideal.dot_S17408x2048_S2048x16384_S17408x16384_1_0_0_1_n_n none
    (extf .f32 h Cert.Reference2Ideal.Gen.bitsLt_bf16_f32)
    (extractStridedSlice Cert.Reference2Ideal.S2048x16384 ![0, 0] w Cert.Reference2Ideal.Gen.slices_S2048x20544_S2048x16384_0_0))
    Cert.Reference2Ideal.Gen.bitsLt_bf16_f32

theorem idx : ∀ t : Fin cfg0.N, win0_0.index t = ![t.val % 17, 0] ∧ win0_1.index t = ![0, t.val / 17]
    ∧ win0_2.index t = ![t.val % 17, t.val / 17] ∧ t.val / 17 < 8 :=
  (by decide +kernel : ∀ t : Fin grid0.N, _)

/-- The weights the region finds: the argument, its format changed. -/
theorem V_weights (c : Dev nD) : V m c main_v0 = (truncf .bf16 (m ((c : Thread nD τ).loc main_arg1) : FVec Ideal S2048x20544 .f32) Cert.Kernel2Ideal.Gen.bitsLt_bf16_f32 : FVec Ideal S2048x20544 .bf16) := by
  unfold V; simp only [hostOps0]; after_results

/-- The second block as the body reads it, entry by entry. -/
theorem X0_1_at (c : Dev nD) (t : Fin cfg0.N) (k : Fin 2048) (j : Fin 2048) :
    X0_1 m c t (ix2 k j) = m ((c : Thread nD τ).loc main_arg1) (ix2 ⟨k, by omega⟩ ⟨t.val / 17 * 2048 + j, by have := (idx t).2.2.2; omega⟩) := by
  unfold X0_1 Pipeline.Window.fill
  rw [dif_pos (moved0_1 t _)]
  blk_simp [iblk]
  erw [V_weights]
  pointwise
  blk_ext [idx t]

/-- One entry of what a grid point stores. -/
theorem point (c : Dev nD) (t : Fin cfg0.N) (y : S1024x2048.Idx) :
    outsAt0 m c t y = product (m ((c : Thread nD τ).loc main_arg0)) (m ((c : Thread nD τ).loc main_arg1)) (((cfg0.win 2).blk t).view.emb y) := by
  unfold outsAt0
  frame_out
  pointwise [k0_pay1, product]
  refine Finset.sum_congr rfl fun k _ => ?_
  have hX := X0_1_at m c t k (y 1)
  refine congr (congrArg HMul.hMul ?_) (hX.trans ?_)
  · blk_ext [iblk, V, idx t]
  · blk_ext [idx t]

/-- The result array after the run. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]
  exact point m c t y

/-- The reference terminates with its arguments unchanged and every semaphore at zero. -/
theorem reference_frame {F : FTy → Type} [FloatOps F] (m : (ℓ : Loc Cert.Reference2Ideal.nD Cert.Reference2Ideal.τ Cert.Reference2Ideal.sig) → Buf (Elt F) ℓ)
    (ρ : Dev Cert.Reference2Ideal.nD → PrngReg) :
    θ_run (Cert.Reference2Ideal.defs (F := F)) (onTc (τ := Cert.Reference2Ideal.τ) (Cert.Reference2Ideal.main (F := F))) ⟨m, fun _ => 0, ρ⟩ (fun r =>
      (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run _ _ _).mono (fun r h => ⟨fun c => ⟨(h c).2.1, (h c).2.2⟩,
    Idealize.ShloMosaic.sem_eq_zero_of_no_sems (by decide) r.2⟩) (Cert.Reference2Ideal.Value.run m ρ)

/-- Kernel and reference end with equal results. -/
theorem algebraic : algebraic_Kernel2Ideal_Reference2Ideal := by
  intro m g m' g' _ hagree
  refine ⟨_, (θ_run _ _ _).mono (fun r h c => ⟨(h c).1.trans (final m c), (h c).2⟩) (run_blocks m g), ?_⟩
  refine (θ_run _ _ _).mono (fun r h c => ⟨(h c).1.trans ?_, (h c).2⟩) (Cert.Reference2Ideal.Value.run m' g')
  rw [(hagree c).1, (hagree c).2]
  rfl

end Cert.Kernel2Ideal.InProj
-- ==== Proof.MoePathP.lean ====
/-
  The experts' kernel, one grid point: what each way through the body leaves, named.
-/
module

public import proofs.«01_k».proof.Proof.Gen.Kernel3.Flash.Runs
public import proofs.«01_k».proof.Proof.Gen.Kernel3.Launch
public import Idealize.ShloMosaic.Lib.Pipeline.ValueKit
public import Idealize.ShloMosaic.Lib.VecWindow
public import Idealize.ShloMosaic.Lib.Pipeline.TableIdle

@[expose] public section

set_option maxRecDepth 16384

noncomputable section

namespace Cert.Kernel3.Moe

open Idealize.ShloMosaic Idealize.ShloMosaic.TcCoe Idealize.SL.Sem
open Cert.Kernel3 Cert.Kernel3.Gen

/-- Both words set is the test of the first and the third branch; -/
theorem both_word : ∀ b z : BitVec 1, (Scalar.cmpi .ne (Scalar.extui (Scalar.andi b z) : BitVec 32) 0#32 = 1#1) ↔ (b = 1#1 ∧ z = 1#1) := by decide
/-- one word set, of the second; -/
theorem one_word : ∀ b : BitVec 1, (Scalar.cmpi .ne (Scalar.extui b : BitVec 32) 0#32 = 1#1) ↔ b = 1#1 := by decide
/-- the first clear and the second set, of the last. -/
theorem clear_word : ∀ b z : BitVec 1, (Scalar.cmpi .ne (Scalar.extui (Scalar.andi (Scalar.xori b 1#1) z) : BitVec 32) 0#32 = 1#1) ↔ (b ≠ 1#1 ∧ z = 1#1) := by decide

/-- The word the body reads of the second table. -/
abbrev cnt (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

/-- The tile of a grid point is one of those in use. -/
abbrev InUse (T1 : S1.Idx → Elt Bits .i32) (i : grid0.Coords) : Prop := Scalar.cmpi .slt (BitVec.ofNat 32 (i 0).val) (cnt T1) = 1#1

theorem first_word : ∀ i : grid0.Coords, (Scalar.cmpi .eq (BitVec.ofNat 32 (i 1).val) 0#32 = 1#1) ↔ (i 1).val = 0 := by
  intro i
  exact (by decide +kernel : ∀ f : Fin 7, (Scalar.cmpi .eq (BitVec.ofNat 32 f.val) 0#32 = 1#1) ↔ f.val = 0) (i 1)
theorem last_word : ∀ i : grid0.Coords, (Scalar.cmpi .eq (BitVec.ofNat 32 (i 1).val) 6#32 = 1#1) ↔ (i 1).val = 6 := by
  intro i
  exact (by decide +kernel : ∀ f : Fin 7, (Scalar.cmpi .eq (BitVec.ofNat 32 f.val) 6#32 = 1#1) ↔ f.val = 6) (i 1)

variable (T1 : S1.Idx → Elt Bits .i32) (i : grid0.Coords)

theorem start_iff : (Scalar.cmpi .ne (Scalar.extui (Scalar.andi (Scalar.cmpi .slt (BitVec.ofNat 32 (i 0).val) (cnt T1)) (Scalar.cmpi .eq (BitVec.ofNat 32 (i 1).val) 0#32))) 0#32 = 1#1)
    ↔ InUse T1 i ∧ (i 1).val = 0 := (both_word _ _).trans (and_congr Iff.rfl (first_word i))
theorem step_iff : (Scalar.cmpi .ne (Scalar.extui (Scalar.cmpi .slt (BitVec.ofNat 32 (i 0).val) (cnt T1))) 0#32 = 1#1) ↔ InUse T1 i := one_word _
theorem store_iff (w : BitVec 32) : k0_cond3 i w = 1#1 ↔ Scalar.cmpi .slt (BitVec.ofNat 32 (i 0).val) w = 1#1 ∧ (i 1).val = 6 :=
  (both_word _ _).trans (and_congr Iff.rfl (last_word i))
theorem clear_iff (w : BitVec 32) : k0_cond4 i w = 1#1 ↔ ¬ Scalar.cmpi .slt (BitVec.ofNat 32 (i 0).val) w = 1#1 ∧ (i 1).val = 0 :=
  (clear_word _ _).trans (and_congr Iff.rfl (first_word i))

section
variable (c : Dev nD) (arg4 : Memref sig .tc .vmem S512x2048 .bf16) (harg4 : arg4.IsWhole)
  (arg5 : Memref sig .tc .vmem S1x2048x1024 .bf16) (harg5 : arg5.IsWhole) (arg6 : Memref sig .tc .vmem S1x2048x1024 .bf16) (harg6 : arg6.IsWhole)
  (arg7 : Memref sig .tc .vmem S1x1024x2048 .bf16) (harg7 : arg7.IsWhole) (arg8 : Memref sig .tc .vmem S512x2048 .f32) (harg8 : arg8.IsWhole)
  (T0 : S72.Idx → Elt Bits .i32) (x0 : S512x2048.Idx → Elt Bits .bf16) (x1 x2 : S1x2048x1024.Idx → Elt Bits .bf16)
  (x3 : S1x1024x2048.Idx → Elt Bits .bf16) (xa : S512x2048.Idx → Elt Bits .f32)

/-- The last store, over the whole scratch, leaves what it stores. -/
theorem scratch_store (f : (scM0_0).view.ty.Contents (Elt Bits)) (w : S512x2048.Idx → Elt Bits .f32) (L : List (View.Piece (Elt Bits) S512x2048 .f32)) :
    (scM0_0).view.read (Elt Bits) ((scM0_0).view.writes (Elt Bits) f (⟨Rect.unit ![0, 0] S512x2048.size inb_S512x2048_S512x2048_0_0, w⟩ :: L)) = w :=
  View.read_writes_full (scM0_0).view f inb_S512x2048_S512x2048_0_0 w L

theorem scratch_read (f : Buf (Elt Bits) ((c : Thread nD τ).loc cc0_scratch0)) : (scM0_0).view.read (Elt Bits) f = f := rfl

/-- A tile in use, first step: the sum begins at zero. -/
theorem runA_eq (h0 h1 h2 h3) : (scM0_0).view.read (Elt Bits) (kernelRun0_A c i arg4 harg4 arg5 harg5 arg6 harg6 arg7 harg7 arg8 harg8 T0 T1 x0 x1 x2 x3 h0 h1 h2 h3).1
    = k0_pay2 (F := Bits) (k0_pay1 (F := Bits)) x0 x1 x2 x3 := by
  frame_out
  simp only [View.read_rep]

/-- A later step adds to it. -/
theorem runB_eq (h0 h1 h2 h3) : (scM0_0).view.read (Elt Bits) (kernelRun0_B c i arg4 harg4 arg5 harg5 arg6 harg6 arg7 harg7 arg8 harg8 T0 T1 x0 x1 x2 x3 xa h0 h1 h2 h3).1
    = k0_pay2 (F := Bits) xa x0 x1 x2 x3 := by
  frame_out
  simp only [View.read_rep]
  rfl

/-- So does the last, -/
theorem runC_eq (h0 h1 h2 h3) : (scM0_0).view.read (Elt Bits) (kernelRun0_C c i arg4 harg4 arg5 harg5 arg6 harg6 arg7 harg7 arg8 harg8 T0 T1 x0 x1 x2 x3 xa h0 h1 h2 h3).2.1
    = k0_pay2 (F := Bits) xa x0 x1 x2 x3 := by
  frame_out
  simp only [View.read_rep]
  rfl

/-- which copies it out. -/
theorem outC_eq (h0 h1 h2 h3) : out0_C_4 c i arg4 harg4 arg5 harg5 arg6 harg6 arg7 harg7 arg8 harg8 T0 T1 x0 x1 x2 x3 xa h0 h1 h2 h3
    = k0_pay2 (F := Bits) xa x0 x1 x2 x3 := by
  frame_out
  simp only [View.read_rep]
  rfl

/-- A tile not in use, first step: the sum stays, -/
theorem runD_eq (h0 h1 h2 h3) : (kernelRun0_D c i arg4 harg4 arg5 harg5 arg6 harg6 arg7 harg7 arg8 harg8 T0 T1 x0 x1 x2 x3 xa h0 h1 h2 h3).2.1 = xa := by
  rfl

/-- and zeros go out. -/
theorem outD_eq (h0 h1 h2 h3) : out0_D_4 c i arg4 harg4 arg5 harg5 arg6 harg6 arg7 harg7 arg8 harg8 T0 T1 x0 x1 x2 x3 xa h0 h1 h2 h3
    = k0_pay3 (F := Bits) := by
  frame_out

/-- Its later steps do nothing. -/
theorem runE_eq (h0 h1 h2 h3) : (kernelRun0_E c i arg4 harg4 arg5 harg5 arg6 harg6 arg7 harg7 arg8 harg8 T0 T1 x0 x1 x2 x3 xa h0 h1 h2 h3).1 = xa := by
  rfl
end

end Cert.Kernel3.Moe

end
-- ==== Proof.MoeLaunchP.lean ====
/-
  The experts' kernel launched at the tables it is given: at every grid point the body runs its way, the scratch
  carries the running sum over the seven blocks of a tile in use, the write-back leaves that sum, and zeros for a
  tile not in use.
-/
module

public import proofs.«01_k».proof.Proof.MoePathP
public import proofs.«01_k».proof.Defs
public import Idealize.ShloMosaic.Lib.Pipeline.FrameBody
public import Idealize.ShloMosaic.Lib.Pipeline.Launch
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Kernel3.Moe

open Idealize.ShloMosaic Idealize.ShloMosaic.TcCoe Idealize.ShloMosaic.Tactic
open Cert.Kernel3 Cert.Kernel3.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The launch's algebra: the rounds of the staging cells. -/
abbrev EP : Emb (UR sig nD τ) 𝕄 := emb₁

variable (a : (pcfg0 (F := Bits)).Adm)
variable (m : (ℓ : Loc nD τ sig) → Buf (Elt Bits) ℓ) (ρ : Dev nD → PrngReg)

/-- The pipeline at the tables `a`. -/
abbrev cfgA : Pipeline.Cfg sig Λ₀ := cfg0 (F := Bits) a
abbrev pcs : Fin 1 → Pipeline.Cfg sig Λ₀ := Pipeline.pin (pcfgs (F := Bits)) fun _ => a

abbrev crd (t : Fin (cfgA a).N) : grid0.Coords := grid0.coords t

abbrev ms0_0 (t : Fin (cfgA a).N) : Memref sig .tc .vmem S512x2048 .bf16 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x2048x1024 .bf16 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x2048x1024 .bf16 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x1024x2048 .bf16 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S512x2048 .f32 := spec0_4.stage ((cfgA a).slots t (4 : Fin 5))
abbrev hs0_4 (t : Fin (cfgA a).N) : (ms0_4 a t).IsWhole := hstage0_4 (((cfgA a).slots t (4 : Fin 5)).cast nbuf0_4)

/-- A window's block at a point, read off its array at launch. -/
def iblk (c : Dev nD) (w : Fin (cfgA a).W) (t : Fin (cfgA a).N) : (((cfgA a).win w).xblock ((cfgA a).grid.coords t)).Idx → Elt Bits ((cfgA a).win w).elt :=
  (((cfgA a).win w).blk t).view.read (Elt Bits) ((s₀ m ρ).mem (((cfgA a).win w).arr.view.loc (c : Thread nD τ)))

/-! ## The schedule -/

theorem crd_tile : ∀ t : Fin grid0.N, (grid0.coords t 0).val = t.val / 7 := by decide +kernel
theorem crd_step : ∀ t : Fin grid0.N, (grid0.coords t 1).val = t.val % 7 := by decide +kernel

/-- Tile `n` is one of those in use. -/
abbrev UseAt (n : ℕ) : Prop := Scalar.cmpi .slt (BitVec.ofNat 32 n) (cnt (a.1 1)) = 1#1

theorem inUse_iff (t : Fin grid0.N) : InUse (a.1 1) (grid0.coords t) ↔ UseAt a (t.val / 7) := by
  unfold InUse UseAt; rw [crd_tile t]

theorem cnt_eq : a.1.atD 1 ![0] = cnt (a.1 1) := rfl

/-- The result's window stores at the last step of a tile in use and at the first of one not in use. -/
theorem idle4_iff (t : Fin grid0.N) : (cfgA a).idle (4 : Fin 5) ((cfgA a).grid.coords t) = false
    ↔ (UseAt a (t.val / 7) ∧ t.val % 7 = 6) ∨ (¬ UseAt a (t.val / 7) ∧ t.val % 7 = 0) := by
  rw [← inUse_iff, ← crd_step t]
  show (!(k0_cond3 (grid0.coords t) (a.1.atD 1 ![0]) == 1#1) && !(k0_cond4 (grid0.coords t) (a.1.atD 1 ![0]) == 1#1)) = false ↔ _
  rw [cnt_eq, Bool.and_eq_false_iff, Bool.not_eq_false', Bool.not_eq_false', beq_iff_eq, beq_iff_eq, store_iff, clear_iff]

/-- It is written back at a tile's last step. -/
theorem flush4 : ∀ t : Fin grid0.N, ((cfgA a).win (4 : Fin 5)).flush t = decide (t.val % 7 = 6) := by
  intro t
  rw [Window.flush_eq_flushF]
  exact (by decide +kernel : ∀ t : Fin grid0.N, (true && (decide (t.val + 1 = grid0.N) || decide (∃ h : t.val + 1 < grid0.N, ∃ x, cc0_transform_4 (grid0.coords ⟨t.val + 1, h⟩) x ≠ cc0_transform_4 (grid0.coords t) x))) = decide (t.val % 7 = 6)) t

/-- Its buffer holds nothing of the tile: at the first step, and throughout a tile in use. -/
def tab4 (n : ℕ) : Bool := decide (n % 7 = 0 ∨ UseAt a (n / 7))

theorem tab4_step (t : Fin grid0.N) : tab4 a (t.val + 1) = (((cfgA a).win (4 : Fin 5)).flush t || ((cfgA a).idle (4 : Fin 5) ((cfgA a).grid.coords t) && tab4 a t.val)) := by
  rw [flush4]
  have hi := idle4_iff a t
  unfold tab4
  by_cases h6 : t.val % 7 = 6
  · have : (t.val + 1) % 7 = 0 := by omega
    simp [h6, this]
  · have h0 : (t.val + 1) % 7 ≠ 0 := by omega
    have hd : (t.val + 1) / 7 = t.val / 7 := by omega
    rw [hd]
    by_cases hu : UseAt a (t.val / 7)
    · have : (cfgA a).idle (4 : Fin 5) ((cfgA a).grid.coords t) = true := by
        rw [← Bool.not_eq_false, hi]; rintro (⟨_, h⟩ | ⟨h, _⟩)
        · exact h6 h
        · exact h hu
      rw [this]
      rw [decide_eq_true (show (t.val + 1) % 7 = 0 ∨ UseAt a (t.val / 7) from .inr hu), decide_eq_true (show t.val % 7 = 0 ∨ UseAt a (t.val / 7) from .inr hu)]
      simp
    · by_cases hz : t.val % 7 = 0
      · have : (cfgA a).idle (4 : Fin 5) ((cfgA a).grid.coords t) = false := hi.2 (.inr ⟨hu, hz⟩)
        rw [this]
        simp only [h0, hu, h6, _root_.or_self, decide_false, Bool.false_or, Bool.false_and]
      · simp only [h0, hu, h6, hz, _root_.or_self, decide_false, Bool.false_or, Bool.and_false]

theorem fresh4 (t : Fin grid0.N) : (cfgA a).fresh (4 : Fin 5) t.val = decide (t.val % 7 = 0 ∨ UseAt a (t.val / 7)) :=
  Pipeline.Cfg.fresh_tab (cfgA a) (4 : Fin 5) (tab4 a) (by unfold tab4; simp) (tab4_step a) t.val (Nat.le_of_lt t.isLt)

/-! ## The running sum -/

/-- The running sum after point `n`: started anew at a tile's first step. -/
def acc (c : Dev nD) : (n : ℕ) → n < grid0.N → (S512x2048.Idx → Elt Bits .f32)
  | 0, h => k0_pay2 (F := Bits) (k0_pay1 (F := Bits)) (iblk a m ρ c (0 : Fin 5) ⟨0, h⟩) (iblk a m ρ c (1 : Fin 5) ⟨0, h⟩) (iblk a m ρ c (2 : Fin 5) ⟨0, h⟩) (iblk a m ρ c (3 : Fin 5) ⟨0, h⟩)
  | n + 1, h => k0_pay2 (F := Bits) (if (n + 1) % 7 = 0 then k0_pay1 (F := Bits) else acc c n (Nat.lt_of_succ_lt h))
      (iblk a m ρ c (0 : Fin 5) ⟨n + 1, h⟩) (iblk a m ρ c (1 : Fin 5) ⟨n + 1, h⟩) (iblk a m ρ c (2 : Fin 5) ⟨n + 1, h⟩) (iblk a m ρ c (3 : Fin 5) ⟨n + 1, h⟩)

/-- The sum before position `n`. -/
def accBefore (c : Dev nD) (n : ℕ) (h : n ≤ grid0.N) : (S512x2048.Idx → Elt Bits .f32) :=
  if h0 : n = 0 then k0_pay1 (F := Bits) else acc a m ρ c (n - 1) (by omega)

theorem acc_first (c : Dev nD) (t : Fin grid0.N) (h : t.val % 7 = 0) : acc a m ρ c t.val t.isLt
    = k0_pay2 (F := Bits) (k0_pay1 (F := Bits)) (iblk a m ρ c (0 : Fin 5) t) (iblk a m ρ c (1 : Fin 5) t) (iblk a m ρ c (2 : Fin 5) t) (iblk a m ρ c (3 : Fin 5) t) := by
  obtain ⟨n, hn⟩ := t
  cases n with
  | zero => rfl
  | succ n => unfold acc; rw [if_pos h]

theorem acc_next (c : Dev nD) (t : Fin grid0.N) (h : t.val % 7 ≠ 0) : acc a m ρ c t.val t.isLt
    = k0_pay2 (F := Bits) (accBefore a m ρ c t.val (Nat.le_of_lt t.isLt)) (iblk a m ρ c (0 : Fin 5) t) (iblk a m ρ c (1 : Fin 5) t) (iblk a m ρ c (2 : Fin 5) t) (iblk a m ρ c (3 : Fin 5) t) := by
  obtain ⟨n, hn⟩ := t
  cases n with
  | zero => exact absurd rfl h
  | succ n => unfold acc accBefore; rw [if_neg h, dif_neg (Nat.succ_ne_zero n)]; rfl

theorem accBefore_succ (c : Dev nD) (t : Fin grid0.N) : accBefore a m ρ c (t.val + 1) t.isLt = acc a m ρ c t.val t.isLt := by
  unfold accBefore; rw [dif_neg (Nat.succ_ne_zero _)]; rfl

/-- The scratch holds the tile's sum before position `n`: the tile is in use and its first step is done. -/
abbrev Held (n : ℕ) : Prop := n % 7 ≠ 0 ∧ UseAt a (n / 7)

theorem not_held_succ (t : Fin grid0.N) (hu : ¬ UseAt a (t.val / 7)) : ¬ Held a (t.val + 1) := by
  rintro ⟨h, h'⟩
  exact hu (by rwa [show (t.val + 1) / 7 = t.val / 7 by omega] at h')

/-- Before a point: the scratch at the tile's sum once there is one, and the body's halves of the tables. -/
def Phi (c : Dev nD) (t : Fin ((cfgA a).N + 1)) : sProp 𝕄 :=
  iprop((∃ d, ⌜Held a t.val → d = accBefore a m ρ c t.val (Nat.le_of_lt_succ t.isLt)⌝ ∗ (scM0_0.view.loc (c : Thread nD τ) ↦{fullShare} d))
    ∗ (tbM0_0.view.loc (c : Thread nD τ) ↦{fullShare.right} a.1 0) ∗ (tbM0_1.view.loc (c : Thread nD τ) ↦{fullShare.right} a.1 1))

/-- What the result's buffer holds after a point, as far as it matters: the tile's sum, or zeros. -/
def out4 (c : Dev nD) (t : Fin grid0.N) : (S512x2048.Idx → Elt Bits .f32) :=
  if UseAt a (t.val / 7) then acc a m ρ c t.val t.isLt else k0_pay3 (F := Bits)

/-- The launch's data on a core. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => out4 a m ρ c t
  Φ t := Phi a m ρ c t
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = out4 a m ρ c t := rfl

theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- A step that stores nothing leaves what the step before left. -/
theorem carry4 (c : Dev nD) : ∀ (t : Fin (cfgA a).N) (ht : t.val ≠ 0), (cfgA a).idle (4 : Fin 5) ((cfgA a).grid.coords t) = true → (cfgA a).fresh (4 : Fin 5) t.val = false →
    (dats a m ρ 0 c).after (4 : Fin 5) t = (dats a m ρ 0 c).after (4 : Fin 5) ⟨t.val - 1, by omega⟩ := by
  intro t ht _ hf
  rw [fresh4 a t, decide_eq_false_iff_not, not_or] at hf
  rw [after0_4, after0_4]
  unfold out4
  rw [if_neg hf.2, if_neg (by rw [show (t.val - 1) / 7 = t.val / 7 by omega]; exact hf.2)]

theorem before0_4 (c : Dev nD) (t : Fin (cfgA a).N) (d) :
    (dats a m ρ 0 c).before (4 : Fin 5) t d = if (cfgA a).fresh (4 : Fin 5) t.val then d else k0_pay3 (F := Bits) := by
  rw [(dats a m ρ 0 c).before_out_traj (4 : Fin 5) rfl (fun _ _ => rfl) (carry4 a m ρ c) t.val t rfl d]
  by_cases hf : (cfgA a).fresh (4 : Fin 5) t.val = true
  · simp only [hf, ↓reduceIte]
  · rw [if_neg hf, if_neg hf, after0_4]
    rw [fresh4 a t, decide_eq_true_iff, not_or] at hf
    unfold out4
    rw [if_neg (by rw [show (t.val - 1) / 7 = t.val / 7 by omega]; exact hf.2)]

/-- The body at a point, as the pipeline calls it. -/
abbrev bodyAt0 (t : Fin (cfgA a).N) : Prog (TpuEff nD τ sig (Elt Bits) Λ₀ .tc) PUnit :=
  cc0_ffn_moe (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _)

/-- What the body is handed at a point, -/
abbrev Given (c : Dev nD) (t : Fin (cfgA a).N) : sProp 𝕄 :=
  iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
/-- and what it hands back. -/
abbrev Back (c : Dev nD) (t : Fin (cfgA a).N) : sProp 𝕄 :=
  iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t))

set_option maxHeartbeats 4000000 in
theorem sound_A (c : Dev nD) (t : Fin (cfgA a).N) (hu : UseAt a (t.val / 7)) (hz : t.val % 7 = 0) :
    Given a m ρ c t ⊢ wp frame (wpE (defs₀ (F := Bits)) Variants.none c none) Set.univ (bodyAt0 a t) fun _ => Back a m ρ c t := by
  unfold Given Back
  rw [bigSep_W0]
  have hU : InUse (a.1 1) (crd a t) := (inUse_iff a t).2 hu
  have hs : ((crd a t) 1).val = t.val % 7 := crd_step t
  have i4 : (cfgA a).idle (4 : Fin 5) ((cfgA a).grid.coords t) = true := by
    rw [← Bool.not_eq_false, idle4_iff]; rintro (⟨h, h'⟩ | ⟨h, h'⟩) <;> first | exact h hu | exact hu h | omega
  have f4 : ((cfgA a).win (4 : Fin 5)).flush t = false := by rw [flush4]; exact decide_eq_false (by omega)
  have fr4 : (cfgA a).fresh (4 : Fin 5) t.val = true := by rw [fresh4]; exact decide_eq_true (.inl hz)
  have hc0 := (start_iff (a.1 1) (crd a t)).2 ⟨hU, by omega⟩
  have hc1 := (step_iff (a.1 1) (crd a t)).2 hU
  have k0_h3 : ¬ k0_cond3 (crd a t) (cnt (a.1 1)) = 1#1 := fun h => by have := ((store_iff (crd a t) _).1 h).2; omega
  have k0_h4 : ¬ k0_cond4 (crd a t) (cnt (a.1 1)) = 1#1 := fun h => ((clear_iff (crd a t) _).1 h).1 hU
  have hnext := (acc_first a m ρ c t hz).symm.trans (accBefore_succ a m ρ c t).symm
  rewrite [i4]
  simp only [before0_0, before0_1, before0_2, before0_3, before0_4, after0_0, after0_1, after0_2, after0_3, f4]
  simp only [fr4, Bool.false_eq_true, ↓reduceIte]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨⟨%a0, -, HS0⟩, HT0, HT1⟩, Ho, ⟨%d0, H0⟩, ⟨%d1, H1⟩, ⟨%d2, H2⟩, ⟨%d3, H3⟩, ⟨%d4, H4⟩⟩
  iapply ((kernelRun0_A c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) hc0 hc1 k0_h3 k0_h4).2 _ a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro; intro _; exact ((scratch_read c _).symm.trans (runA_eq ..)).trans hnext
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  first | (iexists d4; iexact H4) | iexact H4

set_option maxHeartbeats 4000000 in
theorem sound_B (c : Dev nD) (t : Fin (cfgA a).N) (hu : UseAt a (t.val / 7)) (hz : t.val % 7 ≠ 0 ∧ t.val % 7 ≠ 6) :
    Given a m ρ c t ⊢ wp frame (wpE (defs₀ (F := Bits)) Variants.none c none) Set.univ (bodyAt0 a t) fun _ => Back a m ρ c t := by
  unfold Given Back
  rw [bigSep_W0]
  have hU : InUse (a.1 1) (crd a t) := (inUse_iff a t).2 hu
  have hs : ((crd a t) 1).val = t.val % 7 := crd_step t
  have i4 : (cfgA a).idle (4 : Fin 5) ((cfgA a).grid.coords t) = true := by
    rw [← Bool.not_eq_false, idle4_iff]; rintro (⟨h, h'⟩ | ⟨h, h'⟩) <;> first | exact h hu | exact hu h | omega
  have f4 : ((cfgA a).win (4 : Fin 5)).flush t = false := by rw [flush4]; exact decide_eq_false (by omega)
  have fr4 : (cfgA a).fresh (4 : Fin 5) t.val = true := by rw [fresh4]; exact decide_eq_true (.inr hu)
  have hc0 := fun h => (by have := ((start_iff (a.1 1) (crd a t)).1 h).2; omega : False)
  have hc1 := (step_iff (a.1 1) (crd a t)).2 hU
  have k0_h3 : ¬ k0_cond3 (crd a t) (cnt (a.1 1)) = 1#1 := fun h => by have := ((store_iff (crd a t) _).1 h).2; omega
  have k0_h4 : ¬ k0_cond4 (crd a t) (cnt (a.1 1)) = 1#1 := fun h => ((clear_iff (crd a t) _).1 h).1 hU
  have hheld : Held a t.castSucc.val := ⟨show t.val % 7 ≠ 0 by omega, hu⟩
  have hnext := (acc_next a m ρ c t (by omega)).symm.trans (accBefore_succ a m ρ c t).symm
  rewrite [i4]
  simp only [before0_0, before0_1, before0_2, before0_3, before0_4, after0_0, after0_1, after0_2, after0_3, f4]
  simp only [fr4, Bool.false_eq_true, ↓reduceIte]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [exists_held hheld]
  iintro ⟨⟨HS0, HT0, HT1⟩, Ho, ⟨%d0, H0⟩, ⟨%d1, H1⟩, ⟨%d2, H2⟩, ⟨%d3, H3⟩, ⟨%d4, H4⟩⟩
  iapply ((kernelRun0_B c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) _ hc0 hc1 k0_h3 k0_h4).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro; intro _; exact ((scratch_read c _).symm.trans (runB_eq ..)).trans hnext
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  first | (iexists d4; iexact H4) | iexact H4

set_option maxHeartbeats 4000000 in
theorem sound_C (c : Dev nD) (t : Fin (cfgA a).N) (hu : UseAt a (t.val / 7)) (hz : t.val % 7 = 6) :
    Given a m ρ c t ⊢ wp frame (wpE (defs₀ (F := Bits)) Variants.none c none) Set.univ (bodyAt0 a t) fun _ => Back a m ρ c t := by
  unfold Given Back
  rw [bigSep_W0]
  have hU : InUse (a.1 1) (crd a t) := (inUse_iff a t).2 hu
  have hs : ((crd a t) 1).val = t.val % 7 := crd_step t
  have i4 : (cfgA a).idle (4 : Fin 5) ((cfgA a).grid.coords t) = false := by
    rw [idle4_iff]; exact .inl ⟨hu, hz⟩
  have f4 : ((cfgA a).win (4 : Fin 5)).flush t = true := by rw [flush4]; exact decide_eq_true (by omega)
  have fr4 : (cfgA a).fresh (4 : Fin 5) t.val = true := by rw [fresh4]; exact decide_eq_true (.inr hu)
  have hc0 := fun h => (by have := ((start_iff (a.1 1) (crd a t)).1 h).2; omega : False)
  have hc1 := (step_iff (a.1 1) (crd a t)).2 hU
  have k0_h3 : k0_cond3 (crd a t) (cnt (a.1 1)) = 1#1 := (store_iff (crd a t) _).2 ⟨hU, by omega⟩
  have k0_h4 : ¬ k0_cond4 (crd a t) (cnt (a.1 1)) = 1#1 := fun h => ((clear_iff (crd a t) _).1 h).1 hU
  have hheld : Held a t.castSucc.val := ⟨show t.val % 7 ≠ 0 by omega, hu⟩
  have hnext := (acc_next a m ρ c t (by omega)).symm.trans (accBefore_succ a m ρ c t).symm
  have hout := (acc_next a m ρ c t (by omega)).symm.trans (show acc a m ρ c t.val t.isLt = (dats a m ρ 0 c).after (4 : Fin 5) t from by rw [after0_4]; unfold out4; rw [if_pos hu])
  rewrite [i4]
  simp only [before0_0, before0_1, before0_2, before0_3, before0_4, after0_0, after0_1, after0_2, after0_3, f4]
  simp only [fr4, Bool.false_eq_true, ↓reduceIte]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [exists_held hheld]
  iintro ⟨⟨HS0, HT0, HT1⟩, Ho, ⟨%d0, H0⟩, ⟨%d1, H1⟩, ⟨%d2, H2⟩, ⟨%d3, H3⟩, ⟨%d4, H4⟩⟩
  iapply ((kernelRun0_C c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) _ hc0 hc1 k0_h3 k0_h4).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; intro _; exact ((scratch_read c _).symm.trans (runC_eq ..)).trans hnext
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_of_cover _ _ _ _ _ (cover0_C_4 c _ _ _ _ _ _ _ _ _ _ _ _ _ _ _ _ _ _ _ _ _ _)).trans ((outC_eq ..).trans hout)

set_option maxHeartbeats 4000000 in
theorem sound_D (c : Dev nD) (t : Fin (cfgA a).N) (hu : ¬ UseAt a (t.val / 7)) (hz : t.val % 7 = 0) :
    Given a m ρ c t ⊢ wp frame (wpE (defs₀ (F := Bits)) Variants.none c none) Set.univ (bodyAt0 a t) fun _ => Back a m ρ c t := by
  unfold Given Back
  rw [bigSep_W0]
  have hU : ¬ InUse (a.1 1) (crd a t) := fun h => hu ((inUse_iff a t).1 h)
  have hs : ((crd a t) 1).val = t.val % 7 := crd_step t
  have i4 : (cfgA a).idle (4 : Fin 5) ((cfgA a).grid.coords t) = false := by
    rw [idle4_iff]; exact .inr ⟨hu, hz⟩
  have f4 : ((cfgA a).win (4 : Fin 5)).flush t = false := by rw [flush4]; exact decide_eq_false (by omega)
  have fr4 : (cfgA a).fresh (4 : Fin 5) t.val = true := by rw [fresh4]; exact decide_eq_true (.inl hz)
  have hc0 := fun h => hU ((start_iff (a.1 1) (crd a t)).1 h).1
  have hc1 := fun h => hU ((step_iff (a.1 1) (crd a t)).1 h)
  have k0_h3 : ¬ k0_cond3 (crd a t) (cnt (a.1 1)) = 1#1 := fun h => hU ((store_iff (crd a t) _).1 h).1
  have k0_h4 : k0_cond4 (crd a t) (cnt (a.1 1)) = 1#1 := (clear_iff (crd a t) _).2 ⟨hU, by omega⟩
  have hout : k0_pay3 (F := Bits) = (dats a m ρ 0 c).after (4 : Fin 5) t := by rw [after0_4]; unfold out4; rw [if_neg hu]
  rewrite [i4]
  simp only [before0_0, before0_1, before0_2, before0_3, before0_4, after0_0, after0_1, after0_2, after0_3, f4]
  simp only [fr4, Bool.false_eq_true, ↓reduceIte]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨⟨%a0, -, HS0⟩, HT0, HT1⟩, Ho, ⟨%d0, H0⟩, ⟨%d1, H1⟩, ⟨%d2, H2⟩, ⟨%d3, H3⟩, ⟨%d4, H4⟩⟩
  iapply ((kernelRun0_D c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) a0 hc0 hc1 k0_h3 k0_h4).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; intro hn; exact absurd hn (not_held_succ a t hu)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_of_cover _ _ _ _ _ (cover0_D_4 c _ _ _ _ _ _ _ _ _ _ _ _ _ _ _ _ _ _ _ _ _ _)).trans ((outD_eq ..).trans hout)

set_option maxHeartbeats 4000000 in
theorem sound_E (c : Dev nD) (t : Fin (cfgA a).N) (hu : ¬ UseAt a (t.val / 7)) (hz : t.val % 7 ≠ 0) :
    Given a m ρ c t ⊢ wp frame (wpE (defs₀ (F := Bits)) Variants.none c none) Set.univ (bodyAt0 a t) fun _ => Back a m ρ c t := by
  unfold Given Back
  rw [bigSep_W0]
  have hU : ¬ InUse (a.1 1) (crd a t) := fun h => hu ((inUse_iff a t).1 h)
  have hs : ((crd a t) 1).val = t.val % 7 := crd_step t
  have i4 : (cfgA a).idle (4 : Fin 5) ((cfgA a).grid.coords t) = true := by
    rw [← Bool.not_eq_false, idle4_iff]; rintro (⟨h, h'⟩ | ⟨h, h'⟩) <;> first | exact h hu | exact hu h | omega
  have fr4 : (cfgA a).fresh (4 : Fin 5) t.val = false := by rw [fresh4]; exact decide_eq_false (not_or.2 ⟨hz, hu⟩)
  have hc0 := fun h => hU ((start_iff (a.1 1) (crd a t)).1 h).1
  have hc1 := fun h => hU ((step_iff (a.1 1) (crd a t)).1 h)
  have k0_h3 : ¬ k0_cond3 (crd a t) (cnt (a.1 1)) = 1#1 := fun h => hU ((store_iff (crd a t) _).1 h).1
  have k0_h4 : ¬ k0_cond4 (crd a t) (cnt (a.1 1)) = 1#1 := fun h => by have := ((clear_iff (crd a t) _).1 h).2; omega
  have hout : k0_pay3 (F := Bits) = (dats a m ρ 0 c).after (4 : Fin 5) t := by rw [after0_4]; unfold out4; rw [if_neg hu]
  cases f4 : ((cfgA a).win (4 : Fin 5)).flush t
  · rewrite [i4]
    simp only [before0_0, before0_1, before0_2, before0_3, before0_4, after0_0, after0_1, after0_2, after0_3, f4]
    simp only [fr4, Bool.false_eq_true, ↓reduceIte]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    unfold Phi
    iintro ⟨⟨⟨%a0, -, HS0⟩, HT0, HT1⟩, Ho, ⟨%d0, H0⟩, ⟨%d1, H1⟩, ⟨%d2, H2⟩, ⟨%d3, H3⟩, ⟨%d4, H4⟩⟩
    iapply ((kernelRun0_E c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) a0 hc0 hc1 k0_h3 k0_h4).2 _ _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    iintro ⟨H0, H1, H2, H3, HT0, HT1, H4, HS0⟩
    isplitl [HS0 HT0 HT1]
    · isplitl [HS0]
      · iexists _; isplitr; swap
        · iexact HS0
        · ipureintro; intro hn; exact absurd hn (not_held_succ a t hu)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4
  · rewrite [i4]
    simp only [before0_0, before0_1, before0_2, before0_3, before0_4, after0_0, after0_1, after0_2, after0_3, f4]
    simp only [fr4, Bool.false_eq_true, ↓reduceIte]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    rewrite [← hout]
    unfold Phi
    iintro ⟨⟨⟨%a0, -, HS0⟩, HT0, HT1⟩, Ho, ⟨%d0, H0⟩, ⟨%d1, H1⟩, ⟨%d2, H2⟩, ⟨%d3, H3⟩, ⟨%d4, H4⟩⟩
    iapply ((kernelRun0_E c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) a0 hc0 hc1 k0_h3 k0_h4).2 _ _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    iintro ⟨H0, H1, H2, H3, HT0, HT1, H4, HS0⟩
    isplitl [HS0 HT0 HT1]
    · isplitl [HS0]
      · iexists _; isplitr; swap
        · iexact HS0
        · ipureintro; intro hn; exact absurd hn (not_held_succ a t hu)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4

/-- Every point, whichever way it goes. -/
theorem sound_body (c : Dev nD) (t : Fin (cfgA a).N) :
    Given a m ρ c t ⊢ wp frame (wpE (defs₀ (F := Bits)) Variants.none c none) Set.univ (bodyAt0 a t) fun _ => Back a m ρ c t := by
  by_cases hu : UseAt a (t.val / 7)
  · by_cases h0 : t.val % 7 = 0
    · exact sound_A a m ρ c t hu h0
    · by_cases h6 : t.val % 7 = 6
      · exact sound_C a m ρ c t hu h6
      · exact sound_B a m ρ c t hu ⟨h0, h6⟩
  · by_cases h0 : t.val % 7 = 0
    · exact sound_D a m ρ c t hu h0
    · exact sound_E a m ρ c t hu h0

theorem body_obligation (c : Dev nD) : BodyObligation (dats a m ρ 0 c) (defs₀ (F := Bits)) Variants.none () Set.univ := fun t => by
  rw [bigSep_W0]
  exact sound_body a m ρ c t

/-! ## The launch -/

/-- The launch element. -/
def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩⟩
  isplitl [HS0]
  · iexists a0; isplitr; swap
    · iexact HS0
    · ipureintro; intro h; exact absurd rfl h.1
  isplitl [HT0]
  · iexact HT0
  iexact HT1

theorem phi_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, -, -⟩
  isplitr; · iempintro
  iexists a0; iexact HS0

/-- Every array ends at what the launch's data say, every table as it was. -/
def QC : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

/-- The memory's tables are `a`, on every core. -/
def Tables : Prop := ∀ (c : Dev nD) (j : Fin 2), m ((c : Thread nD τ).loc (pre0.ref j)) = a.1 j

set_option backward.isDefEq.respectTransparency.types false in
set_option maxHeartbeats 4000000 in
theorem run_main_quiescent (hp : Tables a m) : θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they began, and every counter at zero. -/
theorem frame (hp : Tables a m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (hp c 0).symm, ((h.1 c).2 1).trans (hp c 1).symm,
    ((h.1 c).1 (0 : Fin 5)).trans ((dats a m ρ 0 c).arrAt_in (0 : Fin 5) rfl _), ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩)
    (run_main_quiescent a m ρ hp)

end Cert.Kernel3.Moe

end
-- ==== Proof.MoeTablesP.lean ====
/-
  The experts' tables as the precondition admits them: every tile's expert is one of the eight, so every block the
  index maps choose lies in its array.
-/
module

public import proofs.«01_k».proof.Proof.MoeLaunchP
public import proofs.«01_k».proof.Proof.Gen.Pre_experts

@[expose] public section

set_option maxRecDepth 16384

noncomputable section

namespace Cert.Kernel3.Moe

open Idealize.ShloMosaic Idealize.ShloMosaic.TcCoe Idealize.SL.Sem
open Cert.Kernel3 Cert.Kernel3.Gen

variable (m : (ℓ : Loc nD τ sig) → Buf (Elt Bits) ℓ)

/-- The memory's two tables, as the launch finds them. -/
def memTables : pre0.Contents (Elt Bits) := fun j => m (((0 : Dev nD) : Thread nD τ).loc (pre0.ref j))

/-- Every tile's expert is one of the eight. -/
def InRange (T0 : S72.Idx → BitVec 32) : Prop := ∀ i, (T0 i).toNat < 8

/-- A word between zero and seven, as the two signed comparisons say it. -/
theorem word_range (w : BitVec 32) (h0 : IntOp.cmpi .sge w 0#32 = 1#1) (h8 : IntOp.cmpi .slt w 8#32 = 1#1) : w.toNat < 8 := by
  have ofBool_eq_one (p : Bool) : (BitVec.ofBool p = 1#1) ↔ p = true := by cases p <;> decide
  simp only [IntOp.cmpi, ofBool_eq_one, BitVec.sle, BitVec.slt, decide_eq_true_eq, BitVec.toInt_eq_toNat_cond, BitVec.toNat_ofNat] at h0 h8
  omega

/-- The block of the hidden axis a grid point reads, in use or not, is one of the seven. -/
theorem block_range (w : BitVec 1) (i : grid0.Coords) : (Scalar.select w (BitVec.ofNat 32 (i 1).val) 6#32).toNat < 7 := by
  have h : (i 1).val < 7 := (i 1).isLt
  unfold Scalar.select
  split
  · rw [BitVec.toNat_ofNat, Nat.mod_eq_of_lt (by omega)]; exact h
  · decide

/-- A tile's number as an index of the first table. -/
theorem tile_index (i : grid0.Coords) : (Rect.unit (s := S72) ![(Scalar.indexCast (BitVec.ofNat 32 (i 0).val)).toNat] S1.size (k0_off1_inb i)).emb
    (Shape.Idx.first (numel1_S1.symm ▸ Nat.one_pos)) = (ix1 (⟨(i 0).val, (i 0).isLt⟩ : Fin 72) : S72.Idx) := by
  have h : (i 0).val < 72 := (i 0).isLt
  funext x
  apply Fin.ext
  fin_cases x
  show (BitVec.ofNat 32 (i 0).val).toNat + 1 * 0 = (i 0).val
  rw [BitVec.toNat_ofNat, Nat.mod_eq_of_lt (by omega)]; omega

/-- The block of the hidden axis a grid point reads. -/
abbrev hidden (pf : pre0.Contents (Elt Bits)) (i : grid0.Coords) : ℕ :=
  (Scalar.select (Scalar.cmpi .slt (BitVec.ofNat 32 (i 0).val) (cnt (pf 1))) (BitVec.ofNat 32 (i 1).val) 6#32).toNat

/-- The index map of the first two matrices, -/
theorem ix_rows (pf : pre0.Contents (Elt Bits)) (i : grid0.Coords) : cc0_transform_1 k0_off1_inb numel1_S1 inb_S1_S1_0 pf i
    = ![BitVec.toNat (pf 0 (ix1 (⟨(i 0).val, (i 0).isLt⟩ : Fin 72))), 0, hidden pf i] := by
  rw [← tile_index i]; rfl
theorem ix_rows' (pf : pre0.Contents (Elt Bits)) (i : grid0.Coords) : cc0_transform_2 k0_off1_inb numel1_S1 inb_S1_S1_0 pf i
    = ![BitVec.toNat (pf 0 (ix1 (⟨(i 0).val, (i 0).isLt⟩ : Fin 72))), 0, hidden pf i] := by
  rw [← tile_index i]; rfl
/-- and of the last. -/
theorem ix_cols (pf : pre0.Contents (Elt Bits)) (i : grid0.Coords) : cc0_transform_3 k0_off1_inb numel1_S1 inb_S1_S1_0 pf i
    = ![BitVec.toNat (pf 0 (ix1 (⟨(i 0).val, (i 0).isLt⟩ : Fin 72))), hidden pf i, 0] := by
  rw [← tile_index i]; rfl

theorem fits_rows (e b : ℕ) (he : e < 8) (hb : b < 7) (x : Fin 3) : ((![e, 0, b] : Fin 3 → ℕ) x + 1) * S1x2048x1024.size x ≤ S8x2048x7168.size x := by
  fin_cases x
  · show (e + 1) * 1 ≤ 8; omega
  · show (0 + 1) * 2048 ≤ 2048; omega
  · show (b + 1) * 1024 ≤ 7168; omega
theorem fits_cols (e b : ℕ) (he : e < 8) (hb : b < 7) (x : Fin 3) : ((![e, b, 0] : Fin 3 → ℕ) x + 1) * S1x1024x2048.size x ≤ S8x7168x2048.size x := by
  fin_cases x
  · show (e + 1) * 1 ≤ 8; omega
  · show (b + 1) * 1024 ≤ 7168; omega
  · show (0 + 1) * 2048 ≤ 2048; omega

theorem ok_of_range (pf : pre0.Contents (Elt Bits)) (h : InRange (pf 0)) : ok0 pf := by
  refine ⟨fun i => ⟨?_, .inr (Affine.block_words_dvd (s := S8x2048x7168) (p := EltTy.packing .bf16) (by decide) (by decide))⟩,
    fun i => ⟨?_, .inr (Affine.block_words_dvd (s := S8x2048x7168) (p := EltTy.packing .bf16) (by decide) (by decide))⟩,
    fun i => ⟨?_, .inr (Affine.block_words_dvd (s := S8x7168x2048) (p := EltTy.packing .bf16) (by decide) (by decide))⟩⟩
  · rw [ix_rows]; exact fits_rows _ _ (h _) (block_range _ i)
  · rw [ix_rows']; exact fits_rows _ _ (h _) (block_range _ i)
  · rw [ix_cols]; exact fits_cols _ _ (h _) (block_range _ i)

/-- The tables as the pipeline takes them. -/
def tables (h : InRange (memTables m 0)) : (pcfg0 (F := Bits)).Adm := ⟨memTables m, ok_of_range _ h⟩

theorem tables_eq (h : InRange (memTables m 0)) : Tables (tables m h) m := fun c j => by
  obtain rfl : c = 0 := Subsingleton.elim c 0
  rfl

/-- Two words whose conjunction is one are one. -/
theorem andi_one (p q : BitVec 1) (h : IntOp.andi p q = 1#1) : p = 1#1 ∧ q = 1#1 :=
  (by decide : ∀ p q : BitVec 1, IntOp.andi p q = 1#1 → p = 1#1 ∧ q = 1#1) p q h

/-- The precondition says of every tile that its expert is one of the eight. -/
theorem range_of_pre (h : Cert.Pre_Kernel3 m) : InRange (memTables m 0) := fun i =>
  word_range _ (andi_one _ _ (congrFun (h 0) i)).1 (andi_one _ _ (congrFun (h 0) i)).2

end Cert.Kernel3.Moe
-- ==== Proof.MoePath.lean ====
/-
  The experts' kernel, one grid point: what each way through the body leaves, named.
-/
module

public import proofs.«01_k».proof.Proof.Gen.Kernel3Ideal.Flash.Runs
public import proofs.«01_k».proof.Proof.Gen.Kernel3Ideal.Launch
public import Idealize.ShloMosaic.Lib.Pipeline.ValueKit
public import Idealize.ShloMosaic.Lib.VecWindow
public import Idealize.ShloMosaic.Lib.Pipeline.TableIdle

@[expose] public section

set_option maxRecDepth 16384

noncomputable section

namespace Cert.Kernel3Ideal.Moe

open Idealize.ShloMosaic Idealize.ShloMosaic.TcCoe Idealize.SL.Sem
open Cert.Kernel3Ideal Cert.Kernel3Ideal.Gen

/-- Both words set is the test of the first and the third branch; -/
theorem both_word : ∀ b z : BitVec 1, (Scalar.cmpi .ne (Scalar.extui (Scalar.andi b z) : BitVec 32) 0#32 = 1#1) ↔ (b = 1#1 ∧ z = 1#1) := by decide
/-- one word set, of the second; -/
theorem one_word : ∀ b : BitVec 1, (Scalar.cmpi .ne (Scalar.extui b : BitVec 32) 0#32 = 1#1) ↔ b = 1#1 := by decide
/-- the first clear and the second set, of the last. -/
theorem clear_word : ∀ b z : BitVec 1, (Scalar.cmpi .ne (Scalar.extui (Scalar.andi (Scalar.xori b 1#1) z) : BitVec 32) 0#32 = 1#1) ↔ (b ≠ 1#1 ∧ z = 1#1) := by decide

/-- The word the body reads of the second table. -/
abbrev cnt (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

/-- The tile of a grid point is one of those in use. -/
abbrev InUse (T1 : S1.Idx → Elt Ideal .i32) (i : grid0.Coords) : Prop := Scalar.cmpi .slt (BitVec.ofNat 32 (i 0).val) (cnt T1) = 1#1

theorem first_word : ∀ i : grid0.Coords, (Scalar.cmpi .eq (BitVec.ofNat 32 (i 1).val) 0#32 = 1#1) ↔ (i 1).val = 0 := by
  intro i
  exact (by decide +kernel : ∀ f : Fin 7, (Scalar.cmpi .eq (BitVec.ofNat 32 f.val) 0#32 = 1#1) ↔ f.val = 0) (i 1)
theorem last_word : ∀ i : grid0.Coords, (Scalar.cmpi .eq (BitVec.ofNat 32 (i 1).val) 6#32 = 1#1) ↔ (i 1).val = 6 := by
  intro i
  exact (by decide +kernel : ∀ f : Fin 7, (Scalar.cmpi .eq (BitVec.ofNat 32 f.val) 6#32 = 1#1) ↔ f.val = 6) (i 1)

variable (T1 : S1.Idx → Elt Ideal .i32) (i : grid0.Coords)

theorem start_iff : (Scalar.cmpi .ne (Scalar.extui (Scalar.andi (Scalar.cmpi .slt (BitVec.ofNat 32 (i 0).val) (cnt T1)) (Scalar.cmpi .eq (BitVec.ofNat 32 (i 1).val) 0#32))) 0#32 = 1#1)
    ↔ InUse T1 i ∧ (i 1).val = 0 := (both_word _ _).trans (and_congr Iff.rfl (first_word i))
theorem step_iff : (Scalar.cmpi .ne (Scalar.extui (Scalar.cmpi .slt (BitVec.ofNat 32 (i 0).val) (cnt T1))) 0#32 = 1#1) ↔ InUse T1 i := one_word _
theorem store_iff (w : BitVec 32) : k0_cond3 i w = 1#1 ↔ Scalar.cmpi .slt (BitVec.ofNat 32 (i 0).val) w = 1#1 ∧ (i 1).val = 6 :=
  (both_word _ _).trans (and_congr Iff.rfl (last_word i))
theorem clear_iff (w : BitVec 32) : k0_cond4 i w = 1#1 ↔ ¬ Scalar.cmpi .slt (BitVec.ofNat 32 (i 0).val) w = 1#1 ∧ (i 1).val = 0 :=
  (clear_word _ _).trans (and_congr Iff.rfl (first_word i))

section
variable (c : Dev nD) (arg4 : Memref sig .tc .vmem S512x2048 .bf16) (harg4 : arg4.IsWhole)
  (arg5 : Memref sig .tc .vmem S1x2048x1024 .bf16) (harg5 : arg5.IsWhole) (arg6 : Memref sig .tc .vmem S1x2048x1024 .bf16) (harg6 : arg6.IsWhole)
  (arg7 : Memref sig .tc .vmem S1x1024x2048 .bf16) (harg7 : arg7.IsWhole) (arg8 : Memref sig .tc .vmem S512x2048 .f32) (harg8 : arg8.IsWhole)
  (T0 : S72.Idx → Elt Ideal .i32) (x0 : S512x2048.Idx → Elt Ideal .bf16) (x1 x2 : S1x2048x1024.Idx → Elt Ideal .bf16)
  (x3 : S1x1024x2048.Idx → Elt Ideal .bf16) (xa : S512x2048.Idx → Elt Ideal .f32)

/-- The last store, over the whole scratch, leaves what it stores. -/
theorem scratch_store (f : (scM0_0).view.ty.Contents (Elt Ideal)) (w : S512x2048.Idx → Elt Ideal .f32) (L : List (View.Piece (Elt Ideal) S512x2048 .f32)) :
    (scM0_0).view.read (Elt Ideal) ((scM0_0).view.writes (Elt Ideal) f (⟨Rect.unit ![0, 0] S512x2048.size inb_S512x2048_S512x2048_0_0, w⟩ :: L)) = w :=
  View.read_writes_full (scM0_0).view f inb_S512x2048_S512x2048_0_0 w L

theorem scratch_read (f : Buf (Elt Ideal) ((c : Thread nD τ).loc cc0_scratch0)) : (scM0_0).view.read (Elt Ideal) f = f := rfl

/-- A tile in use, first step: the sum begins at zero. -/
theorem runA_eq (h0 h1 h2 h3) : (scM0_0).view.read (Elt Ideal) (kernelRun0_A c i arg4 harg4 arg5 harg5 arg6 harg6 arg7 harg7 arg8 harg8 T0 T1 x0 x1 x2 x3 h0 h1 h2 h3).1
    = k0_pay2 (F := Ideal) (k0_pay1 (F := Ideal)) x0 x1 x2 x3 := by
  frame_out
  simp only [View.read_rep]

/-- A later step adds to it. -/
theorem runB_eq (h0 h1 h2 h3) : (scM0_0).view.read (Elt Ideal) (kernelRun0_B c i arg4 harg4 arg5 harg5 arg6 harg6 arg7 harg7 arg8 harg8 T0 T1 x0 x1 x2 x3 xa h0 h1 h2 h3).1
    = k0_pay2 (F := Ideal) xa x0 x1 x2 x3 := by
  frame_out
  simp only [View.read_rep]
  rfl

/-- So does the last, -/
theorem runC_eq (h0 h1 h2 h3) : (scM0_0).view.read (Elt Ideal) (kernelRun0_C c i arg4 harg4 arg5 harg5 arg6 harg6 arg7 harg7 arg8 harg8 T0 T1 x0 x1 x2 x3 xa h0 h1 h2 h3).2.1
    = k0_pay2 (F := Ideal) xa x0 x1 x2 x3 := by
  frame_out
  simp only [View.read_rep]
  rfl

/-- which copies it out. -/
theorem outC_eq (h0 h1 h2 h3) : out0_C_4 c i arg4 harg4 arg5 harg5 arg6 harg6 arg7 harg7 arg8 harg8 T0 T1 x0 x1 x2 x3 xa h0 h1 h2 h3
    = k0_pay2 (F := Ideal) xa x0 x1 x2 x3 := by
  frame_out
  simp only [View.read_rep]
  rfl

/-- A tile not in use, first step: the sum stays, -/
theorem runD_eq (h0 h1 h2 h3) : (kernelRun0_D c i arg4 harg4 arg5 harg5 arg6 harg6 arg7 harg7 arg8 harg8 T0 T1 x0 x1 x2 x3 xa h0 h1 h2 h3).2.1 = xa := by
  rfl

/-- and zeros go out. -/
theorem outD_eq (h0 h1 h2 h3) : out0_D_4 c i arg4 harg4 arg5 harg5 arg6 harg6 arg7 harg7 arg8 harg8 T0 T1 x0 x1 x2 x3 xa h0 h1 h2 h3
    = k0_pay3 (F := Ideal) := by
  frame_out

/-- Its later steps do nothing. -/
theorem runE_eq (h0 h1 h2 h3) : (kernelRun0_E c i arg4 harg4 arg5 harg5 arg6 harg6 arg7 harg7 arg8 harg8 T0 T1 x0 x1 x2 x3 xa h0 h1 h2 h3).1 = xa := by
  rfl
end

end Cert.Kernel3Ideal.Moe

end
-- ==== Proof.MoeLaunch.lean ====
/-
  The experts' kernel launched at the tables it is given: at every grid point the body runs its way, the scratch
  carries the running sum over the seven blocks of a tile in use, the write-back leaves that sum, and zeros for a
  tile not in use.
-/
module

public import proofs.«01_k».proof.Proof.MoePath
public import proofs.«01_k».proof.Defs
public import Idealize.ShloMosaic.Lib.Pipeline.FrameBody
public import Idealize.ShloMosaic.Lib.Pipeline.Launch
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Kernel3Ideal.Moe

open Idealize.ShloMosaic Idealize.ShloMosaic.TcCoe Idealize.ShloMosaic.Tactic
open Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The launch's algebra: the rounds of the staging cells. -/
abbrev EP : Emb (UR sig nD τ) 𝕄 := emb₁

variable (a : (pcfg0 (F := Ideal)).Adm)
variable (m : (ℓ : Loc nD τ sig) → Buf (Elt Ideal) ℓ) (ρ : Dev nD → PrngReg)

/-- The pipeline at the tables `a`. -/
abbrev cfgA : Pipeline.Cfg sig Λ₀ := cfg0 (F := Ideal) a
abbrev pcs : Fin 1 → Pipeline.Cfg sig Λ₀ := Pipeline.pin (pcfgs (F := Ideal)) fun _ => a

abbrev crd (t : Fin (cfgA a).N) : grid0.Coords := grid0.coords t

abbrev ms0_0 (t : Fin (cfgA a).N) : Memref sig .tc .vmem S512x2048 .bf16 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x2048x1024 .bf16 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x2048x1024 .bf16 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x1024x2048 .bf16 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S512x2048 .f32 := spec0_4.stage ((cfgA a).slots t (4 : Fin 5))
abbrev hs0_4 (t : Fin (cfgA a).N) : (ms0_4 a t).IsWhole := hstage0_4 (((cfgA a).slots t (4 : Fin 5)).cast nbuf0_4)

/-- A window's block at a point, read off its array at launch. -/
def iblk (c : Dev nD) (w : Fin (cfgA a).W) (t : Fin (cfgA a).N) : (((cfgA a).win w).xblock ((cfgA a).grid.coords t)).Idx → Elt Ideal ((cfgA a).win w).elt :=
  (((cfgA a).win w).blk t).view.read (Elt Ideal) ((s₀ m ρ).mem (((cfgA a).win w).arr.view.loc (c : Thread nD τ)))

/-! ## The schedule -/

theorem crd_tile : ∀ t : Fin grid0.N, (grid0.coords t 0).val = t.val / 7 := by decide +kernel
theorem crd_step : ∀ t : Fin grid0.N, (grid0.coords t 1).val = t.val % 7 := by decide +kernel

/-- Tile `n` is one of those in use. -/
abbrev UseAt (n : ℕ) : Prop := Scalar.cmpi .slt (BitVec.ofNat 32 n) (cnt (a.1 1)) = 1#1

theorem inUse_iff (t : Fin grid0.N) : InUse (a.1 1) (grid0.coords t) ↔ UseAt a (t.val / 7) := by
  unfold InUse UseAt; rw [crd_tile t]

theorem cnt_eq : a.1.atD 1 ![0] = cnt (a.1 1) := rfl

/-- The result's window stores at the last step of a tile in use and at the first of one not in use. -/
theorem idle4_iff (t : Fin grid0.N) : (cfgA a).idle (4 : Fin 5) ((cfgA a).grid.coords t) = false
    ↔ (UseAt a (t.val / 7) ∧ t.val % 7 = 6) ∨ (¬ UseAt a (t.val / 7) ∧ t.val % 7 = 0) := by
  rw [← inUse_iff, ← crd_step t]
  show (!(k0_cond3 (grid0.coords t) (a.1.atD 1 ![0]) == 1#1) && !(k0_cond4 (grid0.coords t) (a.1.atD 1 ![0]) == 1#1)) = false ↔ _
  rw [cnt_eq, Bool.and_eq_false_iff, Bool.not_eq_false', Bool.not_eq_false', beq_iff_eq, beq_iff_eq, store_iff, clear_iff]

/-- It is written back at a tile's last step. -/
theorem flush4 : ∀ t : Fin grid0.N, ((cfgA a).win (4 : Fin 5)).flush t = decide (t.val % 7 = 6) := by
  intro t
  rw [Window.flush_eq_flushF]
  exact (by decide +kernel : ∀ t : Fin grid0.N, (true && (decide (t.val + 1 = grid0.N) || decide (∃ h : t.val + 1 < grid0.N, ∃ x, cc0_transform_4 (grid0.coords ⟨t.val + 1, h⟩) x ≠ cc0_transform_4 (grid0.coords t) x))) = decide (t.val % 7 = 6)) t

/-- Its buffer holds nothing of the tile: at the first step, and throughout a tile in use. -/
def tab4 (n : ℕ) : Bool := decide (n % 7 = 0 ∨ UseAt a (n / 7))

theorem tab4_step (t : Fin grid0.N) : tab4 a (t.val + 1) = (((cfgA a).win (4 : Fin 5)).flush t || ((cfgA a).idle (4 : Fin 5) ((cfgA a).grid.coords t) && tab4 a t.val)) := by
  rw [flush4]
  have hi := idle4_iff a t
  unfold tab4
  by_cases h6 : t.val % 7 = 6
  · have : (t.val + 1) % 7 = 0 := by omega
    simp [h6, this]
  · have h0 : (t.val + 1) % 7 ≠ 0 := by omega
    have hd : (t.val + 1) / 7 = t.val / 7 := by omega
    rw [hd]
    by_cases hu : UseAt a (t.val / 7)
    · have : (cfgA a).idle (4 : Fin 5) ((cfgA a).grid.coords t) = true := by
        rw [← Bool.not_eq_false, hi]; rintro (⟨_, h⟩ | ⟨h, _⟩)
        · exact h6 h
        · exact h hu
      rw [this]
      rw [decide_eq_true (show (t.val + 1) % 7 = 0 ∨ UseAt a (t.val / 7) from .inr hu), decide_eq_true (show t.val % 7 = 0 ∨ UseAt a (t.val / 7) from .inr hu)]
      simp
    · by_cases hz : t.val % 7 = 0
      · have : (cfgA a).idle (4 : Fin 5) ((cfgA a).grid.coords t) = false := hi.2 (.inr ⟨hu, hz⟩)
        rw [this]
        simp only [h0, hu, h6, _root_.or_self, decide_false, Bool.false_or, Bool.false_and]
      · simp only [h0, hu, h6, hz, _root_.or_self, decide_false, Bool.false_or, Bool.and_false]

theorem fresh4 (t : Fin grid0.N) : (cfgA a).fresh (4 : Fin 5) t.val = decide (t.val % 7 = 0 ∨ UseAt a (t.val / 7)) :=
  Pipeline.Cfg.fresh_tab (cfgA a) (4 : Fin 5) (tab4 a) (by unfold tab4; simp) (tab4_step a) t.val (Nat.le_of_lt t.isLt)

/-! ## The running sum -/

/-- The running sum after point `n`: started anew at a tile's first step. -/
def acc (c : Dev nD) : (n : ℕ) → n < grid0.N → (S512x2048.Idx → Elt Ideal .f32)
  | 0, h => k0_pay2 (F := Ideal) (k0_pay1 (F := Ideal)) (iblk a m ρ c (0 : Fin 5) ⟨0, h⟩) (iblk a m ρ c (1 : Fin 5) ⟨0, h⟩) (iblk a m ρ c (2 : Fin 5) ⟨0, h⟩) (iblk a m ρ c (3 : Fin 5) ⟨0, h⟩)
  | n + 1, h => k0_pay2 (F := Ideal) (if (n + 1) % 7 = 0 then k0_pay1 (F := Ideal) else acc c n (Nat.lt_of_succ_lt h))
      (iblk a m ρ c (0 : Fin 5) ⟨n + 1, h⟩) (iblk a m ρ c (1 : Fin 5) ⟨n + 1, h⟩) (iblk a m ρ c (2 : Fin 5) ⟨n + 1, h⟩) (iblk a m ρ c (3 : Fin 5) ⟨n + 1, h⟩)

/-- The sum before position `n`. -/
def accBefore (c : Dev nD) (n : ℕ) (h : n ≤ grid0.N) : (S512x2048.Idx → Elt Ideal .f32) :=
  if h0 : n = 0 then k0_pay1 (F := Ideal) else acc a m ρ c (n - 1) (by omega)

theorem acc_first (c : Dev nD) (t : Fin grid0.N) (h : t.val % 7 = 0) : acc a m ρ c t.val t.isLt
    = k0_pay2 (F := Ideal) (k0_pay1 (F := Ideal)) (iblk a m ρ c (0 : Fin 5) t) (iblk a m ρ c (1 : Fin 5) t) (iblk a m ρ c (2 : Fin 5) t) (iblk a m ρ c (3 : Fin 5) t) := by
  obtain ⟨n, hn⟩ := t
  cases n with
  | zero => rfl
  | succ n => unfold acc; rw [if_pos h]

theorem acc_next (c : Dev nD) (t : Fin grid0.N) (h : t.val % 7 ≠ 0) : acc a m ρ c t.val t.isLt
    = k0_pay2 (F := Ideal) (accBefore a m ρ c t.val (Nat.le_of_lt t.isLt)) (iblk a m ρ c (0 : Fin 5) t) (iblk a m ρ c (1 : Fin 5) t) (iblk a m ρ c (2 : Fin 5) t) (iblk a m ρ c (3 : Fin 5) t) := by
  obtain ⟨n, hn⟩ := t
  cases n with
  | zero => exact absurd rfl h
  | succ n => unfold acc accBefore; rw [if_neg h, dif_neg (Nat.succ_ne_zero n)]; rfl

theorem accBefore_succ (c : Dev nD) (t : Fin grid0.N) : accBefore a m ρ c (t.val + 1) t.isLt = acc a m ρ c t.val t.isLt := by
  unfold accBefore; rw [dif_neg (Nat.succ_ne_zero _)]; rfl

/-- The scratch holds the tile's sum before position `n`: the tile is in use and its first step is done. -/
abbrev Held (n : ℕ) : Prop := n % 7 ≠ 0 ∧ UseAt a (n / 7)

theorem not_held_succ (t : Fin grid0.N) (hu : ¬ UseAt a (t.val / 7)) : ¬ Held a (t.val + 1) := by
  rintro ⟨h, h'⟩
  exact hu (by rwa [show (t.val + 1) / 7 = t.val / 7 by omega] at h')

/-- Before a point: the scratch at the tile's sum once there is one, and the body's halves of the tables. -/
def Phi (c : Dev nD) (t : Fin ((cfgA a).N + 1)) : sProp 𝕄 :=
  iprop((∃ d, ⌜Held a t.val → d = accBefore a m ρ c t.val (Nat.le_of_lt_succ t.isLt)⌝ ∗ (scM0_0.view.loc (c : Thread nD τ) ↦{fullShare} d))
    ∗ (tbM0_0.view.loc (c : Thread nD τ) ↦{fullShare.right} a.1 0) ∗ (tbM0_1.view.loc (c : Thread nD τ) ↦{fullShare.right} a.1 1))

/-- What the result's buffer holds after a point, as far as it matters: the tile's sum, or zeros. -/
def out4 (c : Dev nD) (t : Fin grid0.N) : (S512x2048.Idx → Elt Ideal .f32) :=
  if UseAt a (t.val / 7) then acc a m ρ c t.val t.isLt else k0_pay3 (F := Ideal)

/-- The launch's data on a core. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => out4 a m ρ c t
  Φ t := Phi a m ρ c t
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = out4 a m ρ c t := rfl

theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- A step that stores nothing leaves what the step before left. -/
theorem carry4 (c : Dev nD) : ∀ (t : Fin (cfgA a).N) (ht : t.val ≠ 0), (cfgA a).idle (4 : Fin 5) ((cfgA a).grid.coords t) = true → (cfgA a).fresh (4 : Fin 5) t.val = false →
    (dats a m ρ 0 c).after (4 : Fin 5) t = (dats a m ρ 0 c).after (4 : Fin 5) ⟨t.val - 1, by omega⟩ := by
  intro t ht _ hf
  rw [fresh4 a t, decide_eq_false_iff_not, not_or] at hf
  rw [after0_4, after0_4]
  unfold out4
  rw [if_neg hf.2, if_neg (by rw [show (t.val - 1) / 7 = t.val / 7 by omega]; exact hf.2)]

theorem before0_4 (c : Dev nD) (t : Fin (cfgA a).N) (d) :
    (dats a m ρ 0 c).before (4 : Fin 5) t d = if (cfgA a).fresh (4 : Fin 5) t.val then d else k0_pay3 (F := Ideal) := by
  rw [(dats a m ρ 0 c).before_out_traj (4 : Fin 5) rfl (fun _ _ => rfl) (carry4 a m ρ c) t.val t rfl d]
  by_cases hf : (cfgA a).fresh (4 : Fin 5) t.val = true
  · simp only [hf, ↓reduceIte]
  · rw [if_neg hf, if_neg hf, after0_4]
    rw [fresh4 a t, decide_eq_true_iff, not_or] at hf
    unfold out4
    rw [if_neg (by rw [show (t.val - 1) / 7 = t.val / 7 by omega]; exact hf.2)]

/-- The body at a point, as the pipeline calls it. -/
abbrev bodyAt0 (t : Fin (cfgA a).N) : Prog (TpuEff nD τ sig (Elt Ideal) Λ₀ .tc) PUnit :=
  cc0_ffn_moe (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _)

/-- What the body is handed at a point, -/
abbrev Given (c : Dev nD) (t : Fin (cfgA a).N) : sProp 𝕄 :=
  iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
/-- and what it hands back. -/
abbrev Back (c : Dev nD) (t : Fin (cfgA a).N) : sProp 𝕄 :=
  iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t))

set_option maxHeartbeats 4000000 in
theorem sound_A (c : Dev nD) (t : Fin (cfgA a).N) (hu : UseAt a (t.val / 7)) (hz : t.val % 7 = 0) :
    Given a m ρ c t ⊢ wp frame (wpE (defs₀ (F := Ideal)) Variants.none c none) Set.univ (bodyAt0 a t) fun _ => Back a m ρ c t := by
  unfold Given Back
  rw [bigSep_W0]
  have hU : InUse (a.1 1) (crd a t) := (inUse_iff a t).2 hu
  have hs : ((crd a t) 1).val = t.val % 7 := crd_step t
  have i4 : (cfgA a).idle (4 : Fin 5) ((cfgA a).grid.coords t) = true := by
    rw [← Bool.not_eq_false, idle4_iff]; rintro (⟨h, h'⟩ | ⟨h, h'⟩) <;> first | exact h hu | exact hu h | omega
  have f4 : ((cfgA a).win (4 : Fin 5)).flush t = false := by rw [flush4]; exact decide_eq_false (by omega)
  have fr4 : (cfgA a).fresh (4 : Fin 5) t.val = true := by rw [fresh4]; exact decide_eq_true (.inl hz)
  have hc0 := (start_iff (a.1 1) (crd a t)).2 ⟨hU, by omega⟩
  have hc1 := (step_iff (a.1 1) (crd a t)).2 hU
  have k0_h3 : ¬ k0_cond3 (crd a t) (cnt (a.1 1)) = 1#1 := fun h => by have := ((store_iff (crd a t) _).1 h).2; omega
  have k0_h4 : ¬ k0_cond4 (crd a t) (cnt (a.1 1)) = 1#1 := fun h => ((clear_iff (crd a t) _).1 h).1 hU
  have hnext := (acc_first a m ρ c t hz).symm.trans (accBefore_succ a m ρ c t).symm
  rewrite [i4]
  simp only [before0_0, before0_1, before0_2, before0_3, before0_4, after0_0, after0_1, after0_2, after0_3, f4]
  simp only [fr4, Bool.false_eq_true, ↓reduceIte]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨⟨%a0, -, HS0⟩, HT0, HT1⟩, Ho, ⟨%d0, H0⟩, ⟨%d1, H1⟩, ⟨%d2, H2⟩, ⟨%d3, H3⟩, ⟨%d4, H4⟩⟩
  iapply ((kernelRun0_A c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) hc0 hc1 k0_h3 k0_h4).2 _ a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro; intro _; exact ((scratch_read c _).symm.trans (runA_eq ..)).trans hnext
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  first | (iexists d4; iexact H4) | iexact H4

set_option maxHeartbeats 4000000 in
theorem sound_B (c : Dev nD) (t : Fin (cfgA a).N) (hu : UseAt a (t.val / 7)) (hz : t.val % 7 ≠ 0 ∧ t.val % 7 ≠ 6) :
    Given a m ρ c t ⊢ wp frame (wpE (defs₀ (F := Ideal)) Variants.none c none) Set.univ (bodyAt0 a t) fun _ => Back a m ρ c t := by
  unfold Given Back
  rw [bigSep_W0]
  have hU : InUse (a.1 1) (crd a t) := (inUse_iff a t).2 hu
  have hs : ((crd a t) 1).val = t.val % 7 := crd_step t
  have i4 : (cfgA a).idle (4 : Fin 5) ((cfgA a).grid.coords t) = true := by
    rw [← Bool.not_eq_false, idle4_iff]; rintro (⟨h, h'⟩ | ⟨h, h'⟩) <;> first | exact h hu | exact hu h | omega
  have f4 : ((cfgA a).win (4 : Fin 5)).flush t = false := by rw [flush4]; exact decide_eq_false (by omega)
  have fr4 : (cfgA a).fresh (4 : Fin 5) t.val = true := by rw [fresh4]; exact decide_eq_true (.inr hu)
  have hc0 := fun h => (by have := ((start_iff (a.1 1) (crd a t)).1 h).2; omega : False)
  have hc1 := (step_iff (a.1 1) (crd a t)).2 hU
  have k0_h3 : ¬ k0_cond3 (crd a t) (cnt (a.1 1)) = 1#1 := fun h => by have := ((store_iff (crd a t) _).1 h).2; omega
  have k0_h4 : ¬ k0_cond4 (crd a t) (cnt (a.1 1)) = 1#1 := fun h => ((clear_iff (crd a t) _).1 h).1 hU
  have hheld : Held a t.castSucc.val := ⟨show t.val % 7 ≠ 0 by omega, hu⟩
  have hnext := (acc_next a m ρ c t (by omega)).symm.trans (accBefore_succ a m ρ c t).symm
  rewrite [i4]
  simp only [before0_0, before0_1, before0_2, before0_3, before0_4, after0_0, after0_1, after0_2, after0_3, f4]
  simp only [fr4, Bool.false_eq_true, ↓reduceIte]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [exists_held hheld]
  iintro ⟨⟨HS0, HT0, HT1⟩, Ho, ⟨%d0, H0⟩, ⟨%d1, H1⟩, ⟨%d2, H2⟩, ⟨%d3, H3⟩, ⟨%d4, H4⟩⟩
  iapply ((kernelRun0_B c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) _ hc0 hc1 k0_h3 k0_h4).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro; intro _; exact ((scratch_read c _).symm.trans (runB_eq ..)).trans hnext
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  first | (iexists d4; iexact H4) | iexact H4

set_option maxHeartbeats 4000000 in
theorem sound_C (c : Dev nD) (t : Fin (cfgA a).N) (hu : UseAt a (t.val / 7)) (hz : t.val % 7 = 6) :
    Given a m ρ c t ⊢ wp frame (wpE (defs₀ (F := Ideal)) Variants.none c none) Set.univ (bodyAt0 a t) fun _ => Back a m ρ c t := by
  unfold Given Back
  rw [bigSep_W0]
  have hU : InUse (a.1 1) (crd a t) := (inUse_iff a t).2 hu
  have hs : ((crd a t) 1).val = t.val % 7 := crd_step t
  have i4 : (cfgA a).idle (4 : Fin 5) ((cfgA a).grid.coords t) = false := by
    rw [idle4_iff]; exact .inl ⟨hu, hz⟩
  have f4 : ((cfgA a).win (4 : Fin 5)).flush t = true := by rw [flush4]; exact decide_eq_true (by omega)
  have fr4 : (cfgA a).fresh (4 : Fin 5) t.val = true := by rw [fresh4]; exact decide_eq_true (.inr hu)
  have hc0 := fun h => (by have := ((start_iff (a.1 1) (crd a t)).1 h).2; omega : False)
  have hc1 := (step_iff (a.1 1) (crd a t)).2 hU
  have k0_h3 : k0_cond3 (crd a t) (cnt (a.1 1)) = 1#1 := (store_iff (crd a t) _).2 ⟨hU, by omega⟩
  have k0_h4 : ¬ k0_cond4 (crd a t) (cnt (a.1 1)) = 1#1 := fun h => ((clear_iff (crd a t) _).1 h).1 hU
  have hheld : Held a t.castSucc.val := ⟨show t.val % 7 ≠ 0 by omega, hu⟩
  have hnext := (acc_next a m ρ c t (by omega)).symm.trans (accBefore_succ a m ρ c t).symm
  have hout := (acc_next a m ρ c t (by omega)).symm.trans (show acc a m ρ c t.val t.isLt = (dats a m ρ 0 c).after (4 : Fin 5) t from by rw [after0_4]; unfold out4; rw [if_pos hu])
  rewrite [i4]
  simp only [before0_0, before0_1, before0_2, before0_3, before0_4, after0_0, after0_1, after0_2, after0_3, f4]
  simp only [fr4, Bool.false_eq_true, ↓reduceIte]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [exists_held hheld]
  iintro ⟨⟨HS0, HT0, HT1⟩, Ho, ⟨%d0, H0⟩, ⟨%d1, H1⟩, ⟨%d2, H2⟩, ⟨%d3, H3⟩, ⟨%d4, H4⟩⟩
  iapply ((kernelRun0_C c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) _ hc0 hc1 k0_h3 k0_h4).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; intro _; exact ((scratch_read c _).symm.trans (runC_eq ..)).trans hnext
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_of_cover _ _ _ _ _ (cover0_C_4 c _ _ _ _ _ _ _ _ _ _ _ _ _ _ _ _ _ _ _ _ _ _)).trans ((outC_eq ..).trans hout)

set_option maxHeartbeats 4000000 in
theorem sound_D (c : Dev nD) (t : Fin (cfgA a).N) (hu : ¬ UseAt a (t.val / 7)) (hz : t.val % 7 = 0) :
    Given a m ρ c t ⊢ wp frame (wpE (defs₀ (F := Ideal)) Variants.none c none) Set.univ (bodyAt0 a t) fun _ => Back a m ρ c t := by
  unfold Given Back
  rw [bigSep_W0]
  have hU : ¬ InUse (a.1 1) (crd a t) := fun h => hu ((inUse_iff a t).1 h)
  have hs : ((crd a t) 1).val = t.val % 7 := crd_step t
  have i4 : (cfgA a).idle (4 : Fin 5) ((cfgA a).grid.coords t) = false := by
    rw [idle4_iff]; exact .inr ⟨hu, hz⟩
  have f4 : ((cfgA a).win (4 : Fin 5)).flush t = false := by rw [flush4]; exact decide_eq_false (by omega)
  have fr4 : (cfgA a).fresh (4 : Fin 5) t.val = true := by rw [fresh4]; exact decide_eq_true (.inl hz)
  have hc0 := fun h => hU ((start_iff (a.1 1) (crd a t)).1 h).1
  have hc1 := fun h => hU ((step_iff (a.1 1) (crd a t)).1 h)
  have k0_h3 : ¬ k0_cond3 (crd a t) (cnt (a.1 1)) = 1#1 := fun h => hU ((store_iff (crd a t) _).1 h).1
  have k0_h4 : k0_cond4 (crd a t) (cnt (a.1 1)) = 1#1 := (clear_iff (crd a t) _).2 ⟨hU, by omega⟩
  have hout : k0_pay3 (F := Ideal) = (dats a m ρ 0 c).after (4 : Fin 5) t := by rw [after0_4]; unfold out4; rw [if_neg hu]
  rewrite [i4]
  simp only [before0_0, before0_1, before0_2, before0_3, before0_4, after0_0, after0_1, after0_2, after0_3, f4]
  simp only [fr4, Bool.false_eq_true, ↓reduceIte]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨⟨%a0, -, HS0⟩, HT0, HT1⟩, Ho, ⟨%d0, H0⟩, ⟨%d1, H1⟩, ⟨%d2, H2⟩, ⟨%d3, H3⟩, ⟨%d4, H4⟩⟩
  iapply ((kernelRun0_D c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) a0 hc0 hc1 k0_h3 k0_h4).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; intro hn; exact absurd hn (not_held_succ a t hu)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_of_cover _ _ _ _ _ (cover0_D_4 c _ _ _ _ _ _ _ _ _ _ _ _ _ _ _ _ _ _ _ _ _ _)).trans ((outD_eq ..).trans hout)

set_option maxHeartbeats 4000000 in
theorem sound_E (c : Dev nD) (t : Fin (cfgA a).N) (hu : ¬ UseAt a (t.val / 7)) (hz : t.val % 7 ≠ 0) :
    Given a m ρ c t ⊢ wp frame (wpE (defs₀ (F := Ideal)) Variants.none c none) Set.univ (bodyAt0 a t) fun _ => Back a m ρ c t := by
  unfold Given Back
  rw [bigSep_W0]
  have hU : ¬ InUse (a.1 1) (crd a t) := fun h => hu ((inUse_iff a t).1 h)
  have hs : ((crd a t) 1).val = t.val % 7 := crd_step t
  have i4 : (cfgA a).idle (4 : Fin 5) ((cfgA a).grid.coords t) = true := by
    rw [← Bool.not_eq_false, idle4_iff]; rintro (⟨h, h'⟩ | ⟨h, h'⟩) <;> first | exact h hu | exact hu h | omega
  have fr4 : (cfgA a).fresh (4 : Fin 5) t.val = false := by rw [fresh4]; exact decide_eq_false (not_or.2 ⟨hz, hu⟩)
  have hc0 := fun h => hU ((start_iff (a.1 1) (crd a t)).1 h).1
  have hc1 := fun h => hU ((step_iff (a.1 1) (crd a t)).1 h)
  have k0_h3 : ¬ k0_cond3 (crd a t) (cnt (a.1 1)) = 1#1 := fun h => hU ((store_iff (crd a t) _).1 h).1
  have k0_h4 : ¬ k0_cond4 (crd a t) (cnt (a.1 1)) = 1#1 := fun h => by have := ((clear_iff (crd a t) _).1 h).2; omega
  have hout : k0_pay3 (F := Ideal) = (dats a m ρ 0 c).after (4 : Fin 5) t := by rw [after0_4]; unfold out4; rw [if_neg hu]
  cases f4 : ((cfgA a).win (4 : Fin 5)).flush t
  · rewrite [i4]
    simp only [before0_0, before0_1, before0_2, before0_3, before0_4, after0_0, after0_1, after0_2, after0_3, f4]
    simp only [fr4, Bool.false_eq_true, ↓reduceIte]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    unfold Phi
    iintro ⟨⟨⟨%a0, -, HS0⟩, HT0, HT1⟩, Ho, ⟨%d0, H0⟩, ⟨%d1, H1⟩, ⟨%d2, H2⟩, ⟨%d3, H3⟩, ⟨%d4, H4⟩⟩
    iapply ((kernelRun0_E c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) a0 hc0 hc1 k0_h3 k0_h4).2 _ _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    iintro ⟨H0, H1, H2, H3, HT0, HT1, H4, HS0⟩
    isplitl [HS0 HT0 HT1]
    · isplitl [HS0]
      · iexists _; isplitr; swap
        · iexact HS0
        · ipureintro; intro hn; exact absurd hn (not_held_succ a t hu)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4
  · rewrite [i4]
    simp only [before0_0, before0_1, before0_2, before0_3, before0_4, after0_0, after0_1, after0_2, after0_3, f4]
    simp only [fr4, Bool.false_eq_true, ↓reduceIte]
    rewrite [show (dats a m ρ 0 c).Φ t.succ = Phi a m ρ c t.succ from rfl, show (dats a m ρ 0 c).Φ t.castSucc = Phi a m ρ c t.castSucc from rfl,
      show (dats a m ρ 0 c).owesAt () t.succ = (dats a m ρ 0 c).owesAt () t.castSucc from rfl]
    rewrite [← hout]
    unfold Phi
    iintro ⟨⟨⟨%a0, -, HS0⟩, HT0, HT1⟩, Ho, ⟨%d0, H0⟩, ⟨%d1, H1⟩, ⟨%d2, H2⟩, ⟨%d3, H3⟩, ⟨%d4, H4⟩⟩
    iapply ((kernelRun0_E c (crd a t) (ms0_0 a t) (hs0_0 a t) (ms0_1 a t) (hs0_1 a t) (ms0_2 a t) (hs0_2 a t) (ms0_3 a t) (hs0_3 a t) (ms0_4 a t) (hs0_4 a t) (a.1 0) (a.1 1) (iblk a m ρ c (0 : Fin 5) t) (iblk a m ρ c (1 : Fin 5) t) (iblk a m ρ c (2 : Fin 5) t) (iblk a m ρ c (3 : Fin 5) t) a0 hc0 hc1 k0_h3 k0_h4).2 _ _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    iintro ⟨H0, H1, H2, H3, HT0, HT1, H4, HS0⟩
    isplitl [HS0 HT0 HT1]
    · isplitl [HS0]
      · iexists _; isplitr; swap
        · iexact HS0
        · ipureintro; intro hn; exact absurd hn (not_held_succ a t hu)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4

/-- Every point, whichever way it goes. -/
theorem sound_body (c : Dev nD) (t : Fin (cfgA a).N) :
    Given a m ρ c t ⊢ wp frame (wpE (defs₀ (F := Ideal)) Variants.none c none) Set.univ (bodyAt0 a t) fun _ => Back a m ρ c t := by
  by_cases hu : UseAt a (t.val / 7)
  · by_cases h0 : t.val % 7 = 0
    · exact sound_A a m ρ c t hu h0
    · by_cases h6 : t.val % 7 = 6
      · exact sound_C a m ρ c t hu h6
      · exact sound_B a m ρ c t hu ⟨h0, h6⟩
  · by_cases h0 : t.val % 7 = 0
    · exact sound_D a m ρ c t hu h0
    · exact sound_E a m ρ c t hu h0

theorem body_obligation (c : Dev nD) : BodyObligation (dats a m ρ 0 c) (defs₀ (F := Ideal)) Variants.none () Set.univ := fun t => by
  rw [bigSep_W0]
  exact sound_body a m ρ c t

/-! ## The launch -/

/-- The launch element. -/
def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩⟩
  isplitl [HS0]
  · iexists a0; isplitr; swap
    · iexact HS0
    · ipureintro; intro h; exact absurd rfl h.1
  isplitl [HT0]
  · iexact HT0
  iexact HT1

theorem phi_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, -, -⟩
  isplitr; · iempintro
  iexists a0; iexact HS0

/-- Every array ends at what the launch's data say, every table as it was. -/
def QC : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

/-- The memory's tables are `a`, on every core. -/
def Tables : Prop := ∀ (c : Dev nD) (j : Fin 2), m ((c : Thread nD τ).loc (pre0.ref j)) = a.1 j

set_option backward.isDefEq.respectTransparency.types false in
set_option maxHeartbeats 4000000 in
theorem run_main_quiescent (hp : Tables a m) : θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they began, and every counter at zero. -/
theorem frame (hp : Tables a m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (hp c 0).symm, ((h.1 c).2 1).trans (hp c 1).symm,
    ((h.1 c).1 (0 : Fin 5)).trans ((dats a m ρ 0 c).arrAt_in (0 : Fin 5) rfl _), ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩)
    (run_main_quiescent a m ρ hp)

end Cert.Kernel3Ideal.Moe

end
-- ==== Proof.MoeTables.lean ====
/-
  The experts' tables as the precondition admits them: every tile's expert is one of the eight, so every block the
  index maps choose lies in its array.
-/
module

public import proofs.«01_k».proof.Proof.MoeLaunch
public import proofs.«01_k».proof.Proof.Gen.Pre_experts

@[expose] public section

set_option maxRecDepth 16384

noncomputable section

namespace Cert.Kernel3Ideal.Moe

open Idealize.ShloMosaic Idealize.ShloMosaic.TcCoe Idealize.SL.Sem
open Cert.Kernel3Ideal Cert.Kernel3Ideal.Gen

variable (m : (ℓ : Loc nD τ sig) → Buf (Elt Ideal) ℓ)

/-- The memory's two tables, as the launch finds them. -/
def memTables : pre0.Contents (Elt Ideal) := fun j => m (((0 : Dev nD) : Thread nD τ).loc (pre0.ref j))

/-- Every tile's expert is one of the eight. -/
def InRange (T0 : S72.Idx → BitVec 32) : Prop := ∀ i, (T0 i).toNat < 8

/-- A word between zero and seven, as the two signed comparisons say it. -/
theorem word_range (w : BitVec 32) (h0 : IntOp.cmpi .sge w 0#32 = 1#1) (h8 : IntOp.cmpi .slt w 8#32 = 1#1) : w.toNat < 8 := by
  have ofBool_eq_one (p : Bool) : (BitVec.ofBool p = 1#1) ↔ p = true := by cases p <;> decide
  simp only [IntOp.cmpi, ofBool_eq_one, BitVec.sle, BitVec.slt, decide_eq_true_eq, BitVec.toInt_eq_toNat_cond, BitVec.toNat_ofNat] at h0 h8
  omega

/-- The block of the hidden axis a grid point reads, in use or not, is one of the seven. -/
theorem block_range (w : BitVec 1) (i : grid0.Coords) : (Scalar.select w (BitVec.ofNat 32 (i 1).val) 6#32).toNat < 7 := by
  have h : (i 1).val < 7 := (i 1).isLt
  unfold Scalar.select
  split
  · rw [BitVec.toNat_ofNat, Nat.mod_eq_of_lt (by omega)]; exact h
  · decide

/-- A tile's number as an index of the first table. -/
theorem tile_index (i : grid0.Coords) : (Rect.unit (s := S72) ![(Scalar.indexCast (BitVec.ofNat 32 (i 0).val)).toNat] S1.size (k0_off1_inb i)).emb
    (Shape.Idx.first (numel1_S1.symm ▸ Nat.one_pos)) = (ix1 (⟨(i 0).val, (i 0).isLt⟩ : Fin 72) : S72.Idx) := by
  have h : (i 0).val < 72 := (i 0).isLt
  funext x
  apply Fin.ext
  fin_cases x
  show (BitVec.ofNat 32 (i 0).val).toNat + 1 * 0 = (i 0).val
  rw [BitVec.toNat_ofNat, Nat.mod_eq_of_lt (by omega)]; omega

/-- The block of the hidden axis a grid point reads. -/
abbrev hidden (pf : pre0.Contents (Elt Ideal)) (i : grid0.Coords) : ℕ :=
  (Scalar.select (Scalar.cmpi .slt (BitVec.ofNat 32 (i 0).val) (cnt (pf 1))) (BitVec.ofNat 32 (i 1).val) 6#32).toNat

/-- The index map of the first two matrices, -/
theorem ix_rows (pf : pre0.Contents (Elt Ideal)) (i : grid0.Coords) : cc0_transform_1 k0_off1_inb numel1_S1 inb_S1_S1_0 pf i
    = ![BitVec.toNat (pf 0 (ix1 (⟨(i 0).val, (i 0).isLt⟩ : Fin 72))), 0, hidden pf i] := by
  rw [← tile_index i]; rfl
theorem ix_rows' (pf : pre0.Contents (Elt Ideal)) (i : grid0.Coords) : cc0_transform_2 k0_off1_inb numel1_S1 inb_S1_S1_0 pf i
    = ![BitVec.toNat (pf 0 (ix1 (⟨(i 0).val, (i 0).isLt⟩ : Fin 72))), 0, hidden pf i] := by
  rw [← tile_index i]; rfl
/-- and of the last. -/
theorem ix_cols (pf : pre0.Contents (Elt Ideal)) (i : grid0.Coords) : cc0_transform_3 k0_off1_inb numel1_S1 inb_S1_S1_0 pf i
    = ![BitVec.toNat (pf 0 (ix1 (⟨(i 0).val, (i 0).isLt⟩ : Fin 72))), hidden pf i, 0] := by
  rw [← tile_index i]; rfl

theorem fits_rows (e b : ℕ) (he : e < 8) (hb : b < 7) (x : Fin 3) : ((![e, 0, b] : Fin 3 → ℕ) x + 1) * S1x2048x1024.size x ≤ S8x2048x7168.size x := by
  fin_cases x
  · show (e + 1) * 1 ≤ 8; omega
  · show (0 + 1) * 2048 ≤ 2048; omega
  · show (b + 1) * 1024 ≤ 7168; omega
theorem fits_cols (e b : ℕ) (he : e < 8) (hb : b < 7) (x : Fin 3) : ((![e, b, 0] : Fin 3 → ℕ) x + 1) * S1x1024x2048.size x ≤ S8x7168x2048.size x := by
  fin_cases x
  · show (e + 1) * 1 ≤ 8; omega
  · show (b + 1) * 1024 ≤ 7168; omega
  · show (0 + 1) * 2048 ≤ 2048; omega

theorem ok_of_range (pf : pre0.Contents (Elt Ideal)) (h : InRange (pf 0)) : ok0 pf := by
  refine ⟨fun i => ⟨?_, .inr (Affine.block_words_dvd (s := S8x2048x7168) (p := EltTy.packing .bf16) (by decide) (by decide))⟩,
    fun i => ⟨?_, .inr (Affine.block_words_dvd (s := S8x2048x7168) (p := EltTy.packing .bf16) (by decide) (by decide))⟩,
    fun i => ⟨?_, .inr (Affine.block_words_dvd (s := S8x7168x2048) (p := EltTy.packing .bf16) (by decide) (by decide))⟩⟩
  · rw [ix_rows]; exact fits_rows _ _ (h _) (block_range _ i)
  · rw [ix_rows']; exact fits_rows _ _ (h _) (block_range _ i)
  · rw [ix_cols]; exact fits_cols _ _ (h _) (block_range _ i)

/-- The tables as the pipeline takes them. -/
def tables (h : InRange (memTables m 0)) : (pcfg0 (F := Ideal)).Adm := ⟨memTables m, ok_of_range _ h⟩

theorem tables_eq (h : InRange (memTables m 0)) : Tables (tables m h) m := fun c j => by
  obtain rfl : c = 0 := Subsingleton.elim c 0
  rfl

/-- Two words whose conjunction is one are one. -/
theorem andi_one (p q : BitVec 1) (h : IntOp.andi p q = 1#1) : p = 1#1 ∧ q = 1#1 :=
  (by decide : ∀ p q : BitVec 1, IntOp.andi p q = 1#1 → p = 1#1 ∧ q = 1#1) p q h

/-- The precondition says of every tile that its expert is one of the eight. -/
theorem range_of_pre (h : Cert.Pre_Kernel3Ideal m) : InRange (memTables m 0) := fun i =>
  word_range _ (andi_one _ _ (congrFun (h 0) i)).1 (andi_one _ _ (congrFun (h 0) i)).2

end Cert.Kernel3Ideal.Moe
-- ==== Proof.MoeGate.lean ====
/-
  The gate's two forms, half of a number plus half of it times the tangent of the half, and the number over one plus the
  exponential of its opposite: equal at every real number.
-/
module

public import Idealize.ShloMosaic.PureOps.Ideal
public import Idealize.ShloMosaic.Lib.IdealHost
public import Idealize.ShloMosaic.Lib.Pointwise

@[expose] public section

noncomputable section

namespace Cert.MoeGate

open Idealize.ShloMosaic

/-- The gate as the kernel computes it, -/
def ofHalf (z : EReal) : EReal :=
  Ideal.ofBits .f32 0x3F000000#32 * z + Ideal.ofBits .f32 0x3F000000#32 * z * Ideal.tanh (Ideal.ofBits .f32 0x3F000000#32 * z)

/-- and as the reference does. -/
def ofExp (z : EReal) : EReal := z * Ideal.div 1 (1 + Ideal.exp (-z))

theorem half : Ideal.ofBits .f32 0x3F000000#32 = ((1 / 2 : ℝ) : EReal) := by
  simp [Ideal.ofBits, Ideal.ieee, -EReal.coe_mul]; norm_num

theorem real_gate (z : ℝ) : 1 / 2 * z + 1 / 2 * z * Real.tanh (1 / 2 * z) = z * (1 / (1 + Real.exp (-z))) := by
  have hu : 0 < Real.exp (1 / 2 * z) := Real.exp_pos _
  have hn : Real.exp (-(1 / 2 * z)) = (Real.exp (1 / 2 * z))⁻¹ := Real.exp_neg _
  have h2 : Real.exp (-z) = (Real.exp (1 / 2 * z))⁻¹ * (Real.exp (1 / 2 * z))⁻¹ := by
    rw [← hn, ← Real.exp_add]; congr 1; ring
  rw [Real.tanh_eq_sinh_div_cosh, Real.sinh_eq, Real.cosh_eq, hn, h2]
  generalize Real.exp (1 / 2 * z) = u at hu
  have h1 : u * u + 1 ≠ 0 := by positivity
  field_simp
  ring

theorem gate_eq (z : ℝ) : ofHalf (z : EReal) = ofExp (z : EReal) := by
  unfold ofHalf ofExp
  have hp : (1 + Real.exp (-z)) ≠ 0 := by positivity
  rw [half, ← EReal.coe_mul, Ideal.tanh_coe, ← EReal.coe_mul, ← EReal.coe_add, ← EReal.coe_neg, Ideal.exp_coe, ← EReal.coe_one, ← EReal.coe_add,
    Ideal.div_coe hp, ← EReal.coe_mul, ← EReal.coe_mul, one_mul, real_gate z]

/-- A sum of products of real numbers is a real number. -/
theorem sum_real {n : ℕ} (f g : Fin n → EReal) (hf : ∀ k, ∃ r : ℝ, f k = r) (hg : ∀ k, ∃ r : ℝ, g k = r) : ∃ r : ℝ, ∑ k, f k * g k = r := by
  refine Finset.sum_induction (fun k => f k * g k) (fun z => ∃ r : ℝ, z = r) ?_ ⟨0, rfl⟩ fun k _ => ?_
  · rintro _ _ ⟨r, rfl⟩ ⟨s, rfl⟩; exact ⟨r + s, (EReal.coe_add r s).symm⟩
  · obtain ⟨r, hr⟩ := hf k
    obtain ⟨s, hs⟩ := hg k
    exact ⟨r * s, by rw [hr, hs, EReal.coe_mul]⟩

/-- A number whose absolute value is below infinity is a real number. -/
theorem real_of_olt {s : Shape} (x : FVec Ideal s .bf16) (i : s.Idx) (h : FloatOps.cmpf (F := Ideal) .olt (Host.absf x i) (Ideal.ofBits .bf16 0x7F80#16) = 1#1) :
    ∃ r : ℝ, x i = r := by
  pointwise at h
  have htop : Ideal.ofBits .bf16 0x7F80#16 = ⊤ := by simp [Ideal.ofBits, Ideal.ieee]
  have ofBool_eq_one (p : Bool) : (BitVec.ofBool p = 1#1) ↔ p = true := by cases p <;> decide
  rw [ofBool_eq_one, decide_eq_true_eq, htop] at h
  have h' : max (x i : EReal) (-(x i : EReal)) < ⊤ := h
  rw [max_lt_iff] at h'
  refine ⟨(x i : EReal).toReal, (EReal.coe_toReal (ne_of_lt h'.1) fun hb => ?_).symm⟩
  rw [hb] at h'
  exact absurd h'.2 (by simp)

end Cert.MoeGate
-- ==== Proof.MoeBlocks.lean ====
/-
  The experts' kernel: every block read at its place in its array, and the running sum, entry by entry, as the sum over
  the tile's expert's hidden entries.
-/
module

public import proofs.«01_k».proof.Proof.MoeTables
public import proofs.«01_k».proof.Proof.MoeGate
public import Idealize.ShloMosaic.Lib.Pipeline.ValueKit

@[expose] public section

set_option maxRecDepth 16384

noncomputable section

namespace Cert.Kernel3Ideal.Moe

open Idealize.ShloMosaic Idealize.ShloMosaic.TcCoe Idealize.SL.Sem
open Cert.Kernel3Ideal Cert.Kernel3Ideal.Gen Cert.MoeGate

variable (a : (pcfg0 (F := Ideal)).Adm)
variable (m : (ℓ : Loc nD τ sig) → Buf (Elt Ideal) ℓ) (ρ : Dev nD → PrngReg)

/-! ## The blocks -/

theorem index0 (t : Fin (cfgA a).N) : ((cfgA a).win (0 : Fin 5)).index t = ![t.val / 7, 0] :=
  (by decide +kernel : ∀ t : Fin grid0.N, cc0_transform_0 (grid0.coords t) = ![t.val / 7, 0]) t
theorem index4 (t : Fin (cfgA a).N) : ((cfgA a).win (4 : Fin 5)).index t = ![t.val / 7, 0] :=
  (by decide +kernel : ∀ t : Fin grid0.N, cc0_transform_4 (grid0.coords t) = ![t.val / 7, 0]) t

/-- A grid point of a tile in use reads its own block of the hidden axis. -/
theorem hidden_use (t : Fin grid0.N) (hu : UseAt a (t.val / 7)) : hidden a.1 (grid0.coords t) = t.val % 7 := by
  refine (congrArg BitVec.toNat (if_pos ((inUse_iff a t).2 hu))).trans ?_
  rw [crd_step t, BitVec.toNat_ofNat, Nat.mod_eq_of_lt (by omega)]

/-- A grid point's entry of the first table is its tile's. -/
theorem tile_entry (t : Fin grid0.N) (T : Fin 72) (hT : T.val = t.val / 7) :
    (ix1 (⟨(grid0.coords t 0).val, (grid0.coords t 0).isLt⟩ : Fin 72) : S72.Idx) = ix1 T :=
  congrArg ix1 (Fin.ext ((crd_tile t).trans hT.symm))

theorem index1 (t : Fin (cfgA a).N) (T : Fin 72) (hT : T.val = t.val / 7) (hu : UseAt a (t.val / 7)) :
    ((cfgA a).win (1 : Fin 5)).index t = ![BitVec.toNat (a.1 0 (ix1 T)), 0, t.val % 7] := by
  rw [← tile_entry t T hT, ← hidden_use a t hu]; exact ix_rows a.1 (grid0.coords t)
theorem index2 (t : Fin (cfgA a).N) (T : Fin 72) (hT : T.val = t.val / 7) (hu : UseAt a (t.val / 7)) :
    ((cfgA a).win (2 : Fin 5)).index t = ![BitVec.toNat (a.1 0 (ix1 T)), 0, t.val % 7] := by
  rw [← tile_entry t T hT, ← hidden_use a t hu]; exact ix_rows' a.1 (grid0.coords t)
theorem index3 (t : Fin (cfgA a).N) (T : Fin 72) (hT : T.val = t.val / 7) (hu : UseAt a (t.val / 7)) :
    ((cfgA a).win (3 : Fin 5)).index t = ![BitVec.toNat (a.1 0 (ix1 T)), t.val % 7, 0] := by
  rw [← tile_entry t T hT, ← hidden_use a t hu]; exact ix_cols a.1 (grid0.coords t)

theorem iblk0_at (c : Dev nD) (t : Fin (cfgA a).N) (r : Fin 512) (k : Fin 2048) (R : Fin 36864) (hR : R.val = t.val / 7 * 512 + r.val) :
    iblk a m ρ c (0 : Fin 5) t (ix2 r k) = m ((c : Thread nD τ).loc main_arg2) (ix2 R k) := by
  refine congrArg (m ((c : Thread nD τ).loc main_arg2)) (funext fun x => Fin.ext ?_)
  refine (Pipeline.Window.rect_emb_val ((cfgA a).win (0 : Fin 5)) t (ix2 r k) x).trans ?_
  rw [index0 a t]
  fin_cases x
  · show t.val / 7 * 512 + r.val = R.val
    omega
  · show 0 * 2048 + k.val = k.val
    omega

theorem iblk1_at (c : Dev nD) (t : Fin (cfgA a).N) (T : Fin 72) (hT : T.val = t.val / 7) (hu : UseAt a (t.val / 7)) (e : Fin 8) (he : BitVec.toNat (a.1 0 (ix1 T)) = e.val)
    (k : Fin 2048) (j : Fin 1024) (f : Fin 7168) (hf : f.val = t.val % 7 * 1024 + j.val) :
    iblk a m ρ c (1 : Fin 5) t (ix3 0 k j) = m ((c : Thread nD τ).loc main_arg3) (ix3 e k f) := by
  refine congrArg (m ((c : Thread nD τ).loc main_arg3)) (funext fun x => Fin.ext ?_)
  refine (Pipeline.Window.rect_emb_val ((cfgA a).win (1 : Fin 5)) t (ix3 0 k j) x).trans ?_
  rw [index1 a t T hT hu, he]
  fin_cases x
  · show e.val * 1 + 0 = e.val
    omega
  · show 0 * 2048 + k.val = k.val
    omega
  · show t.val % 7 * 1024 + j.val = f.val
    omega

theorem iblk2_at (c : Dev nD) (t : Fin (cfgA a).N) (T : Fin 72) (hT : T.val = t.val / 7) (hu : UseAt a (t.val / 7)) (e : Fin 8) (he : BitVec.toNat (a.1 0 (ix1 T)) = e.val)
    (k : Fin 2048) (j : Fin 1024) (f : Fin 7168) (hf : f.val = t.val % 7 * 1024 + j.val) :
    iblk a m ρ c (2 : Fin 5) t (ix3 0 k j) = m ((c : Thread nD τ).loc main_arg4) (ix3 e k f) := by
  refine congrArg (m ((c : Thread nD τ).loc main_arg4)) (funext fun x => Fin.ext ?_)
  refine (Pipeline.Window.rect_emb_val ((cfgA a).win (2 : Fin 5)) t (ix3 0 k j) x).trans ?_
  rw [index2 a t T hT hu, he]
  fin_cases x
  · show e.val * 1 + 0 = e.val
    omega
  · show 0 * 2048 + k.val = k.val
    omega
  · show t.val % 7 * 1024 + j.val = f.val
    omega

theorem iblk3_at (c : Dev nD) (t : Fin (cfgA a).N) (T : Fin 72) (hT : T.val = t.val / 7) (hu : UseAt a (t.val / 7)) (e : Fin 8) (he : BitVec.toNat (a.1 0 (ix1 T)) = e.val)
    (j : Fin 1024) (f : Fin 7168) (hf : f.val = t.val % 7 * 1024 + j.val) (n : Fin 2048) :
    iblk a m ρ c (3 : Fin 5) t (ix3 0 j n) = m ((c : Thread nD τ).loc main_arg5) (ix3 e f n) := by
  refine congrArg (m ((c : Thread nD τ).loc main_arg5)) (funext fun x => Fin.ext ?_)
  refine (Pipeline.Window.rect_emb_val ((cfgA a).win (3 : Fin 5)) t (ix3 0 j n) x).trans ?_
  rw [index3 a t T hT hu, he]
  fin_cases x
  · show e.val * 1 + 0 = e.val
    omega
  · show t.val % 7 * 1024 + j.val = f.val
    omega
  · show 0 * 2048 + n.val = n.val
    omega

/-! ## The running sum -/

/-- One hidden entry's contribution to an entry of an expert's result, the gate in the form `gate`. -/
def part (gate : EReal → EReal) (x : FVec Ideal S36864x2048 .bf16) (wg wu : FVec Ideal S8x2048x7168 .bf16) (wd : FVec Ideal S8x7168x2048 .bf16)
    (e : Fin 8) (R : Fin 36864) (n : Fin 2048) (f : Fin 7168) : EReal :=
  gate (∑ k : Fin 2048, x (ix2 R k) * wg (ix3 e k f)) * (∑ k : Fin 2048, x (ix2 R k) * wu (ix3 e k f)) * wd (ix3 e f n)

/-- A step's store, entry by entry. -/
theorem pay2_at (s : FVec Ideal S512x2048 .f32) (x : FVec Ideal S512x2048 .bf16) (wg wu : FVec Ideal S1x2048x1024 .bf16) (wd : FVec Ideal S1x1024x2048 .bf16)
    (r : Fin 512) (n : Fin 2048) : k0_pay2 (F := Ideal) s x wg wu wd (ix2 r n) = s (ix2 r n)
      + ∑ j : Fin 1024, ofHalf (∑ k : Fin 2048, x (ix2 r k) * wg (ix3 0 k j)) * (∑ k : Fin 2048, x (ix2 r k) * wu (ix3 0 k j)) * wd (ix3 0 j n) := by
  pointwise [k0_pay2]
  rfl

theorem pay1_at (r : Fin 512) (n : Fin 2048) : k0_pay1 (F := Ideal) (ix2 r n) = 0 := by
  pointwise [k0_pay1]
theorem pay3_at (r : Fin 512) (n : Fin 2048) : k0_pay3 (F := Ideal) (ix2 r n) = 0 := by
  pointwise [k0_pay3]

/-- The argument arrays' contribution of a hidden entry, the entry given as any number. -/
def at_ (c : Dev nD) (e : Fin 8) (R : Fin 36864) (n : Fin 2048) (f : ℕ) : EReal :=
  part ofHalf (m ((c : Thread nD τ).loc main_arg2)) (m ((c : Thread nD τ).loc main_arg3)) (m ((c : Thread nD τ).loc main_arg4)) (m ((c : Thread nD τ).loc main_arg5))
    e R n ⟨f % 7168, Nat.mod_lt _ (by decide)⟩

theorem step_at (c : Dev nD) (t : Fin (cfgA a).N) (T : Fin 72) (hT : T.val = t.val / 7) (hu : UseAt a (t.val / 7)) (e : Fin 8) (he : BitVec.toNat (a.1 0 (ix1 T)) = e.val)
    (s : FVec Ideal S512x2048 .f32) (r : Fin 512) (n : Fin 2048) (R : Fin 36864) (hR : R.val = t.val / 7 * 512 + r.val) :
    k0_pay2 (F := Ideal) s (iblk a m ρ c (0 : Fin 5) t) (iblk a m ρ c (1 : Fin 5) t) (iblk a m ρ c (2 : Fin 5) t) (iblk a m ρ c (3 : Fin 5) t) (ix2 r n)
      = s (ix2 r n) + ∑ j : Fin 1024, at_ m c e R n (t.val % 7 * 1024 + j.val) := by
  refine (pay2_at s _ _ _ _ r n).trans (congrArg (s (ix2 r n) + ·) (Finset.sum_congr rfl fun j _ => ?_))
  have hf : (t.val % 7 * 1024 + j.val) % 7168 = t.val % 7 * 1024 + j.val := Nat.mod_eq_of_lt (by have := j.isLt; omega)
  unfold at_ part
  refine congr (congrArg HMul.hMul (congr (congrArg HMul.hMul (congrArg ofHalf ?_)) ?_)) ?_
  · exact Finset.sum_congr rfl fun k _ => congr (congrArg HMul.hMul (iblk0_at a m ρ c t r k R hR)) (iblk1_at a m ρ c t T hT hu e he k j _ hf)
  · exact Finset.sum_congr rfl fun k _ => congr (congrArg HMul.hMul (iblk0_at a m ρ c t r k R hR)) (iblk2_at a m ρ c t T hT hu e he k j _ hf)
  · exact iblk3_at a m ρ c t T hT hu e he j _ hf n

/-- The running sum of a tile in use after its step `s`. -/
theorem acc_at (c : Dev nD) (T : Fin 72) (hu : UseAt a T.val) (e : Fin 8) (he : BitVec.toNat (a.1 0 (ix1 T)) = e.val)
    (r : Fin 512) (n : Fin 2048) (R : Fin 36864) (hR : R.val = T.val * 512 + r.val) : ∀ (s : ℕ) (_ : s < 7) (h : T.val * 7 + s < grid0.N),
    acc a m ρ c (T.val * 7 + s) h (ix2 r n) = ∑ i ∈ Finset.range (s + 1), ∑ j : Fin 1024, at_ m c e R n (i * 1024 + j.val) := by
  intro s
  induction s with
  | zero =>
    intro _ h
    have hd : (T.val * 7 + 0) / 7 = T.val := by omega
    have hm : (T.val * 7 + 0) % 7 = 0 := by omega
    rw [acc_first a m ρ c ⟨T.val * 7 + 0, h⟩ hm]
    refine (step_at a m ρ c ⟨T.val * 7 + 0, h⟩ T hd.symm (by rw [hd]; exact hu) e he _ r n R (by rw [hd]; exact hR)).trans ?_
    rw [pay1_at, zero_add, Finset.sum_range_one, hm]
  | succ s ih =>
    intro hs h
    have hd : (T.val * 7 + (s + 1)) / 7 = T.val := by omega
    have hm : (T.val * 7 + (s + 1)) % 7 = s + 1 := by omega
    rw [acc_next a m ρ c ⟨T.val * 7 + (s + 1), h⟩ (by show (T.val * 7 + (s + 1)) % 7 ≠ 0; omega)]
    refine (step_at a m ρ c ⟨T.val * 7 + (s + 1), h⟩ T hd.symm (by rw [hd]; exact hu) e he _ r n R (by rw [hd]; exact hR)).trans ?_
    rw [Finset.sum_range_succ _ (s + 1), hm]
    refine congrArg (· + _) ?_
    exact (congrFun (accBefore_succ a m ρ c ⟨T.val * 7 + s, by omega⟩) _).trans (ih (by omega) (by omega))

/-- The sum a tile in use writes back. -/
theorem acc_last (c : Dev nD) (T : Fin 72) (hu : UseAt a T.val) (e : Fin 8) (he : BitVec.toNat (a.1 0 (ix1 T)) = e.val)
    (r : Fin 512) (n : Fin 2048) (R : Fin 36864) (hR : R.val = T.val * 512 + r.val) (h : T.val * 7 + 6 < grid0.N) :
    acc a m ρ c (T.val * 7 + 6) h (ix2 r n) = ∑ f : Fin 7168,
      part ofHalf (m ((c : Thread nD τ).loc main_arg2)) (m ((c : Thread nD τ).loc main_arg3)) (m ((c : Thread nD τ).loc main_arg4)) (m ((c : Thread nD τ).loc main_arg5)) e R n f := by
  rw [acc_at a m ρ c T hu e he r n R hR 6 (by omega) h, ← Fin.sum_univ_eq_sum_range (fun i => ∑ j : Fin 1024, at_ m c e R n (i * 1024 + j.val)) 7,
    Fin.sum_univ_univ_mul_add 7 1024 (at_ m c e R n)]
  refine Finset.sum_congr rfl fun f _ => ?_
  unfold at_
  congr 1
  exact Fin.ext (Nat.mod_eq_of_lt f.isLt)

end Cert.Kernel3Ideal.Moe
-- ==== Proof.MoeKernel.lean ====
/-
  The experts' kernel's result array: entry by entry, the tile's expert's sum for a tile in use and zero for one that
  is not.
-/
module

public import proofs.«01_k».proof.Proof.MoeBlocks

@[expose] public section

set_option maxRecDepth 16384

noncomputable section

namespace Cert.Kernel3Ideal.Moe

open Idealize.ShloMosaic Idealize.ShloMosaic.TcCoe Idealize.SL.Sem
open Cert.Kernel3Ideal Cert.Kernel3Ideal.Gen Cert.MoeGate

variable (a : (pcfg0 (F := Ideal)).Adm)
variable (m : (ℓ : Loc nD τ sig) → Buf (Elt Ideal) ℓ) (ρ : Dev nD → PrngReg)

/-- The tile of a row. -/
abbrev tileOf (R : Fin 36864) : Fin 72 := ⟨R.val / 512, by omega⟩

/-- The result array: an entry is the sum over the hidden entries of its tile's expert, or zero. -/
def entries (gate : EReal → EReal) (use : ℕ → Prop) [DecidablePred use] (expert : Fin 72 → Fin 8) (x : FVec Ideal S36864x2048 .bf16) (wg wu : FVec Ideal S8x2048x7168 .bf16) (wd : FVec Ideal S8x7168x2048 .bf16) :
    FVec Ideal S36864x2048 .f32 := fun i =>
  if use (tileOf (i 0)).val then ∑ f : Fin 7168, part gate x wg wu wd (expert (tileOf (i 0))) (i 0) (i 1) f else 0

/-- The blocks written back cover the result. -/
theorem covers : ((cfgA a).win (4 : Fin 5)).Covers := by
  refine ⟨fun x => ?_, fun β => ?_⟩
  · fin_cases x
    · show 0 < 512; omega
    · show 0 < 2048; omega
  have h0 : (β 0).val < 72 := Nat.lt_of_lt_of_eq (β 0).isLt (show (36864 + 512 - 1) / 512 = 72 by decide)
  have h1 : (β 1).val < 1 := Nat.lt_of_lt_of_eq (β 1).isLt (show (2048 + 2048 - 1) / 2048 = 1 by decide)
  refine ⟨⟨(β 0).val * 7 + 6, by show (β 0).val * 7 + 6 < 504; omega⟩, ?_, fun x => ⟨?_, .inl rfl⟩⟩
  · rw [flush4]; exact decide_eq_true (by show ((β 0).val * 7 + 6) % 7 = 6; omega)
  · rw [index4]
    fin_cases x
    · show ((β 0).val * 7 + 6) / 7 = (β 0).val; omega
    · show 0 = (β 1).val; omega

theorem out4_at (c : Dev nD) (expert : Fin 72 → Fin 8) (he : ∀ T, BitVec.toNat (a.1 0 (ix1 T)) = (expert T).val) (t : Fin (cfgA a).N) (h6 : t.val % 7 = 6)
    (r : Fin 512) (n : Fin 2048) (R : Fin 36864) (hR : R.val = t.val / 7 * 512 + r.val) :
    out4 a m ρ c t (ix2 r n) = entries ofHalf (UseAt a) expert (m ((c : Thread nD τ).loc main_arg2)) (m ((c : Thread nD τ).loc main_arg3)) (m ((c : Thread nD τ).loc main_arg4)) (m ((c : Thread nD τ).loc main_arg5)) (ix2 R n) := by
  have ht : (tileOf R).val = t.val / 7 := by show R.val / 512 = _; have := r.isLt; omega
  obtain ⟨tv, htv⟩ := t
  obtain rfl : tv = (tileOf R).val * 7 + 6 := by
    have : (tileOf R).val = tv / 7 := ht
    have : tv % 7 = 6 := h6
    omega
  unfold out4 entries
  by_cases hu : UseAt a (tileOf R).val
  · rw [if_pos (by rw [← ht]; exact hu)]
    refine (acc_last a m ρ c (tileOf R) hu (expert (tileOf R)) (he _) r n R (by rw [ht]; exact hR) htv).trans ?_
    exact (if_pos hu).symm
  · rw [if_neg (by rw [← ht]; exact hu)]
    exact (pay3_at r n).trans (if_neg hu).symm

/-- The result array after the run. -/
theorem final (c : Dev nD) (expert : Fin 72 → Fin 8) (he : ∀ T, BitVec.toNat (a.1 0 (ix1 T)) = (expert T).val) :
    (dats a m ρ 0 c).arrAt (4 : Fin 5) (cfgA a).N
      = entries ofHalf (UseAt a) expert (m ((c : Thread nD τ).loc main_arg2)) (m ((c : Thread nD τ).loc main_arg3)) (m ((c : Thread nD τ).loc main_arg4)) (m ((c : Thread nD τ).loc main_arg5)) := by
  refine (dats a m ρ 0 c).arrAt_eq_of_covers (4 : Fin 5) _ (covers a) fun t hf y => ?_
  have h6 : t.val % 7 = 6 := by rw [flush4] at hf; exact of_decide_eq_true hf
  have hN : t.val < 504 := t.isLt
  have hy0 : (y 0).val < 512 := (y 0).isLt
  have e : (((cfgA a).win (4 : Fin 5)).blk t).view.emb y = (ix2 (⟨t.val / 7 * 512 + (y 0).val, by omega⟩ : Fin 36864) (y 1) : S36864x2048.Idx) := by
    refine funext fun x => Fin.ext ?_
    refine (Pipeline.Window.rect_emb_val ((cfgA a).win (4 : Fin 5)) t y x).trans ?_
    rw [index4 a t]
    fin_cases x
    · rfl
    · show 0 * 2048 + (y 1).val = (y 1).val
      omega
  rw [e]
  refine Eq.trans ?_ (out4_at a m ρ c expert he t h6 (y 0) (y 1) _ rfl)
  rw [after0_4]
  refine congrArg (out4 a m ρ c t) (funext fun x => ?_)
  fin_cases x <;> rfl

end Cert.Kernel3Ideal.Moe
-- ==== Proof.MoeRef.lean ====
/-
  The reference's loop over the experts, entry by entry: of the eight terms only the one of the tile's expert, of a
  tile in use, is not zero.
-/
module

public import proofs.«01_k».proof.Proof.MoeKernel
public import proofs.«01_k».proof.Proof.Gen.Reference3Ideal.Run
public import Idealize.ShloMosaic.Lib.StableHlo.RunRead
public import Idealize.ShloMosaic.Lib.Quiescent
public import Idealize.ShloMosaic.Lib.WordCmp

@[expose] public section

set_option maxRecDepth 16384

noncomputable section

namespace Cert.Reference3Ideal.Moe

open Idealize.ShloMosaic Idealize.ShloMosaic.TcCoe Idealize.SL.Sem
open Cert.Reference3Ideal Cert.Reference3Ideal.Gen Cert.MoeGate

variable (te : IVec S72 32) (nu : IVec S1 32) (x : FVec Ideal S36864x2048 .bf16) (wg wu : FVec Ideal S8x2048x7168 .bf16) (wd : FVec Ideal S8x7168x2048 .bf16)

/-- The rows an expert takes: one where the row's tile is in use and the expert's, zero elsewhere. -/
def mine (w : BitVec 32) : FVec Ideal S36864 .f32 :=
  shapeCast _ (broadcastInDim S72x512 ![0] bcast_S72_S72x512_0 (id (select
    (andi (cmpi .slt (iotaInDim S72 32 0) (broadcastInDim S72 ![] bcast_S_S72 (shapeCast S_ nu shapeCasts_S1_S_))) (cmpi .eq te (broadcastInDim S72 ![] bcast_S_S72 (constantI S_ 32 w))))
    (broadcastInDim S72 ![] bcast_S_S72 (constant (F := Ideal) S_ .f32 0x3F800000#32)) (broadcastInDim S72 ![] bcast_S_S72 (constant (F := Ideal) S_ .f32 0x00000000#32))))) shapeCasts_S72x512_S36864

/-- An expert's gate before its exponential, -/
def pre (off : Fin 3 → ℕ) (h : S8x2048x7168.Slices off S1x2048x7168) (w : FVec Ideal S8x2048x7168 .bf16) : FVec Ideal S36864x7168 .f32 :=
  Host.dotGeneral dot_S36864x2048_S2048x7168_S36864x7168_1_0_0_1_n_n none (extf .f32 x bitsLt_bf16_f32 : FVec Ideal S36864x2048 .f32)
    (shapeCast _ (extractStridedSlice S1x2048x7168 off (extf .f32 w bitsLt_bf16_f32 : FVec Ideal S8x2048x7168 .f32) h) shapeCasts_S1x2048x7168_S2048x7168 : FVec Ideal S2048x7168 .f32)

/-- and its result on all the rows. -/
def net (off : Fin 3 → ℕ) (h : S8x2048x7168.Slices off S1x2048x7168) (h' : S8x7168x2048.Slices off S1x7168x2048) : FVec Ideal S36864x2048 .f32 :=
  Host.dotGeneral dot_S36864x7168_S7168x2048_S36864x2048_1_0_0_1_n_n none
    (mulf (mulf (pre x off h wg) (Host.divf (broadcastInDim S36864x7168 ![] bcast_S_S36864x7168 (constant S_ .f32 0x3F800000#32))
      (addf (broadcastInDim S36864x7168 ![] bcast_S_S36864x7168 (constant S_ .f32 0x3F800000#32)) (Host.exp (Host.negf (pre x off h wg)))))) (pre x off h wu))
    (shapeCast _ (extractStridedSlice S1x7168x2048 off (extf .f32 wd bitsLt_bf16_f32 : FVec Ideal S8x7168x2048 .f32) h') shapeCasts_S1x7168x2048_S7168x2048 : FVec Ideal S7168x2048 .f32)

/-- One expert's term of the sum. -/
def term (w : BitVec 32) (off : Fin 3 → ℕ) (h : S8x2048x7168.Slices off S1x2048x7168) (h' : S8x7168x2048.Slices off S1x7168x2048) : FVec Ideal S36864x2048 .f32 :=
  mulf (broadcastInDim S36864x2048 ![0, 1] bcast_S36864x1_S36864x2048_0_1 (broadcastInDim S36864x1 ![0] bcast_S36864_S36864x1_0 (mine te nu w))) (net x wg wu wd off h h')

/-- The sum over the experts. -/
def total : FVec Ideal S36864x2048 .f32 :=
  addf (addf (addf (addf (addf (addf (addf (addf (broadcastInDim S36864x2048 ![] bcast_S_S36864x2048 (constant S_ .f32 0x00000000#32))
    (term te nu x wg wu wd 0#32 ![0, 0, 0] slices_S8x2048x7168_S1x2048x7168_0_0_0 slices_S8x7168x2048_S1x7168x2048_0_0_0))
    (term te nu x wg wu wd 1#32 ![1, 0, 0] slices_S8x2048x7168_S1x2048x7168_1_0_0 slices_S8x7168x2048_S1x7168x2048_1_0_0))
    (term te nu x wg wu wd 2#32 ![2, 0, 0] slices_S8x2048x7168_S1x2048x7168_2_0_0 slices_S8x7168x2048_S1x7168x2048_2_0_0))
    (term te nu x wg wu wd 3#32 ![3, 0, 0] slices_S8x2048x7168_S1x2048x7168_3_0_0 slices_S8x7168x2048_S1x7168x2048_3_0_0))
    (term te nu x wg wu wd 4#32 ![4, 0, 0] slices_S8x2048x7168_S1x2048x7168_4_0_0 slices_S8x7168x2048_S1x7168x2048_4_0_0))
    (term te nu x wg wu wd 5#32 ![5, 0, 0] slices_S8x2048x7168_S1x2048x7168_5_0_0 slices_S8x7168x2048_S1x7168x2048_5_0_0))
    (term te nu x wg wu wd 6#32 ![6, 0, 0] slices_S8x2048x7168_S1x2048x7168_6_0_0 slices_S8x7168x2048_S1x7168x2048_6_0_0))
    (term te nu x wg wu wd 7#32 ![7, 0, 0] slices_S8x2048x7168_S1x2048x7168_7_0_0 slices_S8x7168x2048_S1x7168x2048_7_0_0)

open Cert.Reference3Ideal.Value in
theorem run_total (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v205) = total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ⟨(h c).1.trans ?_, (h c).2⟩) (Cert.Reference3Ideal.Value.run m ρ)
  unfold total term net mine pre res_main_v155 res_main_v80 res_main_v198 res_main_v173 res_main_v148 res_main_v123 res_main_v98 res_main_v73 res_main_v48 res_main_v23
    res_main_v4 res_main_v3 res_main_v2 res_main_v1 res_main_v0
  rfl

/-- The reference terminates with its arguments unchanged and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run _ _ _).mono (fun r h => ⟨fun c => (h c).2, Idealize.ShloMosaic.sem_eq_zero_of_no_sems (by decide) r.2⟩) (run_total m ρ)

/-- The rows' factor, entry by entry. -/
theorem mine_at (w : BitVec 32) (R : Fin 36864) : mine te nu w (ix1 R)
    = Scalar.select (IntOp.andi (IntOp.cmpi .slt (BitVec.ofNat 32 (R.val / 512)) (nu (ix1 0))) (IntOp.cmpi .eq (te (ix1 ⟨R.val / 512, by omega⟩)) w)) (1 : EReal) 0 := by
  pointwise [mine, id_eq]

theorem pre_at (e : Fin 8) (h) (w : FVec Ideal S8x2048x7168 .bf16) (R : Fin 36864) (f : Fin 7168) :
    pre x ![e.val, 0, 0] h w (ix2 R f) = ∑ k : Fin 2048, x (ix2 R k) * w (ix3 e k f) := by
  pointwise [pre]

theorem net_at (e : Fin 8) (h) (h') (R : Fin 36864) (n : Fin 2048) :
    net x wg wu wd ![e.val, 0, 0] h h' (ix2 R n) = ∑ f : Fin 7168, Cert.Kernel3Ideal.Moe.part ofExp x wg wu wd e R n f := by
  pointwise [net]
  refine Finset.sum_congr rfl fun f _ => ?_
  rw [pre_at x e h wg R f, pre_at x e h wu R f]
  rfl

theorem term_at (w : BitVec 32) (e : Fin 8) (h) (h') (R : Fin 36864) (n : Fin 2048) :
    term te nu x wg wu wd w ![e.val, 0, 0] h h' (ix2 R n) = mine te nu w (ix1 R) * net x wg wu wd ![e.val, 0, 0] h h' (ix2 R n) := by
  pointwise [term]

/-- The factor of a tile not in use, -/
theorem mine_unused (w : BitVec 32) (R : Fin 36864) (hu : ¬ IntOp.cmpi .slt (BitVec.ofNat 32 (R.val / 512)) (nu (ix1 0)) = 1#1) : mine te nu w (ix1 R) = 0 := by
  rw [mine_at]
  unfold Scalar.select
  refine if_neg fun h => hu ((by decide : ∀ p q : BitVec 1, IntOp.andi p q = 1 → p = 1#1) _ _ h)

/-- of another expert, -/
theorem mine_other (w : BitVec 32) (R : Fin 36864) (hw : te (ix1 ⟨R.val / 512, by omega⟩) ≠ w) : mine te nu w (ix1 R) = 0 := by
  rw [mine_at]
  unfold Scalar.select
  refine if_neg fun h => hw ?_
  have h2 := (by decide : ∀ p q : BitVec 1, IntOp.andi p q = 1 → q = 1#1) _ _ h
  have ofBool_eq_one (p : Bool) : (BitVec.ofBool p = 1#1) ↔ p = true := by cases p <;> decide
  simpa only [IntOp.cmpi, ofBool_eq_one, beq_iff_eq] using h2

/-- and of the tile's own. -/
theorem mine_own (w : BitVec 32) (R : Fin 36864) (hu : IntOp.cmpi .slt (BitVec.ofNat 32 (R.val / 512)) (nu (ix1 0)) = 1#1) (hw : te (ix1 ⟨R.val / 512, by omega⟩) = w) :
    mine te nu w (ix1 R) = 1 := by
  rw [mine_at, hu, hw]
  unfold Scalar.select
  refine if_pos ?_
  have ofBool_eq_one (p : Bool) : (BitVec.ofBool p = 1#1) ↔ p = true := by cases p <;> decide
  have : IntOp.cmpi .eq w w = 1#1 := by simp only [IntOp.cmpi, ofBool_eq_one, beq_iff_eq]
  rw [this]; decide

/-- The sum, entry by entry. -/
theorem total_at (R : Fin 36864) (n : Fin 2048) (e : Fin 8) (he : te (ix1 ⟨R.val / 512, by omega⟩) = BitVec.ofNat 32 e.val) :
    total te nu x wg wu wd (ix2 R n) = if IntOp.cmpi .slt (BitVec.ofNat 32 (R.val / 512)) (nu (ix1 0)) = 1#1
      then ∑ f : Fin 7168, Cert.Kernel3Ideal.Moe.part ofExp x wg wu wd e R n f else 0 := by
  have h0 := term_at te nu x wg wu wd 0#32 0 slices_S8x2048x7168_S1x2048x7168_0_0_0 slices_S8x7168x2048_S1x7168x2048_0_0_0 R n
  have h1 := term_at te nu x wg wu wd 1#32 1 slices_S8x2048x7168_S1x2048x7168_1_0_0 slices_S8x7168x2048_S1x7168x2048_1_0_0 R n
  have h2 := term_at te nu x wg wu wd 2#32 2 slices_S8x2048x7168_S1x2048x7168_2_0_0 slices_S8x7168x2048_S1x7168x2048_2_0_0 R n
  have h3 := term_at te nu x wg wu wd 3#32 3 slices_S8x2048x7168_S1x2048x7168_3_0_0 slices_S8x7168x2048_S1x7168x2048_3_0_0 R n
  have h4 := term_at te nu x wg wu wd 4#32 4 slices_S8x2048x7168_S1x2048x7168_4_0_0 slices_S8x7168x2048_S1x7168x2048_4_0_0 R n
  have h5 := term_at te nu x wg wu wd 5#32 5 slices_S8x2048x7168_S1x2048x7168_5_0_0 slices_S8x7168x2048_S1x7168x2048_5_0_0 R n
  have h6 := term_at te nu x wg wu wd 6#32 6 slices_S8x2048x7168_S1x2048x7168_6_0_0 slices_S8x7168x2048_S1x7168x2048_6_0_0 R n
  have h7 := term_at te nu x wg wu wd 7#32 7 slices_S8x2048x7168_S1x2048x7168_7_0_0 slices_S8x7168x2048_S1x7168x2048_7_0_0 R n
  rw [net_at x wg wu wd 0] at h0
  rw [net_at x wg wu wd 1] at h1
  rw [net_at x wg wu wd 2] at h2
  rw [net_at x wg wu wd 3] at h3
  rw [net_at x wg wu wd 4] at h4
  rw [net_at x wg wu wd 5] at h5
  rw [net_at x wg wu wd 6] at h6
  rw [net_at x wg wu wd 7] at h7
  have hs : total te nu x wg wu wd (ix2 R n) = ∑ i : Fin 8, mine te nu (BitVec.ofNat 32 i.val) (ix1 R) * ∑ f : Fin 7168, Cert.Kernel3Ideal.Moe.part ofExp x wg wu wd i R n f := by
    rw [Fin.sum_univ_eight]
    refine Eq.trans ?_ (congr (congrArg HAdd.hAdd (congr (congrArg HAdd.hAdd (congr (congrArg HAdd.hAdd (congr (congrArg HAdd.hAdd (congr (congrArg HAdd.hAdd (congr (congrArg HAdd.hAdd
      (congr (congrArg HAdd.hAdd h0) h1)) h2)) h3)) h4)) h5)) h6)) h7)
    pointwise [total]
  rw [hs]
  by_cases hu : IntOp.cmpi .slt (BitVec.ofNat 32 (R.val / 512)) (nu (ix1 0)) = 1#1
  · rw [if_pos hu, Finset.sum_eq_single e]
    · rw [mine_own te nu _ R hu he, one_mul]
    · intro i _ hi
      rw [mine_other te nu _ R, zero_mul]
      rw [he]
      intro h
      refine hi (Fin.ext ?_)
      have := congrArg BitVec.toNat h
      rw [BitVec.toNat_ofNat, BitVec.toNat_ofNat] at this
      omega
    · intro h; exact absurd (Finset.mem_univ e) h
  · rw [if_neg hu]
    refine Finset.sum_eq_zero fun i _ => ?_
    rw [mine_unused te nu _ R hu, zero_mul]

end Cert.Reference3Ideal.Moe
-- ==== Proof.MoeAlg.lean ====
/-
  The experts' kernel and the reference end with equal results, where the tiles' experts are among the eight and the
  rows and the gate's matrices are finite.
-/
module

public import proofs.«01_k».proof.Proof.MoeRef
public import proofs.«01_k».proof.Proof.Gen.Pre_experts_finite

@[expose] public section

set_option maxRecDepth 16384

noncomputable section

namespace Cert.Kernel3Ideal.Moe

open Idealize.ShloMosaic Idealize.ShloMosaic.TcCoe Idealize.SL.Sem
open Cert.Kernel3Ideal Cert.Kernel3Ideal.Gen Cert.MoeGate

variable (m : (ℓ : Loc nD τ sig) → Buf (Elt Ideal) ℓ) (ρ : Dev nD → PrngReg)

/-- The second precondition says the first's of the tiles; -/
theorem range_of_finite (h : Cert.Pre_Kernel3Ideal_experts_finite m) : InRange (memTables m 0) := fun i =>
  word_range _ (andi_one _ _ (congrFun (h 0).1 i)).1 (andi_one _ _ (congrFun (h 0).1 i)).2

/-- and that the rows -/
theorem rows_real (h : Cert.Pre_Kernel3Ideal_experts_finite m) (i : S36864x2048.Idx) :
    ∃ r : ℝ, (m (((0 : Dev nD) : Thread nD τ).loc main_arg2) : FVec Ideal S36864x2048 .bf16) i = (r : EReal) :=
  real_of_olt _ i (congrFun (h 0).2.1 i)
/-- and the gate's matrices are finite. -/
theorem gates_real (h : Cert.Pre_Kernel3Ideal_experts_finite m) (i : S8x2048x7168.Idx) :
    ∃ r : ℝ, (m (((0 : Dev nD) : Thread nD τ).loc main_arg3) : FVec Ideal S8x2048x7168 .bf16) i = (r : EReal) :=
  real_of_olt _ i (congrFun (h 0).2.2 i)

/-- There the two forms of the gate give one contribution. -/
theorem part_eq (x : FVec Ideal S36864x2048 .bf16) (wg wu : FVec Ideal S8x2048x7168 .bf16) (wd : FVec Ideal S8x7168x2048 .bf16)
    (hx : ∀ i, ∃ r : ℝ, x i = (r : EReal)) (hg : ∀ i, ∃ r : ℝ, wg i = (r : EReal)) (e : Fin 8) (R : Fin 36864) (n : Fin 2048) (f : Fin 7168) :
    part ofHalf x wg wu wd e R n f = part ofExp x wg wu wd e R n f := by
  obtain ⟨z, hz⟩ := sum_real (fun k : Fin 2048 => x (ix2 R k)) (fun k => wg (ix3 e k f)) (fun _ => hx _) (fun _ => hg _)
  unfold part
  rw [show (∑ k : Fin 2048, x (ix2 R k) * wg (ix3 e k f)) = (z : EReal) from hz, gate_eq z]

/-- The word the body reads of the second table is its one entry. -/
theorem cnt_entry (T1 : S1.Idx → BitVec 32) : cnt T1 = T1 (ix1 0) :=
  congrArg T1 ((by decide : ∀ y z : S1.Idx, y = z) _ _)

/-- The kernel's result is the reference's. -/
theorem result (h : Cert.Pre_Kernel3Ideal_experts_finite m) (c : Dev nD) :
    (dats (tables m (range_of_finite m h)) m ρ 0 c).arrAt (4 : Fin 5) (cfgA (tables m (range_of_finite m h))).N
      = Cert.Reference3Ideal.Moe.total (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  obtain rfl : c = 0 := Subsingleton.elim c 0
  have hr := range_of_finite m h
  let expert : Fin 72 → Fin 8 := fun T => ⟨BitVec.toNat (memTables m 0 (ix1 T)), hr (ix1 T)⟩
  refine (final (tables m hr) m ρ 0 expert fun _ => rfl).trans (funext fun i => ?_)
  obtain ⟨R, n, rfl⟩ : ∃ (R : Fin 36864) (n : Fin 2048), i = ix2 R n := ⟨i 0, i 1, eq_ix2 i⟩
  refine Eq.trans ?_ (Cert.Reference3Ideal.Moe.total_at _ _ _ _ _ _ R n (expert (tileOf R)) ?_).symm
  · unfold entries
    have hc : UseAt (tables m hr) (tileOf R).val ↔ IntOp.cmpi .slt (BitVec.ofNat 32 (R.val / 512)) (m (((0 : Dev nD) : Thread nD τ).loc main_arg1) (ix1 0)) = 1#1 :=
      Iff.of_eq (congrArg (fun w : BitVec 32 => IntOp.cmpi .slt (BitVec.ofNat 32 (R.val / 512)) w = 1#1) (cnt_entry _))
    by_cases hu : UseAt (tables m hr) (tileOf R).val
    · refine (if_pos hu).trans (Eq.trans ?_ (if_pos (hc.1 hu)).symm)
      exact Finset.sum_congr rfl fun f _ => part_eq _ _ _ _ (rows_real m h) (gates_real m h) _ R n f
    · exact (if_neg hu).trans (if_neg fun hu' => hu (hc.2 hu')).symm
  · exact (BitVec.ofNat_toNat 32 _ ▸ (BitVec.setWidth_eq _).symm)

/-- Kernel and reference end with equal results. -/
theorem algebraic : algebraic_Kernel3Ideal_Reference3Ideal_pre_experts_finite := by
  intro m g m' g' hpre hagree
  have hp := tables_eq m (range_of_finite m hpre)
  refine ⟨_, (θ_run _ _ _).mono (fun r h c => ⟨((h.1 c).1 (4 : Fin 5)).trans (result m g hpre c), ((h.1 c).2 0).trans (hp c 0).symm, ((h.1 c).2 1).trans (hp c 1).symm,
      ((h.1 c).1 (0 : Fin 5)).trans ((dats _ m g 0 c).arrAt_in (0 : Fin 5) rfl _), ((h.1 c).1 (1 : Fin 5)).trans ((dats _ m g 0 c).arrAt_in (1 : Fin 5) rfl _),
      ((h.1 c).1 (2 : Fin 5)).trans ((dats _ m g 0 c).arrAt_in (2 : Fin 5) rfl _), ((h.1 c).1 (3 : Fin 5)).trans ((dats _ m g 0 c).arrAt_in (3 : Fin 5) rfl _)⟩)
    (run_main_quiescent (tables m (range_of_finite m hpre)) m g hp), ?_⟩
  refine (θ_run _ _ _).mono (fun r h c => ⟨(h c).1.trans ?_, (h c).2⟩) (Cert.Reference3Ideal.Moe.run_total m' g')
  obtain ⟨h0, h1, h2, h3, h4, h5⟩ := hagree c
  rw [h0, h1, h2, h3, h4, h5]

end Cert.Kernel3Ideal.Moe
-- ==== Proof.GateProj.lean ====
/-
  The gates' projection: what the tiled kernel leaves in its result is the reference's product.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.StableHlo.RunRead
public import Idealize.ShloMosaic.Lib.Quiescent

@[expose] public section

set_option maxRecDepth 16384

noncomputable section

namespace Cert.Reference4Ideal.Gates

open Idealize.ShloMosaic Idealize.ShloMosaic.TcCoe Idealize.SL.Sem
open Cert.Reference4Ideal Cert.Reference4Ideal.Gen

/-- The columns of one product, all the gates' columns of the hidden rows against the weights. -/
def columns (h : FVec Ideal S17408x2048 .bf16) (w : FVec Ideal S2048x20544 .f32) : FVec Ideal S17408x4160 .bf16 :=
  truncf .bf16 (Host.dotGeneral dot_S17408x2048_S2048x4160_S17408x4160_1_0_0_1_n_n none (extf .f32 h bitsLt_bf16_f32)
    (extractStridedSlice S2048x4160 ![0, 16384] w slices_S2048x20544_S2048x4160_0_16384)) bitsLt_bf16_f32

/-- The reference's result: the first gate's columns, and the second's with zeros after them. -/
def product (h : FVec Ideal S17408x2048 .bf16) (w : FVec Ideal S2048x20544 .f32) : FVec Ideal S2x17408x2176 .bf16 :=
  concatenate S2x17408x2176 0
    [⟨S1x17408x2176, broadcastInDim S1x17408x2176 ![1, 2] bcast_S17408x2176_S1x17408x2176_1_2 (extractStridedSlice S17408x2176 ![0, 0] (columns h w) slices_S17408x4160_S17408x2176_0_0)⟩,
      ⟨S1x17408x2176, broadcastInDim S1x17408x2176 ![1, 2] bcast_S17408x2176_S1x17408x2176_1_2
        (pad S17408x2176 ![0, 0] ![0, 64] ![0, 0] (extractStridedSlice S17408x2112 ![0, 2048] (columns h w) slices_S17408x4160_S17408x2112_0_2048)
          (sitofp .bf16 (constantI S_ 32 0#32)) pads_S17408x2112_S17408x2176_000_0640 h_S_)⟩]
    concatenates_S1x17408x2176_S1x17408x2176_S2x17408x2176_d0

/-- The reference terminates with its arguments unchanged and every semaphore at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run _ _ _).mono (fun r h => ⟨fun c => (h c).2, Idealize.ShloMosaic.sem_eq_zero_of_no_sems (by decide) r.2⟩) (Value.run m ρ)

end Cert.Reference4Ideal.Gates

namespace Cert.Kernel4Ideal.Gates

open Idealize.ShloMosaic Idealize.ShloMosaic.TcCoe Idealize.SL.Sem
open Idealize.ShloMosaic.Pipeline (Dat)
open Cert.Kernel4Ideal Cert.Kernel4Ideal.Gen Cert.Kernel4Ideal.Value
open Cert.Reference4Ideal.Gates (columns product)

variable (m : (ℓ : Loc nD τ sig) → Buf (Elt Ideal) ℓ)

theorem idx : ∀ t : Fin cfg0.N, win0_0.index t = ![t.val % 17, 0] ∧ win0_1.index t = ![t.val / 17, 0, 0]
    ∧ win0_2.index t = ![t.val / 17, t.val % 17, 0] ∧ t.val / 17 < 2 :=
  (by decide +kernel : ∀ t : Fin grid0.N, _)

/-- The two gates' weights the region finds. -/
def weights (w : FVec Ideal S2048x20544 .f32) : FVec Ideal S2x2048x2176 .bf16 :=
  concatenate S2x2048x2176 0
    [⟨S1x2048x2176, broadcastInDim S1x2048x2176 ![1, 2] bcast_S2048x2176_S1x2048x2176_1_2
        (extractStridedSlice S2048x2176 ![0, 16384] (truncf .bf16 w bitsLt_bf16_f32) slices_S2048x20544_S2048x2176_0_16384)⟩,
      ⟨S1x2048x2176, broadcastInDim S1x2048x2176 ![1, 2] bcast_S2048x2176_S1x2048x2176_1_2
        (pad S2048x2176 ![0, 0] ![0, 64] ![0, 0] (extractStridedSlice S2048x2112 ![0, 18432] (truncf .bf16 w bitsLt_bf16_f32) slices_S2048x20544_S2048x2112_0_18432)
          (sitofp .bf16 (constantI S_ 32 0#32)) pads_S2048x2112_S2048x2176_000_0640 h_S_)⟩]
    concatenates_S1x2048x2176_S1x2048x2176_S2x2048x2176_d0

theorem V_weights (c : Dev nD) : V m c main_v6 = weights (m ((c : Thread nD τ).loc main_arg1)) := by
  unfold V
  simp only [hostOps0, hostOps0_1, hostOps0_2, List.flatten_cons, List.flatten_nil, List.cons_append, List.nil_append, List.append_nil,
    StableHlo.TRef.binary, StableHlo.TRef.unary, StableHlo.TRef.toBuf, StableHlo.TRef.ofBuf, cast_eq]
  after_results
  rfl

/-- The first gate's weights, the second's, and zeros after them. -/
theorem weights_at (w : FVec Ideal S2048x20544 .f32) (e : Fin 2) (k : Fin 2048) (j : Fin 2176) :
    weights w (ix3 e k j) = if (e : ℕ) < 1 then w (ix2 k ⟨16384 + j, by omega⟩)
      else if h : (j : ℕ) < 2112 then w (ix2 k ⟨18432 + j, by omega⟩) else (0 : EReal) := by
  pointwise [weights]
  have h0 : (FloatOps.sitofp FTy.bf16 0#32 : Ideal .bf16) = (0 : EReal) := by simp [FloatOps.sitofp]
  rw [h0]
  split_ifs <;> rfl

/-- One entry of the product, a sum over the hidden row and the gate's column. -/
theorem product_at (h : FVec Ideal S17408x2048 .bf16) (w : FVec Ideal S2048x20544 .f32) (e : Fin 2) (R : Fin 17408) (j : Fin 2176) :
    ∑ k : Fin 2048, h (ix2 R k) * weights w (ix3 e k j) = product h w (ix3 e R j) := by
  simp only [weights_at]
  pointwise [product, columns]
  have h0 : (FloatOps.sitofp FTy.bf16 0#32 : Ideal .bf16) = (0 : EReal) := by simp [FloatOps.sitofp]
  rw [h0]
  split_ifs with h1 h2
  · rfl
  · refine Finset.sum_congr rfl fun k _ => ?_
    congr 4
    omega
  · exact Finset.sum_eq_zero fun k _ => mul_zero (h (ix2 R k) : EReal)

/-- One entry of what a grid point stores. -/
theorem point (c : Dev nD) (t : Fin cfg0.N) (y : S1x1024x2176.Idx) :
    out0_2 (iblk m c 0 t) (iblk m c 1 t) y = product (m ((c : Thread nD τ).loc main_arg0)) (m ((c : Thread nD τ).loc main_arg1)) (((cfg0.win 2).blk t).view.emb y) := by
  have ht := (idx t).2.2.2
  unfold out0_2
  frame_out
  have he : ((cfg0.win 2).blk t).view.emb y = ix3 ⟨t.val / 17, ht⟩ ⟨t.val % 17 * 1024 + y 1, by have : (y 1).val < 1024 := (y 1).isLt; omega⟩ (y 2) := by
    blk_ext [idx t]
  refine Eq.trans ?_ ((product_at _ _ _ _ _).trans (congrArg _ he.symm))
  pointwise [k0_pay1]
  refine Finset.sum_congr rfl fun k _ => congr (congrArg HMul.hMul ?_) ?_
  · blk_ext [iblk, V, idx t]
  · blk_simp [iblk]
    erw [V_weights]
    blk_ext [idx t]

/-- The result array after the run. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]
  exact point m c t y

/-- Kernel and reference end with equal results. -/
theorem algebraic : algebraic_Kernel4Ideal_Reference4Ideal := by
  intro m g m' g' _ hagree
  refine ⟨_, (θ_run _ _ _).mono (fun r h c => ⟨(h c).1.trans (final m c), (h c).2⟩) (run_blocks m g), ?_⟩
  refine (θ_run _ _ _).mono (fun r h c => ⟨(h c).1.trans ?_, (h c).2⟩) (Cert.Reference4Ideal.Value.run m' g')
  rw [(hagree c).1, (hagree c).2]
  rfl

end Cert.Kernel4Ideal.Gates
-- ==== Proof.GateUp.lean ====
/-
  The dense network's hidden entries: what the tiled kernel leaves in its result is the reference's gated product, where
  the rows and the gate's weights are finite.
-/
module

public import proofs.«01_k».proof.Defs
public import proofs.«01_k».proof.Proof.Gen.Kernel5Ideal.Value
public import proofs.«01_k».proof.Proof.Gen.Reference5Ideal.Run
public import proofs.«01_k».proof.Proof.Gen.Pre_finite
public import proofs.«01_k».proof.Proof.MoeGate
public import Idealize.ShloMosaic.Lib.Pipeline.ValueKit
public import Idealize.ShloMosaic.Lib.StableHlo.RunRead
public import Idealize.ShloMosaic.Lib.Quiescent

@[expose] public section

set_option maxRecDepth 16384

noncomputable section

namespace Cert.Reference5Ideal.GateUp

open Idealize.ShloMosaic Idealize.ShloMosaic.TcCoe Idealize.SL.Sem
open Cert.Reference5Ideal Cert.Reference5Ideal.Gen

/-- The product of the rows and one of the two matrices. -/
def product (x : FVec Ideal S17408x2048 .bf16) (w : FVec Ideal S2048x5632 .f32) : FVec Ideal S17408x5632 .f32 :=
  Host.dotGeneral dot_S17408x2048_S2048x5632_S17408x5632_1_0_0_1_n_n none (extf .f32 x bitsLt_bf16_f32) w

/-- The reference's result. -/
def gated (x : FVec Ideal S17408x2048 .bf16) (wg wu : FVec Ideal S2048x5632 .f32) : FVec Ideal S17408x5632 .bf16 :=
  truncf .bf16 (mulf (mulf (product x wg) (Host.divf (broadcastInDim S17408x5632 ![] bcast_S_S17408x5632 (constant S_ .f32 0x3F800000#32))
    (addf (broadcastInDim S17408x5632 ![] bcast_S_S17408x5632 (constant S_ .f32 0x3F800000#32)) (Host.exp (Host.negf (product x wg))))))
    (product x wu)) bitsLt_bf16_f32

/-- The reference terminates with its arguments unchanged and every semaphore at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run _ _ _).mono (fun r h => ⟨fun c => (h c).2, Idealize.ShloMosaic.sem_eq_zero_of_no_sems (by decide) r.2⟩) (Value.run m ρ)

end Cert.Reference5Ideal.GateUp

namespace Cert.Kernel5Ideal.GateUp

open Idealize.ShloMosaic Idealize.ShloMosaic.TcCoe Idealize.SL.Sem
open Idealize.ShloMosaic.Pipeline (Dat)
open Cert.Kernel5Ideal Cert.Kernel5Ideal.Gen Cert.Kernel5Ideal.Value Cert.MoeGate
open Cert.Reference5Ideal.GateUp (product gated)

variable (m : (ℓ : Loc nD τ sig) → Buf (Elt Ideal) ℓ)

theorem idx : ∀ t : Fin cfg0.N, win0_0.index t = ![t.val % 68, 0] ∧ win0_1.index t = ![0, t.val / 68]
    ∧ win0_2.index t = ![0, t.val / 68] ∧ win0_3.index t = ![t.val % 68, t.val / 68] ∧ t.val / 68 < 2 :=
  (by decide +kernel : ∀ t : Fin grid0.N, _)

/-- The matrices the region finds: the arguments, their format changed. -/
theorem V_gate (c : Dev nD) : V m c main_v0 = (truncf .bf16 (m ((c : Thread nD τ).loc main_arg1) : FVec Ideal S2048x5632 .f32) bitsLt_bf16_f32 : FVec Ideal S2048x5632 .bf16) := by
  unfold V; simp only [hostOps0]; after_results
theorem V_up (c : Dev nD) : V m c main_v1 = (truncf .bf16 (m ((c : Thread nD τ).loc main_arg2) : FVec Ideal S2048x5632 .f32) bitsLt_bf16_f32 : FVec Ideal S2048x5632 .bf16) := by
  unfold V; simp only [hostOps0]; after_results

/-- The blocks a grid point reads, entry by entry. -/
theorem rows_at (c : Dev nD) (t : Fin cfg0.N) (r : Fin 256) (k : Fin 2048) :
    iblk m c 0 t (ix2 r k) = m ((c : Thread nD τ).loc main_arg0) (ix2 ⟨t.val % 68 * 256 + r, by omega⟩ k) := by
  blk_ext [iblk, V, idx t]
theorem gate_at (c : Dev nD) (t : Fin cfg0.N) (k : Fin 2048) (j : Fin 2816) :
    iblk m c 1 t (ix2 k j) = m ((c : Thread nD τ).loc main_arg1) (ix2 k ⟨t.val / 68 * 2816 + j, by have := (idx t).2.2.2.2; omega⟩) := by
  blk_simp [iblk]
  erw [V_gate]
  pointwise
  blk_ext [idx t]
theorem up_at (c : Dev nD) (t : Fin cfg0.N) (k : Fin 2048) (j : Fin 2816) :
    iblk m c 2 t (ix2 k j) = m ((c : Thread nD τ).loc main_arg2) (ix2 k ⟨t.val / 68 * 2816 + j, by have := (idx t).2.2.2.2; omega⟩) := by
  blk_simp [iblk]
  erw [V_up]
  pointwise
  blk_ext [idx t]

/-- One hidden entry by a given form of the gate. -/
def entry (gate : EReal → EReal) (x : FVec Ideal S17408x2048 .bf16) (wg wu : FVec Ideal S2048x5632 .f32) (R : Fin 17408) (n : Fin 5632) : EReal :=
  gate (∑ k : Fin 2048, x (ix2 R k) * wg (ix2 k n)) * ∑ k : Fin 2048, x (ix2 R k) * wu (ix2 k n)

/-- The reference's entries. -/
theorem gated_at (x : FVec Ideal S17408x2048 .bf16) (wg wu : FVec Ideal S2048x5632 .f32) (R : Fin 17408) (n : Fin 5632) :
    gated x wg wu (ix2 R n) = entry ofExp x wg wu R n := by
  unfold entry ofExp
  pointwise [gated, product]

/-- The kernel's two row chunks. -/
theorem pay_at (x : Vec Ideal S128x2048 .bf16) (wg wu : Vec Ideal S2048x2816 .bf16) (r : Fin 128) (n : Fin 2816) :
    k0_pay1 (F := Ideal) x wg wu (ix2 r n) = ofHalf (∑ k : Fin 2048, x (ix2 r k) * wg (ix2 k n)) * ∑ k : Fin 2048, x (ix2 r k) * wu (ix2 k n) := by
  unfold ofHalf
  pointwise [k0_pay1]
theorem pay_at' (x : Vec Ideal S128x2048 .bf16) (wg wu : Vec Ideal S2048x2816 .bf16) (r : Fin 128) (n : Fin 2816) :
    k0_pay2 (F := Ideal) x wg wu (ix2 r n) = ofHalf (∑ k : Fin 2048, x (ix2 r k) * wg (ix2 k n)) * ∑ k : Fin 2048, x (ix2 r k) * wu (ix2 k n) := by
  unfold ofHalf
  pointwise [k0_pay2]

/-- One entry of the block a grid point stores, from the blocks it reads. -/
theorem out_at (x : Vec Ideal S256x2048 .bf16) (wg wu : Vec Ideal S2048x2816 .bf16) (i : S256x2816.Idx) :
    out0_3 (F := Ideal) x wg wu i = ofHalf (∑ k : Fin 2048, x (ix2 (i 0) k) * wg (ix2 k (i 1))) * ∑ k : Fin 2048, x (ix2 (i 0) k) * wu (ix2 k (i 1)) := by
  unfold out0_3
  canon_tiles y h
  · have hx : ∀ k : Fin 2048, View.ld x r0_3 (ix2 (y 0) k) = x (ix2 (i 0) k) := fun k => by pointwise; blk_ext
    have hg : ∀ (w : Vec Ideal S2048x2816 .bf16) (k : Fin 2048), View.ld w r0_1 (ix2 k (y 1)) = w (ix2 k (i 1)) := fun w k => by pointwise; blk_ext
    rw [eq_ix2 y]
    refine (pay_at' _ _ _ _ _).trans (congr (congrArg HMul.hMul (congrArg ofHalf ?_)) ?_)
    all_goals exact Finset.sum_congr rfl fun k _ => congr (congrArg HMul.hMul (hx k)) (hg _ k)
  · have hx : ∀ k : Fin 2048, View.ld x r0_0 (ix2 (y 0) k) = x (ix2 (i 0) k) := fun k => by pointwise; blk_ext
    have hg : ∀ (w : Vec Ideal S2048x2816 .bf16) (k : Fin 2048), View.ld w r0_1 (ix2 k (y 1)) = w (ix2 k (i 1)) := fun w k => by pointwise; blk_ext
    rw [eq_ix2 y]
    refine (pay_at _ _ _ _ _).trans (congr (congrArg HMul.hMul (congrArg ofHalf ?_)) ?_)
    all_goals exact Finset.sum_congr rfl fun k _ => congr (congrArg HMul.hMul (hx k)) (hg _ k)

/-- All the hidden entries. -/
def entries (gate : EReal → EReal) (x : FVec Ideal S17408x2048 .bf16) (wg wu : FVec Ideal S2048x5632 .f32) : FVec Ideal S17408x5632 .bf16 :=
  fun i => entry gate x wg wu (i 0) (i 1)

/-- One entry of what a grid point stores. -/
theorem point (c : Dev nD) (t : Fin cfg0.N) (y : S256x2816.Idx) :
    out0_3 (iblk m c 0 t) (iblk m c 1 t) (iblk m c 2 t) y
      = entries ofHalf (m ((c : Thread nD τ).loc main_arg0)) (m ((c : Thread nD τ).loc main_arg1)) (m ((c : Thread nD τ).loc main_arg2)) (((cfg0.win 3).blk t).view.emb y) := by
  obtain ⟨r, n, rfl⟩ : ∃ (r : Fin 256) (n : Fin 2816), y = ix2 r n := ⟨y 0, y 1, eq_ix2 y⟩
  have he : ((cfg0.win 3).blk t).view.emb (ix2 r n) = ix2 ⟨t.val % 68 * 256 + r, by omega⟩ ⟨t.val / 68 * 2816 + n, by have := (idx t).2.2.2.2; omega⟩ := by
    blk_ext [idx t]
  refine (out_at _ _ _ (ix2 r n)).trans (Eq.trans ?_ (congrArg (entries ofHalf (m ((c : Thread nD τ).loc main_arg0)) (m ((c : Thread nD τ).loc main_arg1)) (m ((c : Thread nD τ).loc main_arg2))) he.symm))
  refine congr (congrArg HMul.hMul (congrArg ofHalf ?_)) ?_
  · exact Finset.sum_congr rfl fun k _ => congr (congrArg HMul.hMul (rows_at m c t r k)) (gate_at m c t k n)
  · exact Finset.sum_congr rfl fun k _ => congr (congrArg HMul.hMul (rows_at m c t r k)) (up_at m c t k n)

/-- The result array after the run. -/
theorem final (c : Dev nD) : (dats m 0 c).arrAt 3 (cfgs 0).N
    = entries ofHalf (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

/-- A single-precision number whose absolute value is below infinity is a real number. -/
theorem real_of_below {s : Shape} (x : FVec Ideal s .f32) (i : s.Idx) (h : FloatOps.cmpf (F := Ideal) .olt (Host.absf x i) (Ideal.ofBits .f32 0x7F800000#32) = 1#1) :
    ∃ r : ℝ, x i = r := by
  have hb : Ideal.ofBits .f32 0x7F800000#32 = Ideal.ofBits .bf16 0x7F80#16 := by simp [Ideal.ofBits, Ideal.ieee]
  rw [hb] at h
  exact real_of_olt (x : s.Idx → EReal) i h

/-- Where the rows and the gate's matrix are finite, the two forms of the gate give one array. -/
theorem entries_eq (x : FVec Ideal S17408x2048 .bf16) (wg wu : FVec Ideal S2048x5632 .f32)
    (hx : ∀ i, ∃ r : ℝ, x i = (r : EReal)) (hg : ∀ i, ∃ r : ℝ, wg i = (r : EReal)) : entries ofHalf x wg wu = gated x wg wu := by
  funext i
  obtain ⟨R, n, rfl⟩ : ∃ (R : Fin 17408) (n : Fin 5632), i = ix2 R n := ⟨i 0, i 1, eq_ix2 i⟩
  refine Eq.trans ?_ (gated_at x wg wu R n).symm
  obtain ⟨z, hz⟩ := sum_real (fun k : Fin 2048 => x (ix2 R k)) (fun k => wg (ix2 k n)) (fun _ => hx _) (fun _ => hg _)
  show entry ofHalf x wg wu R n = entry ofExp x wg wu R n
  unfold entry
  rw [show (∑ k : Fin 2048, x (ix2 R k) * wg (ix2 k n)) = (z : EReal) from hz, gate_eq z]

/-- Kernel and reference end with equal results. -/
theorem algebraic : algebraic_Kernel5Ideal_Reference5Ideal_pre_finite := by
  intro m g m' g' hpre hagree
  refine ⟨_, (θ_run _ _ _).mono (fun r h c => ⟨(h c).1.trans ((final m c).trans (entries_eq _ _ _ (fun i => real_of_olt _ i (congrFun (hpre c).1 i))
    fun i => real_of_below _ i (congrFun (hpre c).2 i))), (h c).2⟩) (run_blocks m g), ?_⟩
  refine (θ_run _ _ _).mono (fun r h c => ⟨(h c).1.trans ?_, (h c).2⟩) (Cert.Reference5Ideal.Value.run m' g')
  obtain ⟨h0, h1, h2⟩ := hagree c
  rw [h0, h1, h2]
  rfl

end Cert.Kernel5Ideal.GateUp
-- ==== Proof.OutB.lean ====
/-
  The second mixer's output: what the tiled kernel leaves in its result is the reference's gated product added to the
  first mixer's.
-/
module

public import proofs.«01_k».proof.Defs
public import proofs.«01_k».proof.Proof.Gen.Kernel6Ideal.Value
public import proofs.«01_k».proof.Proof.Gen.Reference6Ideal.Run
public import proofs.«01_k».proof.Proof.MoeGate
public import Idealize.ShloMosaic.Lib.Pipeline.ValueKit
public import Idealize.ShloMosaic.Lib.StableHlo.RunRead
public import Idealize.ShloMosaic.Lib.Quiescent

@[expose] public section

set_option maxRecDepth 16384

noncomputable section

namespace Cert.OutGate

open Idealize.ShloMosaic

/-- The branch's gate as the kernel computes it, -/
def ofHalf (z : EReal) : EReal :=
  Ideal.ofBits .f32 0x3F000000#32 * Ideal.tanh (Ideal.ofBits .f32 0x3F000000#32 * z) + Ideal.ofBits .f32 0x3F000000#32

/-- and as the reference does. -/
def ofExp (z : EReal) : EReal := Ideal.div 1 (1 + Ideal.exp (-z))

theorem real_gate (z : ℝ) : 1 / 2 * Real.tanh (1 / 2 * z) + 1 / 2 = 1 / (1 + Real.exp (-z)) := by
  have hu : 0 < Real.exp (1 / 2 * z) := Real.exp_pos _
  have hn : Real.exp (-(1 / 2 * z)) = (Real.exp (1 / 2 * z))⁻¹ := Real.exp_neg _
  have h2 : Real.exp (-z) = (Real.exp (1 / 2 * z))⁻¹ * (Real.exp (1 / 2 * z))⁻¹ := by
    rw [← hn, ← Real.exp_add]; congr 1; ring
  rw [Real.tanh_eq_sinh_div_cosh, Real.sinh_eq, Real.cosh_eq, hn, h2]
  generalize Real.exp (1 / 2 * z) = u at hu
  have h1 : u * u + 1 ≠ 0 := by positivity
  field_simp
  ring

/-- The two forms agree everywhere, the infinities included. -/
theorem gate_eq (z : EReal) : ofHalf z = ofExp z := by
  unfold ofHalf ofExp
  rw [Cert.MoeGate.half]
  induction z with
  | bot =>
    have h2 : ((1 / 2 : ℝ) : EReal) * -1 + ((1 / 2 : ℝ) : EReal) = 0 := by
      rw [← EReal.coe_one, ← EReal.coe_neg, ← EReal.coe_mul, ← EReal.coe_add, ← EReal.coe_zero]; norm_num
    rw [EReal.coe_mul_bot_of_pos (by norm_num), Ideal.tanh_bot, h2, EReal.neg_bot, Ideal.exp_top,
      show (1 : EReal) + ⊤ = ⊤ from EReal.coe_add_top 1]
    simp [Ideal.div]
  | top =>
    have h2 : ((1 / 2 : ℝ) : EReal) * 1 + ((1 / 2 : ℝ) : EReal) = 1 := by
      rw [← EReal.coe_one, ← EReal.coe_mul, ← EReal.coe_add]; norm_num
    rw [EReal.coe_mul_top_of_pos (by norm_num), Ideal.tanh_top, h2, EReal.neg_top, Ideal.exp_bot]
    simp [Ideal.div]
  | coe z =>
    have hp : (1 + Real.exp (-z)) ≠ 0 := by positivity
    rw [← EReal.coe_mul, Ideal.tanh_coe, ← EReal.coe_mul, ← EReal.coe_add, ← EReal.coe_neg, Ideal.exp_coe, ← EReal.coe_one, ← EReal.coe_add,
      Ideal.div_coe hp, ← EReal.coe_mul, one_mul, real_gate z]

end Cert.OutGate

namespace Cert.Reference6Ideal.OutB

open Idealize.ShloMosaic Idealize.ShloMosaic.TcCoe Idealize.SL.Sem
open Cert.Reference6Ideal Cert.Reference6Ideal.Gen

/-- What goes into the second branch's gate. -/
def preGate (gates : FVec Ideal S2x17408x2176 .bf16) (b : FVec Ideal S4096 .f32) : FVec Ideal S17408x2048 .f32 :=
  addf (extf .f32 (shapeCast _ (extractStridedSlice S1x17408x2048 ![1, 0, 64] gates slices_S2x17408x2176_S1x17408x2048_1_0_64) shapeCasts_S1x17408x2048_S17408x2048) bitsLt_bf16_f32)
    (broadcastInDim S17408x2048 ![0, 1] bcast_S1x2048_S17408x2048_0_1 (broadcastInDim S1x2048 ![1] bcast_S2048_S1x2048_1 (extractStridedSlice S2048 ![2048] b slices_S4096_S2048_2048)))

/-- The reference's result. -/
def merged (y : FVec Ideal S17408x4096 .bf16) (w : FVec Ideal S4096x2048 .f32) (gates : FVec Ideal S2x17408x2176 .bf16) (b : FVec Ideal S4096 .f32)
    (ya : FVec Ideal S17408x2048 .bf16) : FVec Ideal S17408x2048 .bf16 :=
  truncf .bf16 (addf (extf .f32 ya bitsLt_bf16_f32) (mulf (Host.divf (broadcastInDim S17408x2048 ![] bcast_S_S17408x2048 (constant S_ .f32 0x3F800000#32))
    (addf (broadcastInDim S17408x2048 ![] bcast_S_S17408x2048 (constant S_ .f32 0x3F800000#32)) (Host.exp (Host.negf (preGate gates b)))))
    (Host.dotGeneral dot_S17408x4096_S4096x2048_S17408x2048_1_0_0_1_n_n none (extf .f32 y bitsLt_bf16_f32) w))) bitsLt_bf16_f32

/-- The reference terminates with its arguments unchanged and every semaphore at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run _ _ _).mono (fun r h => ⟨fun c => (h c).2, Idealize.ShloMosaic.sem_eq_zero_of_no_sems (by decide) r.2⟩) (Value.run m ρ)

end Cert.Reference6Ideal.OutB

namespace Cert.Kernel6Ideal.OutB

open Idealize.ShloMosaic Idealize.ShloMosaic.TcCoe Idealize.SL.Sem
open Idealize.ShloMosaic.Pipeline (Dat)
open Cert.Kernel6Ideal Cert.Kernel6Ideal.Gen Cert.Kernel6Ideal.Value Cert.OutGate
open Cert.Reference6Ideal.OutB (preGate merged)

variable (m : (ℓ : Loc nD τ sig) → Buf (Elt Ideal) ℓ)

theorem idx : ∀ t : Fin cfg0.N, win0_0.index t = ![t.val, 0] ∧ win0_1.index t = ![0, 0] ∧ win0_2.index t = ![1, t.val, 0]
    ∧ win0_3.index t = ![0, 0] ∧ win0_4.index t = ![t.val, 0] ∧ win0_5.index t = ![t.val, 0] ∧ t.val < 34 :=
  (by decide +kernel : ∀ t : Fin grid0.N, _)

/-- The matrix and the bias the region finds. -/
theorem V_weights (c : Dev nD) : V m c main_v0 = (truncf .bf16 (m ((c : Thread nD τ).loc main_arg1) : FVec Ideal S4096x2048 .f32) bitsLt_bf16_f32 : FVec Ideal S4096x2048 .bf16) := by
  unfold V; simp only [hostOps0]; after_results
theorem V_bias (c : Dev nD) : V m c main_v2 = (broadcastInDim S1x2048 ![1] bcast_S2048_S1x2048_1
    (extractStridedSlice S2048 ![2048] (m ((c : Thread nD τ).loc main_arg3) : FVec Ideal S4096 .f32) slices_S4096_S2048_2048) : FVec Ideal S1x2048 .f32) := by
  unfold V; simp only [hostOps0]; after_results

/-- The blocks a grid point reads, entry by entry. -/
theorem rows_at (c : Dev nD) (t : Fin cfg0.N) (r : Fin 512) (k : Fin 4096) :
    iblk m c 0 t (ix2 r k) = m ((c : Thread nD τ).loc main_arg0) (ix2 ⟨t.val * 512 + r, by have := (idx t).2.2.2.2.2.2; omega⟩ k) := by
  blk_ext [iblk, V, idx t]
theorem weights_at (c : Dev nD) (t : Fin cfg0.N) (k : Fin 4096) (n : Fin 2048) :
    iblk m c 1 t (ix2 k n) = m ((c : Thread nD τ).loc main_arg1) (ix2 k n) := by
  blk_simp [iblk]
  erw [V_weights]
  pointwise
  blk_ext [idx t]
theorem gates_at (c : Dev nD) (t : Fin cfg0.N) (r : Fin 512) (n : Fin 2048) :
    iblk m c 2 t (ix3 0 r ⟨64 + n, by omega⟩) = m ((c : Thread nD τ).loc main_arg2) (ix3 1 ⟨t.val * 512 + r, by have := (idx t).2.2.2.2.2.2; omega⟩ ⟨64 + n, by omega⟩) := by
  blk_ext [iblk, V, idx t]
theorem bias_at (c : Dev nD) (t : Fin cfg0.N) (n : Fin 2048) :
    iblk m c 3 t (ix2 0 n) = m ((c : Thread nD τ).loc main_arg3) (ix1 ⟨2048 + n, by omega⟩) := by
  blk_simp [iblk]
  erw [V_bias]
  pointwise
  blk_ext [idx t]
theorem first_at (c : Dev nD) (t : Fin cfg0.N) (r : Fin 512) (n : Fin 2048) :
    iblk m c 4 t (ix2 r n) = m ((c : Thread nD τ).loc main_arg4) (ix2 ⟨t.val * 512 + r, by have := (idx t).2.2.2.2.2.2; omega⟩ n) := by
  blk_ext [iblk, V, idx t]

/-- One entry of the result. -/
def entry (y : FVec Ideal S17408x4096 .bf16) (w : FVec Ideal S4096x2048 .f32) (gates : FVec Ideal S2x17408x2176 .bf16) (b : FVec Ideal S4096 .f32)
    (ya : FVec Ideal S17408x2048 .bf16) (R : Fin 17408) (n : Fin 2048) : EReal :=
  ofHalf (gates (ix3 1 R ⟨64 + n, by omega⟩) + b (ix1 ⟨2048 + n, by omega⟩)) * (∑ k : Fin 4096, y (ix2 R k) * w (ix2 k n)) + ya (ix2 R n)

/-- It is the reference's. -/
theorem merged_at (y : FVec Ideal S17408x4096 .bf16) (w : FVec Ideal S4096x2048 .f32) (gates : FVec Ideal S2x17408x2176 .bf16) (b : FVec Ideal S4096 .f32)
    (ya : FVec Ideal S17408x2048 .bf16) (R : Fin 17408) (n : Fin 2048) : merged y w gates b ya (ix2 R n) = entry y w gates b ya R n := by
  unfold entry
  rw [gate_eq, add_comm]
  unfold ofExp
  pointwise [merged, preGate]

/-- The kernel's four row chunks. -/
theorem pay_at (x : Vec Ideal S128x4096 .bf16) (w : Vec Ideal S4096x2048 .bf16) (g : Vec Ideal S1x128x2048 .bf16) (b : Vec Ideal S1x2048 .f32) (ya : Vec Ideal S128x2048 .bf16)
    (r : Fin 128) (n : Fin 2048) : k0_pay3 (F := Ideal) x w g b ya (ix2 r n) = ofHalf (g (ix3 0 r n) + b (ix2 0 n)) * (∑ k : Fin 4096, x (ix2 r k) * w (ix2 k n)) + ya (ix2 r n) := by
  unfold ofHalf
  pointwise [k0_pay3]
theorem pay_at1 (x : Vec Ideal S128x4096 .bf16) (w : Vec Ideal S4096x2048 .bf16) (g : Vec Ideal S1x128x2048 .bf16) (b : Vec Ideal S1x2048 .f32) (ya : Vec Ideal S128x2048 .bf16)
    (r : Fin 128) (n : Fin 2048) : k0_pay6 (F := Ideal) (k0_pay4 x w) (k0_pay5 g) b ya (ix2 r n) = ofHalf (g (ix3 0 r n) + b (ix2 0 n)) * (∑ k : Fin 4096, x (ix2 r k) * w (ix2 k n)) + ya (ix2 r n) := by
  unfold ofHalf
  pointwise [k0_pay6, k0_pay4, k0_pay5]
theorem pay_at2 (x : Vec Ideal S128x4096 .bf16) (w : Vec Ideal S4096x2048 .bf16) (g : Vec Ideal S1x128x2048 .bf16) (b : Vec Ideal S1x2048 .f32) (ya : Vec Ideal S128x2048 .bf16)
    (r : Fin 128) (n : Fin 2048) : k0_pay1 (F := Ideal) (k0_pay7 x w g b) ya (ix2 r n) = ofHalf (g (ix3 0 r n) + b (ix2 0 n)) * (∑ k : Fin 4096, x (ix2 r k) * w (ix2 k n)) + ya (ix2 r n) := by
  unfold ofHalf
  pointwise [k0_pay1, k0_pay7]
theorem pay_at3 (x : Vec Ideal S128x4096 .bf16) (w : Vec Ideal S4096x2048 .bf16) (g : Vec Ideal S1x128x2048 .bf16) (b : Vec Ideal S1x2048 .f32) (ya : Vec Ideal S128x2048 .bf16)
    (r : Fin 128) (n : Fin 2048) : k0_pay2 (F := Ideal) x w g b ya (ix2 r n) = ofHalf (g (ix3 0 r n) + b (ix2 0 n)) * (∑ k : Fin 4096, x (ix2 r k) * w (ix2 k n)) + ya (ix2 r n) := by
  unfold ofHalf
  pointwise [k0_pay2]

/-- Equal parts make equal entries. -/
theorem parts {g g' b b' ya ya' : EReal} {f f' : Fin 4096 → EReal} (hg : g = g') (hb : b = b') (hf : ∀ k, f k = f' k) (ha : ya = ya') :
    ofHalf (g + b) * (∑ k, f k) + ya = ofHalf (g' + b') * (∑ k, f' k) + ya' := by
  rw [hg, hb, ha, Finset.sum_congr rfl fun k _ => hf k]

/-- One entry of the block a grid point stores, from the blocks it reads. -/
theorem out_at (x : Vec Ideal S512x4096 .bf16) (w : Vec Ideal S4096x2048 .bf16) (g : Vec Ideal S1x512x2176 .bf16) (b : Vec Ideal S1x2048 .f32) (ya : Vec Ideal S512x2048 .bf16) (i : S512x2048.Idx) :
    out0_5 (F := Ideal) x w g b ya i = ofHalf (g (ix3 0 (i 0) ⟨64 + i 1, by have : (i 1).val < 2048 := (i 1).isLt; omega⟩) + b (ix2 0 (i 1)))
      * (∑ k : Fin 4096, x (ix2 (i 0) k) * w (ix2 k (i 1))) + ya (ix2 (i 0) (i 1)) := by
  unfold out0_5
  canon_tiles y h
  · rw [eq_ix2 y]
    refine (pay_at3 _ _ _ _ _ _ _).trans (parts ?_ ?_ (fun k => congr (congrArg HMul.hMul ?_) ?_) ?_) <;> (pointwise; blk_ext)
  · rw [eq_ix2 y]
    refine (pay_at2 _ _ _ _ _ _ _).trans (parts ?_ ?_ (fun k => congr (congrArg HMul.hMul ?_) ?_) ?_) <;> (pointwise; blk_ext)
  · rw [eq_ix2 y]
    refine (pay_at1 _ _ _ _ _ _ _).trans (parts ?_ ?_ (fun k => congr (congrArg HMul.hMul ?_) ?_) ?_) <;> (pointwise; blk_ext)
  · rw [eq_ix2 y]
    refine (pay_at _ _ _ _ _ _ _).trans (parts ?_ ?_ (fun k => congr (congrArg HMul.hMul ?_) ?_) ?_) <;> (pointwise; blk_ext)

/-- One entry of what a grid point stores. -/
theorem point (c : Dev nD) (t : Fin cfg0.N) (y : S512x2048.Idx) :
    out0_5 (iblk m c 0 t) (iblk m c 1 t) (iblk m c 2 t) (iblk m c 3 t) (iblk m c 4 t) y
      = merged (m ((c : Thread nD τ).loc main_arg0)) (m ((c : Thread nD τ).loc main_arg1)) (m ((c : Thread nD τ).loc main_arg2)) (m ((c : Thread nD τ).loc main_arg3))
        (m ((c : Thread nD τ).loc main_arg4)) (((cfg0.win 5).blk t).view.emb y) := by
  obtain ⟨r, n, rfl⟩ : ∃ (r : Fin 512) (n : Fin 2048), y = ix2 r n := ⟨y 0, y 1, eq_ix2 y⟩
  have he : ((cfg0.win 5).blk t).view.emb (ix2 r n) = ix2 ⟨t.val * 512 + r, by have := (idx t).2.2.2.2.2.2; omega⟩ n := by
    blk_ext [idx t]
  refine (out_at _ _ _ _ _ (ix2 r n)).trans (Eq.trans ?_ ((merged_at _ _ _ _ _ _ _).symm.trans (congrArg _ he.symm)))
  exact parts (gates_at m c t r n) (bias_at m c t n) (fun k => congr (congrArg HMul.hMul (rows_at m c t r k)) (weights_at m c t k n)) (first_at m c t r n)

/-- The result array after the run. -/
theorem final (c : Dev nD) : (dats m 0 c).arrAt 5 (cfgs 0).N
    = merged (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]
  exact point m c t y

/-- Kernel and reference end with equal results. -/
theorem algebraic : algebraic_Kernel6Ideal_Reference6Ideal := by
  intro m g m' g' _ hagree
  refine ⟨_, (θ_run _ _ _).mono (fun r h c => ⟨(h c).1.trans (final m c), (h c).2⟩) (run_blocks m g), ?_⟩
  refine (θ_run _ _ _).mono (fun r h c => ⟨(h c).1.trans ?_, (h c).2⟩) (Cert.Reference6Ideal.Value.run m' g')
  obtain ⟨h0, h1, h2, h3, h4⟩ := hagree c
  rw [h0, h1, h2, h3, h4]
  rfl

end Cert.Kernel6Ideal.OutB
-- ==== Proof.RowNorm.lean ====
/-
  The layer norm of one row over the extended reals, and the weight of the residual.
-/
module

public import Idealize.ShloMosaic.Lib.Pipeline.ValueKit

@[expose] public section

noncomputable section

namespace Cert.RowNorm

open Idealize.ShloMosaic

/-- The mean of a row's 2048 entries. -/
def mean (x : Fin 2048 → EReal) : EReal := Ideal.div (∑ j, x j) (Ideal.ofBits .f32 0x45000000#32)

/-- The row, normed, scaled and shifted, at column `n`. -/
def rowNorm (x g b : Fin 2048 → EReal) (n : Fin 2048) : EReal :=
  (x n - mean x) * Ideal.rsqrt (mean (fun j => (x j - mean x) * (x j - mean x)) + Ideal.ofBits .f32 0x3727C5AC#32) * g n + b n

/-- Equal rows have equal norms, -/
theorem parts {x x' g g' b b' : Fin 2048 → EReal} {n n' : Fin 2048} (hn : n = n') (hx : ∀ j, x j = x' j) (hg : ∀ j, g j = g' j) (hb : ∀ j, b j = b' j) :
    rowNorm x g b n = rowNorm x' g' b' n' := by
  obtain rfl : x = x' := funext hx
  obtain rfl : g = g' := funext hg
  obtain rfl : b = b' := funext hb
  rw [hn]

/-- and equal factors equal products. -/
theorem factors {a a' b b' : EReal} (ha : a = a') (hb : b = b') : a * b = a' * b' := by rw [ha, hb]

/-- The residual's weight is the square root of two: as a power of four, it is the reference's. -/
def alpha : EReal := ((Real.sqrt 2 : ℝ) : EReal)

theorem four : Ideal.ofBits .f32 0x40800000#32 = ((4 : ℝ) : EReal) := by
  simp [Ideal.ofBits, Ideal.ieee, -EReal.coe_mul]
  norm_num

theorem quarter : Ideal.ofBits .f32 0x3E800000#32 = ((1 / 4 : ℝ) : EReal) := by
  simp [Ideal.ofBits, Ideal.ieee, -EReal.coe_mul]
  norm_num

theorem alpha_eq : Ideal.pow (Ideal.ofBits .f32 0x40800000#32) (Ideal.ofBits .f32 0x3E800000#32) = alpha := by
  rw [four, quarter, Ideal.pow_coe_coe]
  unfold alpha
  congr 1
  show (4 : ℝ) ^ (1 / 4 : ℝ) = Real.sqrt 2
  rw [Real.sqrt_eq_rpow, show (4 : ℝ) = 2 ^ (2 : ℝ) by norm_num, ← Real.rpow_mul (by norm_num)]
  norm_num

end Cert.RowNorm
-- ==== Proof.OutProj.lean ====
/-
  The merged branches' output projection and the residual's layer norm: what the tiled kernel leaves in its two results
  is the reference's normed sum.
-/
module

public import proofs.«01_k».proof.Defs
public import proofs.«01_k».proof.Proof.Gen.Kernel7Ideal.Value
public import proofs.«01_k».proof.Proof.Gen.Reference7Ideal.Run
public import proofs.«01_k».proof.Proof.RowNorm
public import Idealize.ShloMosaic.Lib.Pipeline.ValueKit
public import Idealize.ShloMosaic.Lib.StableHlo.RunRead
public import Idealize.ShloMosaic.Lib.Quiescent

@[expose] public section

set_option maxRecDepth 16384

noncomputable section

namespace Cert.Reference7Ideal.OutProj

open Idealize.ShloMosaic Idealize.ShloMosaic.TcCoe Idealize.SL.Sem
open Cert.Reference7Ideal Cert.Reference7Ideal.Gen

/-- The projected rows added to the weighted residual. -/
def summed (x : FVec Ideal S17408x2048 .bf16) (w : FVec Ideal S2048x2048 .f32) (h : FVec Ideal S17408x2048 .f32) : FVec Ideal S17408x2048 .f32 :=
  addf (mulf (broadcastInDim S17408x2048 ![] bcast_S_S17408x2048 (Host.powf (constant S_ .f32 0x40800000#32) (constant S_ .f32 0x3E800000#32))) h)
    (Host.dotGeneral dot_S17408x2048_S2048x2048_S17408x2048_1_0_0_1_n_n none (extf .f32 x bitsLt_bf16_f32) w)

/-- Every row's mean, -/
def means (x : FVec Ideal S17408x2048 .f32) : FVec Ideal S17408x1 .f32 :=
  Host.divf (broadcastInDim S17408x1 ![0] bcast_S17408_S17408x1_0 (Host.reduceAdd x (constant S_ .f32 0x00000000#32) reducesTo_S17408x2048_S17408_d1 h_S_))
    (broadcastInDim S17408x1 ![] bcast_S_S17408x1 (constant S_ .f32 0x45000000#32))

/-- the rows less their means, -/
def centred (x : FVec Ideal S17408x2048 .f32) : FVec Ideal S17408x2048 .f32 :=
  subf x (broadcastInDim S17408x2048 ![0, 1] bcast_S17408x1_S17408x2048_0_1 (means x))

/-- and the rows' layer norm. -/
def normed (x : FVec Ideal S17408x2048 .f32) (g b : FVec Ideal S2048 .f32) : FVec Ideal S17408x2048 .f32 :=
  addf (mulf (mulf (centred x) (broadcastInDim S17408x2048 ![0, 1] bcast_S17408x1_S17408x2048_0_1 (Host.rsqrt (addf (means (mulf (centred x) (centred x)))
      (broadcastInDim S17408x1 ![] bcast_S_S17408x1 (constant S_ .f32 0x3727C5AC#32))))))
      (broadcastInDim S17408x2048 ![0, 1] bcast_S1x2048_S17408x2048_0_1 (broadcastInDim S1x2048 ![1] bcast_S2048_S1x2048_1 g)))
    (broadcastInDim S17408x2048 ![0, 1] bcast_S1x2048_S17408x2048_0_1 (broadcastInDim S1x2048 ![1] bcast_S2048_S1x2048_1 b))

/-- The reference terminates with its arguments unchanged and every semaphore at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run _ _ _).mono (fun r h => ⟨fun c => (h c).2.2, Idealize.ShloMosaic.sem_eq_zero_of_no_sems (by decide) r.2⟩) (Value.run m ρ)

end Cert.Reference7Ideal.OutProj

namespace Cert.Kernel7Ideal.OutProj

open Idealize.ShloMosaic Idealize.ShloMosaic.TcCoe Idealize.SL.Sem
open Idealize.ShloMosaic.Pipeline (Dat)
open Cert.Kernel7Ideal Cert.Kernel7Ideal.Gen Cert.Kernel7Ideal.Value Cert.RowNorm
open Cert.Reference7Ideal.OutProj (summed means centred normed)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ t.val < 34 :=
  (by decide +kernel : ∀ t : Fin grid0.N, _)

/-- The matrix and the norm's two vectors the region finds. -/
theorem V_weights (c : Dev nD) : V m c main_v0 = (truncf .bf16 (m ((c : Thread nD τ).loc main_arg1) : FVec Ideal S2048x2048 .f32) bitsLt_bf16_f32 : FVec Ideal S2048x2048 .bf16) := by
  unfold V; simp only [hostOps0]; after_results
theorem V_scale (c : Dev nD) : V m c main_v1 = (broadcastInDim S1x2048 ![1] bcast_S2048_S1x2048_1 (m ((c : Thread nD τ).loc main_arg3) : FVec Ideal S2048 .f32) : FVec Ideal S1x2048 .f32) := by
  unfold V; simp only [hostOps0]; after_results
theorem V_shift (c : Dev nD) : V m c main_v2 = (broadcastInDim S1x2048 ![1] bcast_S2048_S1x2048_1 (m ((c : Thread nD τ).loc main_arg4) : FVec Ideal S2048 .f32) : FVec Ideal S1x2048 .f32) := by
  unfold V; simp only [hostOps0]; after_results

/-- The blocks a grid point reads, entry by entry. -/
theorem rows_at (c : Dev nD) (t : Fin cfg0.N) (r : Fin 512) (k : Fin 2048) :
    iblk m c 0 t (ix2 r k) = m ((c : Thread nD τ).loc main_arg0) (ix2 ⟨t.val * 512 + r, by have := (idx t).2.2.2.2.2.2.2; omega⟩ k) := by
  blk_ext [iblk, V, idx t]
theorem weights_at (c : Dev nD) (t : Fin cfg0.N) (k : Fin 2048) (n : Fin 2048) :
    iblk m c 1 t (ix2 k n) = m ((c : Thread nD τ).loc main_arg1) (ix2 k n) := by
  blk_simp [iblk]
  erw [V_weights]
  pointwise
  blk_ext [idx t]
theorem kept_at (c : Dev nD) (t : Fin cfg0.N) (r : Fin 512) (n : Fin 2048) :
    iblk m c 2 t (ix2 r n) = m ((c : Thread nD τ).loc main_arg2) (ix2 ⟨t.val * 512 + r, by have := (idx t).2.2.2.2.2.2.2; omega⟩ n) := by
  blk_ext [iblk, V, idx t]
theorem scale_at (c : Dev nD) (t : Fin cfg0.N) (n : Fin 2048) :
    iblk m c 3 t (ix2 0 n) = m ((c : Thread nD τ).loc main_arg3) (ix1 n) := by
  blk_simp [iblk]
  erw [V_scale]
  pointwise
  blk_ext [idx t]
theorem shift_at (c : Dev nD) (t : Fin cfg0.N) (n : Fin 2048) :
    iblk m c 4 t (ix2 0 n) = m ((c : Thread nD τ).loc main_arg4) (ix1 n) := by
  blk_simp [iblk]
  erw [V_shift]
  pointwise
  blk_ext [idx t]

/-- One entry of the reference's sum. -/
theorem summed_at (x : FVec Ideal S17408x2048 .bf16) (w : FVec Ideal S2048x2048 .f32) (h : FVec Ideal S17408x2048 .f32) (R : Fin 17408) (n : Fin 2048) :
    summed x w h (ix2 R n) = alpha * h (ix2 R n) + ∑ k : Fin 2048, x (ix2 R k) * w (ix2 k n) := by
  rw [← alpha_eq]
  pointwise [summed]

/-- One entry of the reference's norm. -/
theorem means_at (x : FVec Ideal S17408x2048 .f32) (R : Fin 17408) : means x (ix2 R 0) = mean (fun j => x (ix2 R j)) := by
  unfold mean
  pointwise [means]
theorem centred_at (x : FVec Ideal S17408x2048 .f32) (R : Fin 17408) (n : Fin 2048) : centred x (ix2 R n) = x (ix2 R n) - mean (fun j => x (ix2 R j)) := by
  rw [← means_at]
  pointwise [centred]
theorem normed_at (x : FVec Ideal S17408x2048 .f32) (g b : FVec Ideal S2048 .f32) (R : Fin 17408) (n : Fin 2048) :
    normed x g b (ix2 R n) = rowNorm (fun j => x (ix2 R j)) (fun j => g (ix1 j)) (fun j => b (ix1 j)) n := by
  unfold rowNorm
  simp only [← centred_at]
  rw [show mean (fun j => centred x (ix2 R j) * centred x (ix2 R j)) = means (mulf (centred x) (centred x)) (ix2 R 0) from (means_at (mulf (centred x) (centred x)) R).symm]
  pointwise [normed]

theorem named_alpha : Named.named (F := Ideal) κ "alpha" (φ := .f32) 0x3FB504F3#32 = alpha := rfl

/-- The kernel's four row chunks, as they are stored in the first result, -/
theorem pay_at0 (x : Vec Ideal S128x2048 .bf16) (w : Vec Ideal S2048x2048 .bf16) (h : Vec Ideal S128x2048 .f32) (g b : Vec Ideal S1x2048 .f32)
    (r : Fin 128) (n : Fin 2048) : k0_pay3 (F := Ideal) x w h g b (ix2 r n)
      = rowNorm (fun j => alpha * h (ix2 r j) + ∑ k : Fin 2048, x (ix2 r k) * w (ix2 k j)) (fun j => g (ix2 0 j)) (fun j => b (ix2 0 j)) n := by
  unfold rowNorm mean
  pointwise [k0_pay3]
  rw [named_alpha]
theorem pay_at1 (x : Vec Ideal S128x2048 .bf16) (w : Vec Ideal S2048x2048 .bf16) (h : Vec Ideal S128x2048 .f32) (g b : Vec Ideal S1x2048 .f32)
    (r : Fin 128) (n : Fin 2048) : k0_pay5 (F := Ideal) x w h g b (ix2 r n)
      = rowNorm (fun j => alpha * h (ix2 r j) + ∑ k : Fin 2048, x (ix2 r k) * w (ix2 k j)) (fun j => g (ix2 0 j)) (fun j => b (ix2 0 j)) n := by
  unfold rowNorm mean
  pointwise [k0_pay5]
  rw [named_alpha]
theorem pay_at2 (x : Vec Ideal S128x2048 .bf16) (w : Vec Ideal S2048x2048 .bf16) (h : Vec Ideal S128x2048 .f32) (g b : Vec Ideal S1x2048 .f32)
    (r : Fin 128) (n : Fin 2048) : k0_pay7 (F := Ideal) x w h g b (ix2 r n)
      = rowNorm (fun j => alpha * h (ix2 r j) + ∑ k : Fin 2048, x (ix2 r k) * w (ix2 k j)) (fun j => g (ix2 0 j)) (fun j => b (ix2 0 j)) n := by
  unfold rowNorm mean
  pointwise [k0_pay7]
  rw [named_alpha]
theorem pay_at3 (x : Vec Ideal S128x2048 .bf16) (w : Vec Ideal S2048x2048 .bf16) (h : Vec Ideal S128x2048 .f32) (g b : Vec Ideal S1x2048 .f32)
    (r : Fin 128) (n : Fin 2048) : k0_pay1 (F := Ideal) x w h g b (ix2 r n)
      = rowNorm (fun j => alpha * h (ix2 r j) + ∑ k : Fin 2048, x (ix2 r k) * w (ix2 k j)) (fun j => g (ix2 0 j)) (fun j => b (ix2 0 j)) n := by
  unfold rowNorm mean
  pointwise [k0_pay1]
  rw [named_alpha]

/-- and as they are in the second. -/
theorem low_at0 (x : Vec Ideal S128x2048 .bf16) (w : Vec Ideal S2048x2048 .bf16) (h : Vec Ideal S128x2048 .f32) (g b : Vec Ideal S1x2048 .f32)
    (r : Fin 128) (n : Fin 2048) : k0_pay4 (F := Ideal) x w h g b (ix2 r n)
      = rowNorm (fun j => alpha * h (ix2 r j) + ∑ k : Fin 2048, x (ix2 r k) * w (ix2 k j)) (fun j => g (ix2 0 j)) (fun j => b (ix2 0 j)) n := by
  refine Eq.trans ?_ (pay_at0 x w h g b r n)
  pointwise [k0_pay4]
theorem low_at1 (x : Vec Ideal S128x2048 .bf16) (w : Vec Ideal S2048x2048 .bf16) (h : Vec Ideal S128x2048 .f32) (g b : Vec Ideal S1x2048 .f32)
    (r : Fin 128) (n : Fin 2048) : k0_pay6 (F := Ideal) x w h g b (ix2 r n)
      = rowNorm (fun j => alpha * h (ix2 r j) + ∑ k : Fin 2048, x (ix2 r k) * w (ix2 k j)) (fun j => g (ix2 0 j)) (fun j => b (ix2 0 j)) n := by
  refine Eq.trans ?_ (pay_at1 x w h g b r n)
  pointwise [k0_pay6]
theorem low_at2 (x : Vec Ideal S128x2048 .bf16) (w : Vec Ideal S2048x2048 .bf16) (h : Vec Ideal S128x2048 .f32) (g b : Vec Ideal S1x2048 .f32)
    (r : Fin 128) (n : Fin 2048) : k0_pay8 (F := Ideal) x w h g b (ix2 r n)
      = rowNorm (fun j => alpha * h (ix2 r j) + ∑ k : Fin 2048, x (ix2 r k) * w (ix2 k j)) (fun j => g (ix2 0 j)) (fun j => b (ix2 0 j)) n := by
  refine Eq.trans ?_ (pay_at2 x w h g b r n)
  pointwise [k0_pay8]
theorem low_at3 (x : Vec Ideal S128x2048 .bf16) (w : Vec Ideal S2048x2048 .bf16) (h : Vec Ideal S128x2048 .f32) (g b : Vec Ideal S1x2048 .f32)
    (r : Fin 128) (n : Fin 2048) : k0_pay2 (F := Ideal) x w h g b (ix2 r n)
      = rowNorm (fun j => alpha * h (ix2 r j) + ∑ k : Fin 2048, x (ix2 r k) * w (ix2 k j)) (fun j => g (ix2 0 j)) (fun j => b (ix2 0 j)) n := by
  refine Eq.trans ?_ (pay_at3 x w h g b r n)
  pointwise [k0_pay2]

/-- Equal parts make equal sums. -/
theorem sums {h h' : EReal} {f f' : Fin 2048 → EReal} (hh : h = h') (hf : ∀ k, f k = f' k) : alpha * h + ∑ k, f k = alpha * h' + ∑ k, f' k := by
  rw [hh, Finset.sum_congr rfl fun k _ => hf k]

/-- One entry of the first block a grid point stores, from the blocks it reads. -/
theorem out5_at (x : Vec Ideal S512x2048 .bf16) (w : Vec Ideal S2048x2048 .bf16) (h : Vec Ideal S512x2048 .f32) (g b : Vec Ideal S1x2048 .f32) (i : S512x2048.Idx) :
    out0_5 (F := Ideal) x w h g b i = rowNorm (fun j => alpha * h (ix2 (i 0) j) + ∑ k : Fin 2048, x (ix2 (i 0) k) * w (ix2 k j)) (fun j => g (ix2 0 j)) (fun j => b (ix2 0 j)) (i 1) := by
  unfold out0_5
  canon_tiles y h
  · rw [eq_ix2 y]
    refine (pay_at3 _ _ _ _ _ _ _).trans (parts ?_ (fun j => sums ?_ fun k => factors ?_ ?_) (fun j => ?_) (fun j => ?_)) <;> first | exact Fin.ext (by omega) | (pointwise; blk_ext)
  · rw [eq_ix2 y]
    refine (pay_at2 _ _ _ _ _ _ _).trans (parts ?_ (fun j => sums ?_ fun k => factors ?_ ?_) (fun j => ?_) (fun j => ?_)) <;> first | exact Fin.ext (by omega) | (pointwise; blk_ext)
  · rw [eq_ix2 y]
    refine (pay_at1 _ _ _ _ _ _ _).trans (parts ?_ (fun j => sums ?_ fun k => factors ?_ ?_) (fun j => ?_) (fun j => ?_)) <;> first | exact Fin.ext (by omega) | (pointwise; blk_ext)
  · rw [eq_ix2 y]
    refine (pay_at0 _ _ _ _ _ _ _).trans (parts ?_ (fun j => sums ?_ fun k => factors ?_ ?_) (fun j => ?_) (fun j => ?_)) <;> first | exact Fin.ext (by omega) | (pointwise; blk_ext)

/-- One entry of what a grid point stores in the first result. -/
theorem point5 (c : Dev nD) (t : Fin cfg0.N) (y : S512x2048.Idx) :
    out0_5 (iblk m c 0 t) (iblk m c 1 t) (iblk m c 2 t) (iblk m c 3 t) (iblk m c 4 t) y
      = (normed (summed (m ((c : Thread nD τ).loc main_arg0)) (m ((c : Thread nD τ).loc main_arg1)) (m ((c : Thread nD τ).loc main_arg2))) (m ((c : Thread nD τ).loc main_arg3)) (m ((c : Thread nD τ).loc main_arg4)) : FVec Ideal S17408x2048 .f32) (((cfg0.win 5).blk t).view.emb y) := by
  obtain ⟨r, n, rfl⟩ : ∃ (r : Fin 512) (n : Fin 2048), y = ix2 r n := ⟨y 0, y 1, eq_ix2 y⟩
  have he : ((cfg0.win 5).blk t).view.emb (ix2 r n) = ix2 ⟨t.val * 512 + r, by have := (idx t).2.2.2.2.2.2.2; omega⟩ n := by
    blk_ext [idx t]
  rw [he]
  refine (out5_at _ _ _ _ _ (ix2 r n)).trans (Eq.trans ?_ (normed_at _ _ _ _ n).symm)
  exact parts rfl (fun j => (sums (kept_at m c t r j) fun k => factors (rows_at m c t r k) (weights_at m c t k j)).trans (summed_at _ _ _ _ j).symm)
    (scale_at m c t) (shift_at m c t)

/-- The first result after the run. -/
theorem final5 (c : Dev nD) : (dats m 0 c).arrAt 5 (cfgs 0).N
    = (normed (summed (m ((c : Thread nD τ).loc main_arg0)) (m ((c : Thread nD τ).loc main_arg1)) (m ((c : Thread nD τ).loc main_arg2))) (m ((c : Thread nD τ).loc main_arg3)) (m ((c : Thread nD τ).loc main_arg4)) : FVec Ideal S17408x2048 .f32) := by
  refine (dats m 0 c).arrAt_eq_of_covers 5 _ (by decide +kernel) fun t _ y => ?_
  blk_simp
  rw [after0_5]
  exact point5 m c t y

/-- One entry of the second block a grid point stores, from the blocks it reads. -/
theorem out6_at (x : Vec Ideal S512x2048 .bf16) (w : Vec Ideal S2048x2048 .bf16) (h : Vec Ideal S512x2048 .f32) (g b : Vec Ideal S1x2048 .f32) (i : S512x2048.Idx) :
    out0_6 (F := Ideal) x w h g b i = rowNorm (fun j => alpha * h (ix2 (i 0) j) + ∑ k : Fin 2048, x (ix2 (i 0) k) * w (ix2 k j)) (fun j => g (ix2 0 j)) (fun j => b (ix2 0 j)) (i 1) := by
  unfold out0_6
  canon_tiles y h
  · rw [eq_ix2 y]
    refine (low_at3 _ _ _ _ _ _ _).trans (parts ?_ (fun j => sums ?_ fun k => factors ?_ ?_) (fun j => ?_) (fun j => ?_)) <;> first | exact Fin.ext (by omega) | (pointwise; blk_ext)
  · rw [eq_ix2 y]
    refine (low_at2 _ _ _ _ _ _ _).trans (parts ?_ (fun j => sums ?_ fun k => factors ?_ ?_) (fun j => ?_) (fun j => ?_)) <;> first | exact Fin.ext (by omega) | (pointwise; blk_ext)
  · rw [eq_ix2 y]
    refine (low_at1 _ _ _ _ _ _ _).trans (parts ?_ (fun j => sums ?_ fun k => factors ?_ ?_) (fun j => ?_) (fun j => ?_)) <;> first | exact Fin.ext (by omega) | (pointwise; blk_ext)
  · rw [eq_ix2 y]
    refine (low_at0 _ _ _ _ _ _ _).trans (parts ?_ (fun j => sums ?_ fun k => factors ?_ ?_) (fun j => ?_) (fun j => ?_)) <;> first | exact Fin.ext (by omega) | (pointwise; blk_ext)

/-- One entry of what a grid point stores in the second result. -/
theorem point6 (c : Dev nD) (t : Fin cfg0.N) (y : S512x2048.Idx) :
    out0_6 (iblk m c 0 t) (iblk m c 1 t) (iblk m c 2 t) (iblk m c 3 t) (iblk m c 4 t) y
      = (truncf .bf16 (normed (summed (m ((c : Thread nD τ).loc main_arg0)) (m ((c : Thread nD τ).loc main_arg1)) (m ((c : Thread nD τ).loc main_arg2))) (m ((c : Thread nD τ).loc main_arg3)) (m ((c : Thread nD τ).loc main_arg4)) : FVec Ideal S17408x2048 .f32) bitsLt_bf16_f32 : FVec Ideal S17408x2048 .bf16) (((cfg0.win 6).blk t).view.emb y) := by
  obtain ⟨r, n, rfl⟩ : ∃ (r : Fin 512) (n : Fin 2048), y = ix2 r n := ⟨y 0, y 1, eq_ix2 y⟩
  have he : ((cfg0.win 6).blk t).view.emb (ix2 r n) = ix2 ⟨t.val * 512 + r, by have := (idx t).2.2.2.2.2.2.2; omega⟩ n := by
    blk_ext [idx t]
  rw [he]
  refine (out6_at _ _ _ _ _ (ix2 r n)).trans (Eq.trans ?_ (normed_at _ _ _ _ n).symm)
  exact parts rfl (fun j => (sums (kept_at m c t r j) fun k => factors (rows_at m c t r k) (weights_at m c t k j)).trans (summed_at _ _ _ _ j).symm)
    (scale_at m c t) (shift_at m c t)

/-- The second result after the run. -/
theorem final6 (c : Dev nD) : (dats m 0 c).arrAt 6 (cfgs 0).N
    = (truncf .bf16 (normed (summed (m ((c : Thread nD τ).loc main_arg0)) (m ((c : Thread nD τ).loc main_arg1)) (m ((c : Thread nD τ).loc main_arg2))) (m ((c : Thread nD τ).loc main_arg3)) (m ((c : Thread nD τ).loc main_arg4)) : FVec Ideal S17408x2048 .f32) bitsLt_bf16_f32 : FVec Ideal S17408x2048 .bf16) := by
  refine (dats m 0 c).arrAt_eq_of_covers 6 _ (by decide +kernel) fun t _ y => ?_
  blk_simp
  rw [after0_6]
  exact point6 m c t y

/-- Kernel and reference end with equal results. -/
theorem algebraic : algebraic_Kernel7Ideal_Reference7Ideal := by
  intro m g m' g' _ hagree
  refine ⟨_, _, (θ_run _ _ _).mono (fun r h c => ⟨(h c).1.trans (final5 m c), (h c).2.1.trans (final6 m c), (h c).2.2⟩) (run_blocks m g), ?_⟩
  refine (θ_run _ _ _).mono (fun r h c => ⟨(h c).1.trans ?_, (h c).2.1.trans ?_, (h c).2.2⟩) (Cert.Reference7Ideal.Value.run m' g')
  all_goals
    obtain ⟨h0, h1, h2, h3, h4⟩ := hagree c
    rw [h0, h1, h2, h3, h4]
    rfl

end Cert.Kernel7Ideal.OutProj
-- ==== Proof.Down.lean ====
/-
  The dense network's second product and the residual's layer norm: what the tiled kernel leaves in its two results is
  the reference's normed sum on the tokens and zero on the padding.
-/
module

public import proofs.«01_k».proof.Defs
public import proofs.«01_k».proof.Proof.Gen.Kernel8Ideal.Value
public import proofs.«01_k».proof.Proof.Gen.Reference8Ideal.Run
public import proofs.«01_k».proof.Proof.RowNorm
public import Idealize.ShloMosaic.Lib.Pipeline.ValueKit
public import Idealize.ShloMosaic.Lib.StableHlo.RunRead
public import Idealize.ShloMosaic.Lib.Quiescent

@[expose] public section

set_option maxRecDepth 16384

noncomputable section

namespace Cert.Reference8Ideal.Down

open Idealize.ShloMosaic Idealize.ShloMosaic.TcCoe Idealize.SL.Sem
open Cert.Reference8Ideal Cert.Reference8Ideal.Gen

/-- The projected rows added to the weighted residual. -/
def summed (x : FVec Ideal S17408x5632 .bf16) (w : FVec Ideal S5632x2048 .f32) (h : FVec Ideal S17408x2048 .f32) : FVec Ideal S17408x2048 .f32 :=
  addf (mulf (broadcastInDim S17408x2048 ![] bcast_S_S17408x2048 (Host.powf (constant S_ .f32 0x40800000#32) (constant S_ .f32 0x3E800000#32))) h)
    (Host.dotGeneral dot_S17408x5632_S5632x2048_S17408x2048_1_0_0_1_n_n none (extf .f32 x bitsLt_bf16_f32) w)

/-- Every row's mean, -/
def means (x : FVec Ideal S17408x2048 .f32) : FVec Ideal S17408x1 .f32 :=
  Host.divf (broadcastInDim S17408x1 ![0] bcast_S17408_S17408x1_0 (Host.reduceAdd x (constant S_ .f32 0x00000000#32) reducesTo_S17408x2048_S17408_d1 h_S_))
    (broadcastInDim S17408x1 ![] bcast_S_S17408x1 (constant S_ .f32 0x45000000#32))

/-- the rows less their means, -/
def centred (x : FVec Ideal S17408x2048 .f32) : FVec Ideal S17408x2048 .f32 :=
  subf x (broadcastInDim S17408x2048 ![0, 1] bcast_S17408x1_S17408x2048_0_1 (means x))

/-- and the rows' layer norm. -/
def normed (x : FVec Ideal S17408x2048 .f32) (g b : FVec Ideal S2048 .f32) : FVec Ideal S17408x2048 .f32 :=
  addf (mulf (mulf (centred x) (broadcastInDim S17408x2048 ![0, 1] bcast_S17408x1_S17408x2048_0_1 (Host.rsqrt (addf (means (mulf (centred x) (centred x)))
      (broadcastInDim S17408x1 ![] bcast_S_S17408x1 (constant S_ .f32 0x3727C5AC#32))))))
      (broadcastInDim S17408x2048 ![0, 1] bcast_S1x2048_S17408x2048_0_1 (broadcastInDim S1x2048 ![1] bcast_S2048_S1x2048_1 g)))
    (broadcastInDim S17408x2048 ![0, 1] bcast_S1x2048_S17408x2048_0_1 (broadcastInDim S1x2048 ![1] bcast_S2048_S1x2048_1 b))

/-- The rows that hold tokens, and zero in the others. -/
def padded (x : FVec Ideal S17408x2048 .f32) : FVec Ideal S17408x2048 .f32 :=
  shapeCast _ (pad S4x4352x2048 ![0, 240, 0] ![0, 0, 0] ![0, 0, 0] (extractStridedSlice S4x4112x2048 ![0, 240, 0]
    (shapeCast _ x shapeCasts_S17408x2048_S4x4352x2048) slices_S4x4352x2048_S4x4112x2048_0_240_0)
    (sitofp .f32 (constantI S_ 32 0#32)) pads_S4x4112x2048_S4x4352x2048_000_24000_000 h_S_) shapeCasts_S4x4352x2048_S17408x2048

/-- The reference terminates with its arguments unchanged and every semaphore at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run _ _ _).mono (fun r h => ⟨fun c => (h c).2.2, Idealize.ShloMosaic.sem_eq_zero_of_no_sems (by decide) r.2⟩) (Value.run m ρ)

end Cert.Reference8Ideal.Down

namespace Cert.Kernel8Ideal.Down

open Idealize.ShloMosaic Idealize.ShloMosaic.TcCoe Idealize.SL.Sem
open Idealize.ShloMosaic.Pipeline (Dat)
open Cert.Kernel8Ideal Cert.Kernel8Ideal.Gen Cert.Kernel8Ideal.Value Cert.RowNorm
open Cert.Reference8Ideal.Down (summed means centred normed padded)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ t.val < 68 :=
  (by decide +kernel : ∀ t : Fin grid0.N, _)

/-- The matrix and the norm's two vectors the region finds. -/
theorem V_weights (c : Dev nD) : V m c main_v0 = (truncf .bf16 (m ((c : Thread nD τ).loc main_arg1) : FVec Ideal S5632x2048 .f32) bitsLt_bf16_f32 : FVec Ideal S5632x2048 .bf16) := by
  unfold V; simp only [hostOps0]; after_results
theorem V_scale (c : Dev nD) : V m c main_v1 = (broadcastInDim S1x2048 ![1] bcast_S2048_S1x2048_1 (m ((c : Thread nD τ).loc main_arg3) : FVec Ideal S2048 .f32) : FVec Ideal S1x2048 .f32) := by
  unfold V; simp only [hostOps0]; after_results
theorem V_shift (c : Dev nD) : V m c main_v2 = (broadcastInDim S1x2048 ![1] bcast_S2048_S1x2048_1 (m ((c : Thread nD τ).loc main_arg4) : FVec Ideal S2048 .f32) : FVec Ideal S1x2048 .f32) := by
  unfold V; simp only [hostOps0]; after_results

/-- The blocks a grid point reads, entry by entry. -/
theorem rows_at (c : Dev nD) (t : Fin cfg0.N) (r : Fin 256) (k : Fin 5632) :
    iblk m c 0 t (ix2 r k) = m ((c : Thread nD τ).loc main_arg0) (ix2 ⟨t.val * 256 + r, by have := (idx t).2.2.2.2.2.2.2; omega⟩ k) := by
  blk_ext [iblk, V, idx t]
theorem weights_at (c : Dev nD) (t : Fin cfg0.N) (k : Fin 5632) (n : Fin 2048) :
    iblk m c 1 t (ix2 k n) = m ((c : Thread nD τ).loc main_arg1) (ix2 k n) := by
  blk_simp [iblk]
  erw [V_weights]
  pointwise
  blk_ext [idx t]
theorem kept_at (c : Dev nD) (t : Fin cfg0.N) (r : Fin 256) (n : Fin 2048) :
    iblk m c 2 t (ix2 r n) = m ((c : Thread nD τ).loc main_arg2) (ix2 ⟨t.val * 256 + r, by have := (idx t).2.2.2.2.2.2.2; omega⟩ n) := by
  blk_ext [iblk, V, idx t]
theorem scale_at (c : Dev nD) (t : Fin cfg0.N) (n : Fin 2048) :
    iblk m c 3 t (ix2 0 n) = m ((c : Thread nD τ).loc main_arg3) (ix1 n) := by
  blk_simp [iblk]
  erw [V_scale]
  pointwise
  blk_ext [idx t]
theorem shift_at (c : Dev nD) (t : Fin cfg0.N) (n : Fin 2048) :
    iblk m c 4 t (ix2 0 n) = m ((c : Thread nD τ).loc main_arg4) (ix1 n) := by
  blk_simp [iblk]
  erw [V_shift]
  pointwise
  blk_ext [idx t]

/-- One entry of the reference's sum. -/
theorem summed_at (x : FVec Ideal S17408x5632 .bf16) (w : FVec Ideal S5632x2048 .f32) (h : FVec Ideal S17408x2048 .f32) (R : Fin 17408) (n : Fin 2048) :
    summed x w h (ix2 R n) = alpha * h (ix2 R n) + ∑ k : Fin 5632, x (ix2 R k) * w (ix2 k n) := by
  rw [← alpha_eq]
  pointwise [summed]

/-- One entry of the reference's norm. -/
theorem means_at (x : FVec Ideal S17408x2048 .f32) (R : Fin 17408) : means x (ix2 R 0) = mean (fun j => x (ix2 R j)) := by
  unfold mean
  pointwise [means]
theorem centred_at (x : FVec Ideal S17408x2048 .f32) (R : Fin 17408) (n : Fin 2048) : centred x (ix2 R n) = x (ix2 R n) - mean (fun j => x (ix2 R j)) := by
  rw [← means_at]
  pointwise [centred]
theorem normed_at (x : FVec Ideal S17408x2048 .f32) (g b : FVec Ideal S2048 .f32) (R : Fin 17408) (n : Fin 2048) :
    normed x g b (ix2 R n) = rowNorm (fun j => x (ix2 R j)) (fun j => g (ix1 j)) (fun j => b (ix1 j)) n := by
  unfold rowNorm
  simp only [← centred_at]
  rw [show mean (fun j => centred x (ix2 R j) * centred x (ix2 R j)) = means (mulf (centred x) (centred x)) (ix2 R 0) from (means_at (mulf (centred x) (centred x)) R).symm]
  pointwise [normed]

/-- One entry of the reference's result. -/
theorem padded_at (x : FVec Ideal S17408x2048 .f32) (R : Fin 17408) (n : Fin 2048) :
    padded x (ix2 R n) = if R.val % 4352 < 240 then 0 else x (ix2 R n) := by
  pointwise [padded]
  have hR := R.isLt
  by_cases hq : R.val % 4352 < 240
  · rw [dif_neg (by omega), if_pos hq]
    show ((((0#32 : BitVec 32).toInt : ℝ) : EReal)) = 0
    simp
  · rw [dif_pos (by omega), if_neg hq]
    congr 1
    exact congrArg (fun q => ix2 q n) (Fin.ext (by show R.val / 4352 * 4352 + (240 + (R.val % 4352 - 240)) = R.val; omega))

theorem named_alpha : Named.named (F := Ideal) κ "alpha" (φ := .f32) 0x3FB504F3#32 = alpha := rfl

/-- The first row of a grid point's tile that holds a token. -/
theorem start_at : ∀ t : Fin cfg0.N, Scalar.select (Scalar.cmpi CmpIPredicate.eq (Scalar.select (Scalar.andi (Scalar.xori (Scalar.cmpi CmpIPredicate.slt (Scalar.remsi (Scalar.addi (Scalar.muli (BitVec.ofNat 32 ↑(grid0.coords t 0)) 1#32) 0#32) (Scalar.select (Scalar.cmpi CmpIPredicate.eq 17#32 0#32) 1#32 17#32)) 0#32) (Scalar.cmpi CmpIPredicate.slt (Scalar.select (Scalar.cmpi CmpIPredicate.eq 17#32 0#32) 1#32 17#32) 0#32)) (Scalar.cmpi CmpIPredicate.ne (Scalar.remsi (Scalar.addi (Scalar.muli (BitVec.ofNat 32 ↑(grid0.coords t 0)) 1#32) 0#32) (Scalar.select (Scalar.cmpi CmpIPredicate.eq 17#32 0#32) 1#32 17#32)) 0#32)) (Scalar.addi (Scalar.remsi (Scalar.addi (Scalar.muli (BitVec.ofNat 32 ↑(grid0.coords t 0)) 1#32) 0#32) (Scalar.select (Scalar.cmpi CmpIPredicate.eq 17#32 0#32) 1#32 17#32)) (Scalar.select (Scalar.cmpi CmpIPredicate.eq 17#32 0#32) 1#32 17#32)) (Scalar.remsi (Scalar.addi (Scalar.muli (BitVec.ofNat 32 ↑(grid0.coords t 0)) 1#32) 0#32) (Scalar.select (Scalar.cmpi CmpIPredicate.eq 17#32 0#32) 1#32 17#32))) 0#32) 240#32 0#32 = if t.val % 17 = 0 then 240#32 else 0#32 :=
  (by decide +kernel : ∀ t : Fin grid0.N, _)

/-- The comparisons of a row's number with it. -/
theorem past_some : ∀ r : Fin 256, IntOp.ori (IntOp.cmpi CmpIPredicate.slt (BitVec.ofNat 32 ↑r) 0#32) (IntOp.cmpi CmpIPredicate.sge (BitVec.ofNat 32 ↑r) 240#32)
    = if r.val < 240 then 0#1 else 1#1 := by decide +kernel
theorem past_none : ∀ r : Fin 256, IntOp.ori (IntOp.cmpi CmpIPredicate.slt (BitVec.ofNat 32 ↑r) 0#32) (IntOp.cmpi CmpIPredicate.sge (BitVec.ofNat 32 ↑r) 0#32)
    = 1#1 := by decide +kernel

/-- Which rows of a grid point's tile hold tokens. -/
theorem token_at (t : Fin cfg0.N) (r : Fin 256) : k0_pay3 (grid0.coords t) (ix2 r 0) = if t.val % 17 = 0 ∧ r.val < 240 then 0#1 else 1#1 := by
  pointwise [k0_pay3]
  rw [start_at t]
  by_cases ht : t.val % 17 = 0
  · rw [if_pos ht, past_some r]
    simp [ht]
  · rw [if_neg ht, past_none r]
    simp [ht]

/-- The kernel's two row chunks, as they are stored in the first result, -/
theorem pay_at0 (v : IVec S256x1 1) (x : Vec Ideal S128x5632 .bf16) (w : Vec Ideal S5632x2048 .bf16) (h : Vec Ideal S128x2048 .f32) (g b : Vec Ideal S1x2048 .f32)
    (r : Fin 128) (n : Fin 2048) : k0_pay8 (F := Ideal) v (k0_pay4 x w h) (k0_pay5 g) (k0_pay6 b) (k0_pay7 x w h) (ix2 r n)
      = Scalar.select (v (ix2 ⟨r, by omega⟩ 0)) (rowNorm (fun j => alpha * h (ix2 r j) + ∑ k : Fin 5632, x (ix2 r k) * w (ix2 k j)) (fun j => g (ix2 0 j)) (fun j => b (ix2 0 j)) n) 0 := by
  unfold rowNorm mean
  pointwise [k0_pay8, k0_pay4, k0_pay5, k0_pay6, k0_pay7]
  rw [named_alpha]
theorem pay_at1 (v : IVec S256x1 1) (x : Vec Ideal S128x5632 .bf16) (w : Vec Ideal S5632x2048 .bf16) (h : Vec Ideal S128x2048 .f32) (g b : Vec Ideal S1x2048 .f32)
    (r : Fin 128) (n : Fin 2048) : k0_pay1 (F := Ideal) v (k0_pay10 x w h) (k0_pay11 g) b (ix2 r n)
      = Scalar.select (v (ix2 ⟨128 + r, by omega⟩ 0)) (rowNorm (fun j => alpha * h (ix2 r j) + ∑ k : Fin 5632, x (ix2 r k) * w (ix2 k j)) (fun j => g (ix2 0 j)) (fun j => b (ix2 0 j)) n) 0 := by
  unfold rowNorm mean
  pointwise [k0_pay1, k0_pay10, k0_pay11]
  rw [named_alpha]

/-- and as they are in the second. -/
theorem low_at0 (v : IVec S256x1 1) (x : Vec Ideal S128x5632 .bf16) (w : Vec Ideal S5632x2048 .bf16) (h : Vec Ideal S128x2048 .f32) (g b : Vec Ideal S1x2048 .f32)
    (r : Fin 128) (n : Fin 2048) : k0_pay9 (F := Ideal) v (k0_pay4 x w h) (k0_pay5 g) (k0_pay6 b) (k0_pay7 x w h) (ix2 r n)
      = Scalar.select (v (ix2 ⟨r, by omega⟩ 0)) (rowNorm (fun j => alpha * h (ix2 r j) + ∑ k : Fin 5632, x (ix2 r k) * w (ix2 k j)) (fun j => g (ix2 0 j)) (fun j => b (ix2 0 j)) n) 0 := by
  refine Eq.trans ?_ (pay_at0 v x w h g b r n)
  pointwise [k0_pay9]
theorem low_at1 (v : IVec S256x1 1) (x : Vec Ideal S128x5632 .bf16) (w : Vec Ideal S5632x2048 .bf16) (h : Vec Ideal S128x2048 .f32) (g b : Vec Ideal S1x2048 .f32)
    (r : Fin 128) (n : Fin 2048) : k0_pay2 (F := Ideal) v (k0_pay10 x w h) (k0_pay11 g) b (ix2 r n)
      = Scalar.select (v (ix2 ⟨128 + r, by omega⟩ 0)) (rowNorm (fun j => alpha * h (ix2 r j) + ∑ k : Fin 5632, x (ix2 r k) * w (ix2 k j)) (fun j => g (ix2 0 j)) (fun j => b (ix2 0 j)) n) 0 := by
  refine Eq.trans ?_ (pay_at1 v x w h g b r n)
  pointwise [k0_pay2]

/-- Equal parts make equal sums, -/
theorem sums {h h' : EReal} {f f' : Fin 5632 → EReal} (hh : h = h') (hf : ∀ k, f k = f' k) : alpha * h + ∑ k, f k = alpha * h' + ∑ k, f' k := by
  rw [hh, Finset.sum_congr rfl fun k _ => hf k]

/-- and equal choices equal entries. -/
theorem chosen {v v' : BitVec 1} {a a' : EReal} (hv : v = v') (ha : a = a') : Scalar.select v a 0 = Scalar.select v' a' 0 := by rw [hv, ha]

/-- One entry of the first block a grid point stores, from the blocks it reads. -/
theorem out5_at (p : grid0.Coords) (x : Vec Ideal S256x5632 .bf16) (w : Vec Ideal S5632x2048 .bf16) (h : Vec Ideal S256x2048 .f32) (g b : Vec Ideal S1x2048 .f32) (i : S256x2048.Idx) :
    out0_5 (F := Ideal) p x w h g b i = Scalar.select (k0_pay3 p (ix2 (i 0) 0)) (rowNorm (fun j => alpha * h (ix2 (i 0) j) + ∑ k : Fin 5632, x (ix2 (i 0) k) * w (ix2 k j)) (fun j => g (ix2 0 j)) (fun j => b (ix2 0 j)) (i 1)) 0 := by
  unfold out0_5 k0_pay12 k0_pay13 k0_pay14 k0_pay15 k0_pay16 k0_pay17 k0_pay18
  canon_tiles y h
  · rw [eq_ix2 y]
    refine (pay_at1 _ _ _ _ _ _ _ _).trans (chosen (congrArg (fun q => k0_pay3 p (ix2 q 0)) ?_) (parts ?_ (fun j => sums ?_ fun k => factors ?_ ?_) (fun j => ?_) (fun j => ?_))) <;>
      first | exact Fin.ext (by omega) | exact Fin.ext (by show 128 + (y 0).val = (i 0).val; omega) | (pointwise; blk_ext)
  · rw [eq_ix2 y]
    refine (pay_at0 _ _ _ _ _ _ _ _).trans (chosen (congrArg (fun q => k0_pay3 p (ix2 q 0)) ?_) (parts ?_ (fun j => sums ?_ fun k => factors ?_ ?_) (fun j => ?_) (fun j => ?_))) <;>
      first | exact Fin.ext (by omega) | exact Fin.ext (by show (y 0).val = (i 0).val; omega) | (pointwise; blk_ext)

/-- A grid point's rows of tokens are the array's. -/
theorem tokens (t : Fin cfg0.N) (r : Fin 256) (a : EReal) :
    Scalar.select (if t.val % 17 = 0 ∧ r.val < 240 then 0#1 else 1#1) a 0 = if (t.val * 256 + r.val) % 4352 < 240 then 0 else a := by
  have hr := r.isLt
  by_cases h : t.val % 17 = 0 ∧ r.val < 240
  · rw [if_pos h, if_pos (by omega)]
    rfl
  · rw [if_neg h, if_neg (by omega)]
    rfl

/-- One entry of what a grid point stores in the first result. -/
theorem point5 (c : Dev nD) (t : Fin cfg0.N) (y : S256x2048.Idx) :
    out0_5 (grid0.coords t) (iblk m c 0 t) (iblk m c 1 t) (iblk m c 2 t) (iblk m c 3 t) (iblk m c 4 t) y
      = (padded (normed (summed (m ((c : Thread nD τ).loc main_arg0)) (m ((c : Thread nD τ).loc main_arg1)) (m ((c : Thread nD τ).loc main_arg2))) (m ((c : Thread nD τ).loc main_arg3)) (m ((c : Thread nD τ).loc main_arg4))) : FVec Ideal S17408x2048 .f32) (((cfg0.win 5).blk t).view.emb y) := by
  obtain ⟨r, n, rfl⟩ : ∃ (r : Fin 256) (n : Fin 2048), y = ix2 r n := ⟨y 0, y 1, eq_ix2 y⟩
  have he : ((cfg0.win 5).blk t).view.emb (ix2 r n) = ix2 ⟨t.val * 256 + r, by have := (idx t).2.2.2.2.2.2.2; omega⟩ n := by
    blk_ext [idx t]
  rw [he]
  refine (out5_at _ _ _ _ _ _ (ix2 r n)).trans (Eq.trans ?_ (padded_at _ _ n).symm)
  exact (chosen (token_at t r) ((parts rfl (fun j => (sums (kept_at m c t r j) fun k => factors (rows_at m c t r k) (weights_at m c t k j)).trans (summed_at _ _ _ _ j).symm)
    (scale_at m c t) (shift_at m c t)).trans (normed_at _ _ _ _ n).symm)).trans (tokens t r _)

/-- The first result after the run. -/
theorem final5 (c : Dev nD) : (dats m 0 c).arrAt 5 (cfgs 0).N
    = (padded (normed (summed (m ((c : Thread nD τ).loc main_arg0)) (m ((c : Thread nD τ).loc main_arg1)) (m ((c : Thread nD τ).loc main_arg2))) (m ((c : Thread nD τ).loc main_arg3)) (m ((c : Thread nD τ).loc main_arg4))) : FVec Ideal S17408x2048 .f32) := by
  refine (dats m 0 c).arrAt_eq_of_covers 5 _ (by decide +kernel) fun t _ y => ?_
  blk_simp
  rw [after0_5]
  exact point5 m c t y

/-- One entry of the second block a grid point stores, from the blocks it reads. -/
theorem out6_at (p : grid0.Coords) (x : Vec Ideal S256x5632 .bf16) (w : Vec Ideal S5632x2048 .bf16) (h : Vec Ideal S256x2048 .f32) (g b : Vec Ideal S1x2048 .f32) (i : S256x2048.Idx) :
    out0_6 (F := Ideal) p x w h g b i = Scalar.select (k0_pay3 p (ix2 (i 0) 0)) (rowNorm (fun j => alpha * h (ix2 (i 0) j) + ∑ k : Fin 5632, x (ix2 (i 0) k) * w (ix2 k j)) (fun j => g (ix2 0 j)) (fun j => b (ix2 0 j)) (i 1)) 0 := by
  unfold out0_6 k0_pay12 k0_pay13 k0_pay14 k0_pay15 k0_pay16 k0_pay17 k0_pay18
  canon_tiles y h
  · rw [eq_ix2 y]
    refine (low_at1 _ _ _ _ _ _ _ _).trans (chosen (congrArg (fun q => k0_pay3 p (ix2 q 0)) ?_) (parts ?_ (fun j => sums ?_ fun k => factors ?_ ?_) (fun j => ?_) (fun j => ?_))) <;>
      first | exact Fin.ext (by omega) | exact Fin.ext (by show 128 + (y 0).val = (i 0).val; omega) | (pointwise; blk_ext)
  · rw [eq_ix2 y]
    refine (low_at0 _ _ _ _ _ _ _ _).trans (chosen (congrArg (fun q => k0_pay3 p (ix2 q 0)) ?_) (parts ?_ (fun j => sums ?_ fun k => factors ?_ ?_) (fun j => ?_) (fun j => ?_))) <;>
      first | exact Fin.ext (by omega) | exact Fin.ext (by show (y 0).val = (i 0).val; omega) | (pointwise; blk_ext)

/-- One entry of what a grid point stores in the second result. -/
theorem point6 (c : Dev nD) (t : Fin cfg0.N) (y : S256x2048.Idx) :
    out0_6 (grid0.coords t) (iblk m c 0 t) (iblk m c 1 t) (iblk m c 2 t) (iblk m c 3 t) (iblk m c 4 t) y
      = (truncf .bf16 (padded (normed (summed (m ((c : Thread nD τ).loc main_arg0)) (m ((c : Thread nD τ).loc main_arg1)) (m ((c : Thread nD τ).loc main_arg2))) (m ((c : Thread nD τ).loc main_arg3)) (m ((c : Thread nD τ).loc main_arg4))) : FVec Ideal S17408x2048 .f32) bitsLt_bf16_f32 : FVec Ideal S17408x2048 .bf16) (((cfg0.win 6).blk t).view.emb y) := by
  obtain ⟨r, n, rfl⟩ : ∃ (r : Fin 256) (n : Fin 2048), y = ix2 r n := ⟨y 0, y 1, eq_ix2 y⟩
  have he : ((cfg0.win 6).blk t).view.emb (ix2 r n) = ix2 ⟨t.val * 256 + r, by have := (idx t).2.2.2.2.2.2.2; omega⟩ n := by
    blk_ext [idx t]
  rw [he]
  refine (out6_at _ _ _ _ _ _ (ix2 r n)).trans (Eq.trans ?_ (padded_at _ _ n).symm)
  exact (chosen (token_at t r) ((parts rfl (fun j => (sums (kept_at m c t r j) fun k => factors (rows_at m c t r k) (weights_at m c t k j)).trans (summed_at _ _ _ _ j).symm)
    (scale_at m c t) (shift_at m c t)).trans (normed_at _ _ _ _ n).symm)).trans (tokens t r _)

/-- The second result after the run. -/
theorem final6 (c : Dev nD) : (dats m 0 c).arrAt 6 (cfgs 0).N
    = (truncf .bf16 (padded (normed (summed (m ((c : Thread nD τ).loc main_arg0)) (m ((c : Thread nD τ).loc main_arg1)) (m ((c : Thread nD τ).loc main_arg2))) (m ((c : Thread nD τ).loc main_arg3)) (m ((c : Thread nD τ).loc main_arg4))) : FVec Ideal S17408x2048 .f32) bitsLt_bf16_f32 : FVec Ideal S17408x2048 .bf16) := by
  refine (dats m 0 c).arrAt_eq_of_covers 6 _ (by decide +kernel) fun t _ y => ?_
  blk_simp
  rw [after0_6]
  exact point6 m c t y

/-- Kernel and reference end with equal results. -/
theorem algebraic : algebraic_Kernel8Ideal_Reference8Ideal := by
  intro m g m' g' _ hagree
  refine ⟨_, _, (θ_run _ _ _).mono (fun r h c => ⟨(h c).1.trans (final5 m c), (h c).2.1.trans (final6 m c), (h c).2.2⟩) (run_blocks m g), ?_⟩
  refine (θ_run _ _ _).mono (fun r h c => ⟨(h c).1.trans ?_, (h c).2.1.trans ?_, (h c).2.2⟩) (Cert.Reference8Ideal.Value.run m' g')
  · obtain ⟨h0, h1, h2, h3, h4⟩ := hagree c
    unfold Cert.Reference8Ideal.Value.res_main_v33
    rw [h0, h1, h2, h3, h4]
    rfl
  · obtain ⟨h0, h1, h2, h3, h4⟩ := hagree c
    unfold Cert.Reference8Ideal.Value.res_main_v34
    rw [h0, h1, h2, h3, h4]
    rfl

end Cert.Kernel8Ideal.Down
-- ==== Proof.MixerA.lean ====
/-
  The first mixer's output: what the tiled kernel leaves in its result is the reference's gated product of the short
  convolution, where its output gate is zero on the first two rows of every padded sequence.
-/
module

public import proofs.«01_k».proof.Defs
public import proofs.«01_k».proof.Proof.Gen.Kernel9Ideal.Value
public import proofs.«01_k».proof.Proof.Gen.Reference9Ideal.Run
public import proofs.«01_k».proof.Proof.Gen.Pre_padding
public import proofs.«01_k».proof.Proof.OutB
public import Idealize.ShloMosaic.Lib.Pipeline.ValueKit
public import Idealize.ShloMosaic.Lib.StableHlo.RunRead
public import Idealize.ShloMosaic.Lib.Quiescent

@[expose] public section

set_option maxRecDepth 16384

noncomputable section

namespace Cert.Reference9Ideal.MixerA

open Idealize.ShloMosaic Idealize.ShloMosaic.TcCoe Idealize.SL.Sem
open Cert.Reference9Ideal Cert.Reference9Ideal.Gen

/-- The columns the mixer reads, sequence by sequence. -/
def mixed (p : FVec Ideal S17408x16384 .bf16) : FVec Ideal S4x4352x6144 .f32 :=
  extractStridedSlice S4x4352x6144 ![0, 0, 0] (shapeCast _ (extf .f32 p bitsLt_bf16_f32) shapeCasts_S17408x16384_S4x4352x16384) slices_S4x4352x16384_S4x4352x6144_0_0_0

/-- What the convolution runs over, two zero rows before every sequence. -/
def gatedIn (p : FVec Ideal S17408x16384 .bf16) : FVec Ideal S4x4354x2048 .f32 :=
  pad S4x4354x2048 ![0, 2, 0] ![0, 0, 0] ![0, 0, 0] (mulf (extractStridedSlice S4x4352x2048 ![0, 0, 0] (mixed p) slices_S4x4352x6144_S4x4352x2048_0_0_0)
    (extractStridedSlice S4x4352x2048 ![0, 0, 4096] (mixed p) slices_S4x4352x6144_S4x4352x2048_0_0_4096)) (sitofp .f32 (constantI S_ 32 0#32))
    pads_S4x4352x2048_S4x4354x2048_000_200_000 h_S_

/-- One row of the convolution's weights, on every row. -/
def weight (o : Fin 2 → Nat) (cw : FVec Ideal S3x2048 .f32) (h : S3x2048.Slices o S1x2048) : FVec Ideal S4x4352x2048 .f32 :=
  broadcastInDim S4x4352x2048 ![0, 1, 2] bcast_S1x1x2048_S4x4352x2048_0_1_2 (broadcastInDim S1x1x2048 ![2] bcast_S2048_S1x1x2048_2
    (shapeCast _ (extractStridedSlice S1x2048 o cw h) shapeCasts_S1x2048_S2048))

/-- The convolution's output, gated. -/
def gatedOut (p : FVec Ideal S17408x16384 .bf16) (cw : FVec Ideal S3x2048 .f32) : FVec Ideal S4x4352x2048 .f32 :=
  mulf (extractStridedSlice S4x4352x2048 ![0, 0, 2048] (mixed p) slices_S4x4352x6144_S4x4352x2048_0_0_2048)
    (addf (addf (addf (broadcastInDim S4x4352x2048 ![] bcast_S_S4x4352x2048 (constant S_ .f32 0x00000000#32))
      (mulf (weight ![0, 0] cw slices_S3x2048_S1x2048_0_0) (extractStridedSlice S4x4352x2048 ![0, 0, 0] (gatedIn p) slices_S4x4354x2048_S4x4352x2048_0_0_0)))
      (mulf (weight ![1, 0] cw slices_S3x2048_S1x2048_1_0) (extractStridedSlice S4x4352x2048 ![0, 1, 0] (gatedIn p) slices_S4x4354x2048_S4x4352x2048_0_1_0)))
      (mulf (weight ![2, 0] cw slices_S3x2048_S1x2048_2_0) (extractStridedSlice S4x4352x2048 ![0, 2, 0] (gatedIn p) slices_S4x4354x2048_S4x4352x2048_0_2_0)))

/-- What goes into the first branch's gate. -/
def preGate (gates : FVec Ideal S2x17408x2176 .bf16) (b : FVec Ideal S4096 .f32) : FVec Ideal S17408x2048 .f32 :=
  addf (extf .f32 (shapeCast _ (extractStridedSlice S1x17408x2048 ![0, 0, 64] gates slices_S2x17408x2176_S1x17408x2048_0_0_64) shapeCasts_S1x17408x2048_S17408x2048) bitsLt_bf16_f32)
    (broadcastInDim S17408x2048 ![0, 1] bcast_S1x2048_S17408x2048_0_1 (broadcastInDim S1x2048 ![1] bcast_S2048_S1x2048_1 (extractStridedSlice S2048 ![0] b slices_S4096_S2048_0)))

/-- The reference's result. -/
def merged (p : FVec Ideal S17408x16384 .bf16) (gates : FVec Ideal S2x17408x2176 .bf16) (cw : FVec Ideal S3x2048 .f32) (w : FVec Ideal S2048x2048 .f32)
    (b : FVec Ideal S4096 .f32) : FVec Ideal S17408x2048 .bf16 :=
  truncf .bf16 (mulf (Host.divf (broadcastInDim S17408x2048 ![] bcast_S_S17408x2048 (constant S_ .f32 0x3F800000#32))
    (addf (broadcastInDim S17408x2048 ![] bcast_S_S17408x2048 (constant S_ .f32 0x3F800000#32)) (Host.exp (Host.negf (preGate gates b)))))
    (shapeCast _ (Host.dotGeneral dot_S4x4352x2048_S2048x2048_S4x4352x2048_2_0_01_1_n_n none (gatedOut p cw) w) shapeCasts_S4x4352x2048_S17408x2048)) bitsLt_bf16_f32

/-- The reference terminates with its arguments unchanged and every semaphore at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run _ _ _).mono (fun r h => ⟨fun c => (h c).2, Idealize.ShloMosaic.sem_eq_zero_of_no_sems (by decide) r.2⟩) (Value.run m ρ)

theorem res_eq (m : (ℓ : Loc nD τ sig) → Buf (Elt Ideal) ℓ) (c : Dev nD) : Value.res_main_v47 m c
    = merged (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) := rfl

end Cert.Reference9Ideal.MixerA

namespace Cert.Kernel9Ideal.MixerA

open Idealize.ShloMosaic Idealize.ShloMosaic.TcCoe Idealize.SL.Sem
open Idealize.ShloMosaic.Pipeline (Dat)
open Cert.Kernel9Ideal Cert.Kernel9Ideal.Gen Cert.Kernel9Ideal.Value Cert.OutGate
open Cert.Reference9Ideal.MixerA (mixed gatedIn weight gatedOut preGate merged)

variable (m : (ℓ : Loc nD τ sig) → Buf (Elt Ideal) ℓ)

theorem idx : ∀ t : Fin cfg0.N, win0_0.index t = ![t.val, 0] ∧ win0_1.index t = ![t.val, 1] ∧ win0_2.index t = ![t.val, 2]
    ∧ win0_3.index t = ![t.val * 32 - 1, 0] ∧ win0_4.index t = ![t.val * 32 - 1, 2] ∧ win0_5.index t = ![0, t.val, 0] ∧ win0_6.index t = ![0, 0]
    ∧ win0_7.index t = ![0, 0] ∧ win0_8.index t = ![0, 0] ∧ win0_9.index t = ![t.val, 0] ∧ t.val < 34 :=
  (by decide +kernel : ∀ t : Fin grid0.N, _)

theorem lt (t : Fin cfg0.N) : t.val < 34 := (idx t).2.2.2.2.2.2.2.2.2.2

/-- The matrix and the bias the region finds. -/
theorem V_weights (c : Dev nD) : V m c main_v0 = (truncf .bf16 (m ((c : Thread nD τ).loc main_arg3) : FVec Ideal S2048x2048 .f32) bitsLt_bf16_f32 : FVec Ideal S2048x2048 .bf16) := by
  unfold V; simp only [hostOps0]; after_results
theorem V_bias (c : Dev nD) : V m c main_v2 = (broadcastInDim S1x2048 ![1] bcast_S2048_S1x2048_1
    (extractStridedSlice S2048 ![0] (m ((c : Thread nD τ).loc main_arg4) : FVec Ideal S4096 .f32) slices_S4096_S2048_0) : FVec Ideal S1x2048 .f32) := by
  unfold V; simp only [hostOps0]; after_results

/-- The array's row of a tile's row. -/
def row (t : Fin cfg0.N) (r : Fin 512) : Fin 17408 := ⟨t.val * 512 + r, by have := lt t; omega⟩

/-- The blocks a grid point reads, entry by entry. -/
theorem c_at (c : Dev nD) (t : Fin cfg0.N) (r : Fin 512) (k : Fin 2048) :
    iblk m c 0 t (ix2 r k) = m ((c : Thread nD τ).loc main_arg0) (ix2 (row t r) ⟨k, by omega⟩) := by
  unfold row
  blk_ext [iblk, V, idx t]
theorem b_at (c : Dev nD) (t : Fin cfg0.N) (r : Fin 512) (k : Fin 2048) :
    iblk m c 1 t (ix2 r k) = m ((c : Thread nD τ).loc main_arg0) (ix2 (row t r) ⟨2048 + k, by omega⟩) := by
  unfold row
  blk_ext [iblk, V, idx t]
theorem v_at (c : Dev nD) (t : Fin cfg0.N) (r : Fin 512) (k : Fin 2048) :
    iblk m c 2 t (ix2 r k) = m ((c : Thread nD τ).loc main_arg0) (ix2 (row t r) ⟨4096 + k, by omega⟩) := by
  unfold row
  blk_ext [iblk, V, idx t]
theorem ch_at (c : Dev nD) (t : Fin cfg0.N) (r : Fin 16) (k : Fin 2048) :
    iblk m c 3 t (ix2 r k) = m ((c : Thread nD τ).loc main_arg0) (ix2 ⟨(t.val * 32 - 1) * 16 + r, by have := lt t; omega⟩ ⟨k, by omega⟩) := by
  blk_ext [iblk, V, idx t]
theorem vh_at (c : Dev nD) (t : Fin cfg0.N) (r : Fin 16) (k : Fin 2048) :
    iblk m c 4 t (ix2 r k) = m ((c : Thread nD τ).loc main_arg0) (ix2 ⟨(t.val * 32 - 1) * 16 + r, by have := lt t; omega⟩ ⟨4096 + k, by omega⟩) := by
  blk_ext [iblk, V, idx t]
theorem gates_at (c : Dev nD) (t : Fin cfg0.N) (r : Fin 512) (n : Fin 2048) :
    iblk m c 5 t (ix3 0 r ⟨64 + n, by omega⟩) = m ((c : Thread nD τ).loc main_arg1) (ix3 0 (row t r) ⟨64 + n, by omega⟩) := by
  unfold row
  blk_ext [iblk, V, idx t]
theorem taps_at (c : Dev nD) (t : Fin cfg0.N) (k : Fin 3) (n : Fin 2048) :
    iblk m c 6 t (ix2 k n) = m ((c : Thread nD τ).loc main_arg2) (ix2 k n) := by
  blk_ext [iblk, V, idx t]
theorem weights_at (c : Dev nD) (t : Fin cfg0.N) (k : Fin 2048) (n : Fin 2048) :
    iblk m c 7 t (ix2 k n) = m ((c : Thread nD τ).loc main_arg3) (ix2 k n) := by
  blk_simp [iblk]
  erw [V_weights]
  pointwise
  blk_ext [idx t]
theorem bias_at (c : Dev nD) (t : Fin cfg0.N) (n : Fin 2048) :
    iblk m c 8 t (ix2 0 n) = m ((c : Thread nD τ).loc main_arg4) (ix1 ⟨n, by omega⟩) := by
  blk_simp [iblk]
  erw [V_bias]
  pointwise
  blk_ext [idx t]

/-- What the convolution runs over at one row and column. -/
def u (p : FVec Ideal S17408x16384 .bf16) (R : Fin 17408) (k : Fin 2048) : EReal := p (ix2 R ⟨k, by omega⟩) * p (ix2 R ⟨4096 + k, by omega⟩)

/-- A row a few rows earlier. -/
def back (R : Fin 17408) (d : Nat) : Fin 17408 := ⟨R.val - d, by omega⟩

/-- The convolution's gated output at one row and column: zero on the first two rows of every padded sequence. -/
def left (p : FVec Ideal S17408x16384 .bf16) (cw : FVec Ideal S3x2048 .f32) (R : Fin 17408) (k : Fin 2048) : EReal :=
  if R.val % 4352 < 2 then 0 else p (ix2 R ⟨2048 + k, by omega⟩) * (cw (ix2 2 k) * u p R k + cw (ix2 1 k) * u p (back R 1) k + cw (ix2 0 k) * u p (back R 2) k)

/-- One entry of the result. -/
def entry (p : FVec Ideal S17408x16384 .bf16) (gates : FVec Ideal S2x17408x2176 .bf16) (cw : FVec Ideal S3x2048 .f32) (w : FVec Ideal S2048x2048 .f32)
    (b : FVec Ideal S4096 .f32) (R : Fin 17408) (n : Fin 2048) : EReal :=
  ofHalf (gates (ix3 0 R ⟨64 + n, by omega⟩) + b (ix1 ⟨n, by omega⟩)) * ∑ k : Fin 2048, left p cw R k * w (ix2 k n)

/-- The projection is zero on the first two rows of every padded sequence. -/
def Padded (p : FVec Ideal S17408x16384 .bf16) : Prop := ∀ (R : Fin 17408) (k : Fin 2048), R.val % 4352 < 2 → p (ix2 R ⟨2048 + k, by omega⟩) = 0

/-- Three terms in the other order. -/
theorem turned (a b c : EReal) : a + b + c = c + b + a := by
  rw [add_comm (a + b) c, add_comm a b, add_assoc]

/-- The reference's convolution, past the first two rows of a sequence. -/
theorem gatedOut_in (p : FVec Ideal S17408x16384 .bf16) (cw : FVec Ideal S3x2048 .f32) (s : Fin 4) (q : Fin 4352) (R : Fin 17408) (k : Fin 2048) (hR : R.val = s.val * 4352 + q.val)
    (h : 2 ≤ q.val) : gatedOut p cw (ix3 s q k)
      = p (ix2 R ⟨2048 + k, by omega⟩) * (cw (ix2 2 k) * u p R k + cw (ix2 1 k) * u p (back R 1) k + cw (ix2 0 k) * u p (back R 2) k) := by
  pointwise [gatedOut, weight, gatedIn, mixed]
  have e0 : (⟨s.val * 4352 + q.val, by omega⟩ : Fin 17408) = R := Fin.ext hR.symm
  have e1 : (⟨s.val * 4352 + (1 + q.val - 2), by omega⟩ : Fin 17408) = back R 1 :=
    Fin.ext (by show s.val * 4352 + (1 + q.val - 2) = R.val - 1; omega)
  have e2 : (⟨s.val * 4352 + (q.val - 2), by omega⟩ : Fin 17408) = back R 2 :=
    Fin.ext (by show s.val * 4352 + (q.val - 2) = R.val - 2; omega)
  have h1 : 2 ≤ q.val ∧ q.val - 2 < 4352 := by omega
  have h2 : 2 ≤ 1 + q.val ∧ 1 + q.val - 2 < 4352 := by omega
  simp only [dif_pos h1, dif_pos h2, e0, e1, e2]
  exact congrArg (p (ix2 R ⟨2048 + k, by omega⟩) * ·) (turned _ _ _)

theorem gatedOut_raw (p : FVec Ideal S17408x16384 .bf16) (cw : FVec Ideal S3x2048 .f32) (hz : Padded p) (s : Fin 4) (q : Fin 4352) (R : Fin 17408) (k : Fin 2048)
    (hR : R.val = s.val * 4352 + q.val) : gatedOut p cw (ix3 s q k) = left p cw R k := by
  unfold left
  split
  · rename_i h
    pointwise [gatedOut, mixed]
    have e0 : (⟨s.val * 4352 + q.val, by omega⟩ : Fin 17408) = R := Fin.ext hR.symm
    rw [e0, hz R k h, zero_mul]
  · exact gatedOut_in p cw s q R k hR (by omega)

theorem gatedOut_at (p : FVec Ideal S17408x16384 .bf16) (cw : FVec Ideal S3x2048 .f32) (hz : Padded p) (R : Fin 17408) (k : Fin 2048) :
    gatedOut p cw (ix3 ⟨R.val / 4352, by omega⟩ ⟨R.val % 4352, by omega⟩ k) = left p cw R k :=
  gatedOut_raw p cw hz _ _ R k (by show R.val = R.val / 4352 * 4352 + R.val % 4352; omega)

/-- One entry of the reference's result. -/
theorem merged_at (p : FVec Ideal S17408x16384 .bf16) (gates : FVec Ideal S2x17408x2176 .bf16) (cw : FVec Ideal S3x2048 .f32) (w : FVec Ideal S2048x2048 .f32)
    (b : FVec Ideal S4096 .f32) (hz : Padded p) (R : Fin 17408) (n : Fin 2048) : merged p gates cw w b (ix2 R n) = entry p gates cw w b R n := by
  unfold entry
  rw [gate_eq]
  unfold ofExp
  pointwise [merged, preGate]
  simp only [gatedOut_at p cw hz R]

/-- The rows a tile's convolution runs over: the sixteen before it, then its own. -/
def run (c v : Vec Ideal S512x2048 .bf16) (ch vh : Vec Ideal S16x2048 .bf16) (k : Fin 2048) (i : Nat) : EReal :=
  if h : i < 16 then ch (ix2 ⟨i, h⟩ k) * vh (ix2 ⟨i, h⟩ k) else if h' : i - 16 < 512 then c (ix2 ⟨i - 16, h'⟩ k) * v (ix2 ⟨i - 16, h'⟩ k) else 0

/-- The convolution past a tile's first rows. -/
theorem body_at (c v : Vec Ideal S512x2048 .bf16) (ch vh : Vec Ideal S16x2048 .bf16) (cw : Vec Ideal S3x2048 .f32) (r : Fin 512) (k : Fin 2048) (h : 8 ≤ r.val) :
    k0_pay3 (F := Ideal) c v cw (ix2 r k) = cw (ix2 2 k) * run c v ch vh k (16 + r) + cw (ix2 1 k) * run c v ch vh k (15 + r) + cw (ix2 0 k) * run c v ch vh k (14 + r) := by
  unfold run
  rw [dif_neg (by omega), dif_pos (by omega), dif_neg (by omega), dif_pos (by omega), dif_neg (by omega), dif_pos (by omega)]
  pointwise [k0_pay3, k0_pay2]
  have e0 : (⟨16 + r.val - 16, by omega⟩ : Fin 512) = r := Fin.ext (by show 16 + r.val - 16 = r.val; omega)
  have e1 : (⟨(r.val + 512 - 1) % 512, by omega⟩ : Fin 512) = ⟨15 + r.val - 16, by omega⟩ := Fin.ext (by show (r.val + 512 - 1) % 512 = 15 + r.val - 16; omega)
  have e2 : (⟨(r.val + 512 - 2) % 512, by omega⟩ : Fin 512) = ⟨14 + r.val - 16, by omega⟩ := Fin.ext (by show (r.val + 512 - 2) % 512 = 14 + r.val - 16; omega)
  simp only [e0, e1, e2]

/-- The convolution on a tile's first rows. -/
theorem top_at (c v : Vec Ideal S512x2048 .bf16) (ch vh : Vec Ideal S16x2048 .bf16) (cw : Vec Ideal S3x2048 .f32) (r : Fin 8) (k : Fin 2048) :
    k0_pay6 (F := Ideal) c v ch vh cw (ix2 r k) + cw (ix2 0 k) * Scalar.select (k0_pay7 (ix2 r 0)) (k0_pay5 ch vh (ix2 ⟨(r.val + 8 - 2) % 8, by omega⟩ k))
        (k0_pay4 c v (ix2 ⟨(r.val + 8 - 2) % 8, by omega⟩ k))
      = cw (ix2 2 k) * run c v ch vh k (16 + r) + cw (ix2 1 k) * run c v ch vh k (15 + r) + cw (ix2 0 k) * run c v ch vh k (14 + r) := by
  pointwise [k0_pay6, k0_pay4, k0_pay5, k0_pay2, k0_pay7]
  fin_cases r <;> rfl

/-- One entry of the payload. -/
theorem pay_at (c b v : Vec Ideal S512x2048 .bf16) (ch vh : Vec Ideal S16x2048 .bf16) (g : Vec Ideal S1x512x2048 .bf16) (cw : Vec Ideal S3x2048 .f32) (w : Vec Ideal S2048x2048 .bf16)
    (bg : Vec Ideal S1x2048 .f32) (r : Fin 512) (n : Fin 2048) : k0_pay1 (F := Ideal) cw (k0_pay3 c v cw) (k0_pay4 c v) (k0_pay5 ch vh) (k0_pay6 c v ch vh cw) k0_pay7 b w g bg (ix2 r n)
      = ofHalf (g (ix3 0 r n) + bg (ix2 0 n)) * ∑ k : Fin 2048, b (ix2 r k) * (cw (ix2 2 k) * run c v ch vh k (16 + r) + cw (ix2 1 k) * run c v ch vh k (15 + r)
        + cw (ix2 0 k) * run c v ch vh k (14 + r)) * w (ix2 k n) := by
  unfold ofHalf
  pointwise [k0_pay1]
  refine congrArg _ (Finset.sum_congr rfl fun k _ => congrArg (· * w (ix2 k n)) (congrArg (b (ix2 r k) * ·) ?_))
  split
  · rename_i h
    exact top_at c v ch vh cw ⟨r.val, h⟩ k
  · rename_i h
    have e : (⟨8 + (r.val - 8), by omega⟩ : Fin 512) = r := Fin.ext (by show 8 + (r.val - 8) = r.val; omega)
    rw [e]
    exact body_at c v ch vh cw r k (by omega)

/-- Equal parts make equal entries. -/
theorem parts {g g' b b' : EReal} {f f' : Fin 2048 → EReal} (hg : g = g') (hb : b = b') (hf : ∀ k, f k = f' k) :
    ofHalf (g + b) * (∑ k, f k) = ofHalf (g' + b') * ∑ k, f' k := by
  rw [hg, hb, Finset.sum_congr rfl fun k _ => hf k]

/-- One entry of the block a grid point stores, from the blocks it reads. -/
theorem out_at (c b v : Vec Ideal S512x2048 .bf16) (ch vh : Vec Ideal S16x2048 .bf16) (g : Vec Ideal S1x512x2176 .bf16) (cw : Vec Ideal S3x2048 .f32) (w : Vec Ideal S2048x2048 .bf16)
    (bg : Vec Ideal S1x2048 .f32) (r : Fin 512) (n : Fin 2048) : out0_9 (F := Ideal) c b v ch vh g cw w bg (ix2 r n)
      = ofHalf (g (ix3 0 r ⟨64 + n, by omega⟩) + bg (ix2 0 n)) * ∑ k : Fin 2048, b (ix2 r k) * (cw (ix2 2 k) * run c v ch vh k (16 + r) + cw (ix2 1 k) * run c v ch vh k (15 + r)
        + cw (ix2 0 k) * run c v ch vh k (14 + r)) * w (ix2 k n) := by
  have l0 : ∀ x : Vec Ideal S512x2048 .bf16, View.ld x r0_0 = x := fun x => funext fun (i : S512x2048.Idx) => by rw [eq_ix2 i]; pointwise; blk_ext
  have l1 : ∀ x : Vec Ideal S16x2048 .bf16, View.ld x r0_1 = x := fun x => funext fun (i : S16x2048.Idx) => by rw [eq_ix2 i]; pointwise; blk_ext
  have l2 : ∀ x : Vec Ideal S3x2048 .f32, View.ld x r0_2 = x := fun x => funext fun (i : S3x2048.Idx) => by rw [eq_ix2 i]; pointwise; blk_ext
  have l3 : ∀ x : Vec Ideal S2048x2048 .bf16, View.ld x r0_3 = x := fun x => funext fun (i : S2048x2048.Idx) => by rw [eq_ix2 i]; pointwise; blk_ext
  have l5 : ∀ x : Vec Ideal S1x2048 .f32, View.ld x r0_5 = x := fun x => funext fun (i : S1x2048.Idx) => by rw [eq_ix2 i]; pointwise; blk_ext
  unfold out0_9
  simp only [l0, l1, l2, l3, l5]
  have hc : ∀ q : Vec Ideal S512x2048 .bf16, View.canon (Val := Elt Ideal) [⟨r0_0, q⟩] (ix2 r n) = q (ix2 r n) := by
    intro q
    generalize hi : (ix2 r n : S512x2048.Idx) = i
    canon_tiles y h
    refine congrArg q ?_
    rw [eq_ix2 y]
    blk_ext
  rw [hc]
  refine (pay_at _ _ _ _ _ _ _ _ _ _ _).trans (parts ?_ rfl fun _ => rfl)
  pointwise
  blk_ext

/-- The product at a row of a tile, and at the rows before it. -/
theorem run_at (c : Dev nD) (t : Fin cfg0.N) (k : Fin 2048) (r : Fin 512) (d : Nat) (hd : d ≤ 2) (hr : 2 ≤ (row t r).val) :
    run (iblk m c 0 t) (iblk m c 2 t) (iblk m c 3 t) (iblk m c 4 t) k (16 - d + r) = u (m ((c : Thread nD τ).loc main_arg0)) (back (row t r) d) k := by
  have hrow : (row t r).val = t.val * 512 + r.val := rfl
  unfold run u
  split
  · rename_i h
    rw [ch_at m c t, vh_at m c t]
    have e : (⟨(t.val * 32 - 1) * 16 + (16 - d + r.val), by have := lt t; omega⟩ : Fin 17408) = back (row t r) d :=
      Fin.ext (by show (t.val * 32 - 1) * 16 + (16 - d + r.val) = (row t r).val - d; omega)
    simp only [e]
  · rename_i h
    rw [dif_pos (by omega), c_at m c t, v_at m c t]
    have e : row t ⟨16 - d + r.val - 16, by omega⟩ = back (row t r) d :=
      Fin.ext (by show t.val * 512 + (16 - d + r.val - 16) = (row t r).val - d; omega)
    rw [e]

/-- One entry of what a grid point stores. -/
theorem point (c : Dev nD) (hz : Padded (m ((c : Thread nD τ).loc main_arg0))) (t : Fin cfg0.N) (y : S512x2048.Idx) :
    out0_9 (iblk m c 0 t) (iblk m c 1 t) (iblk m c 2 t) (iblk m c 3 t) (iblk m c 4 t) (iblk m c 5 t) (iblk m c 6 t) (iblk m c 7 t) (iblk m c 8 t) y
      = merged (m ((c : Thread nD τ).loc main_arg0)) (m ((c : Thread nD τ).loc main_arg1)) (m ((c : Thread nD τ).loc main_arg2)) (m ((c : Thread nD τ).loc main_arg3))
        (m ((c : Thread nD τ).loc main_arg4)) (((cfg0.win 9).blk t).view.emb y) := by
  obtain ⟨r, n, rfl⟩ : ∃ (r : Fin 512) (n : Fin 2048), y = ix2 r n := ⟨y 0, y 1, eq_ix2 y⟩
  have he : ((cfg0.win 9).blk t).view.emb (ix2 r n) = ix2 (row t r) n := by
    unfold row
    blk_ext [idx t]
  refine (out_at _ _ _ _ _ _ _ _ _ r n).trans (Eq.trans ?_ ((merged_at _ _ _ _ _ hz _ _).symm.trans (congrArg _ he.symm)))
  unfold entry
  refine parts (gates_at m c t r n) (bias_at m c t n) fun k => ?_
  rw [weights_at m c t k n]
  refine congrArg (· * (m ((c : Thread nD τ).loc main_arg3) : FVec Ideal S2048x2048 .f32) (ix2 k n)) ?_
  unfold left
  rw [b_at m c t r k]
  split
  · rename_i h
    rw [hz _ _ h, zero_mul]
  · rename_i h
    have h2 : 2 ≤ (row t r).val := by omega
    rw [taps_at m c t 0 k, taps_at m c t 1 k, taps_at m c t 2 k]
    have e0 := run_at m c t k r 0 (by omega) h2
    have e1 := run_at m c t k r 1 (by omega) h2
    have e2 := run_at m c t k r 2 (by omega) h2
    have eb : back (row t r) 0 = row t r := rfl
    rw [eb] at e0
    rw [← e0, ← e1, ← e2]

/-- The result array after the run. -/
theorem final (c : Dev nD) (hz : Padded (m ((c : Thread nD τ).loc main_arg0))) : (dats m 0 c).arrAt 9 (cfgs 0).N
    = merged (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 9 _ (by decide +kernel) fun t _ y => ?_
  blk_simp
  rw [after0_9]
  exact point m c hz t y

/-- What the precondition compares, entry by entry. -/
theorem compared (p : FVec Ideal S17408x16384 .bf16) (s : Fin 4) (q : Fin 2) (k : Fin 2048) :
    extractStridedSlice Cert.Pre_padding.S4x2x2048 ![0, 0, 2048] (shapeCast Cert.Pre_padding.S4x4352x16384 p
      Cert.Pre_padding.Gen.facts.shapeCasts_S17408x16384_S4x4352x16384) Cert.Pre_padding.Gen.facts.slices_S4x4352x16384_S4x2x2048_0_0_2048 (ix3 s q k)
      = p (ix2 ⟨s.val * 4352 + q.val, by omega⟩ ⟨2048 + k, by omega⟩) := by
  pointwise

/-- The precondition says the projection is zero on the first two rows of every padded sequence. -/
theorem padded (h : Cert.Pre_Kernel9Ideal_padding m) (c : Dev nD) : Padded (m ((c : Thread nD τ).loc main_arg0)) := by
  intro R k hR
  have e0 : (⟨R.val / 4352 * 4352 + R.val % 4352, by omega⟩ : Fin 17408) = R := Fin.ext (by show R.val / 4352 * 4352 + R.val % 4352 = R.val; omega)
  have key := compared (m ((c : Thread nD τ).loc main_arg0)) ⟨R.val / 4352, by omega⟩ ⟨R.val % 4352, hR⟩ k
  have hc : FloatOps.cmpf (F := Ideal) .oeq (extractStridedSlice Cert.Pre_padding.S4x2x2048 ![0, 0, 2048] (shapeCast Cert.Pre_padding.S4x4352x16384 (m ((c : Thread nD τ).loc main_arg0) : FVec Ideal S17408x16384 .bf16)
      Cert.Pre_padding.Gen.facts.shapeCasts_S17408x16384_S4x4352x16384) Cert.Pre_padding.Gen.facts.slices_S4x4352x16384_S4x2x2048_0_0_2048
        (ix3 ⟨R.val / 4352, by omega⟩ ⟨R.val % 4352, hR⟩ k)) (constant (F := Ideal) Cert.Pre_padding.S_ .bf16 0x0000#16 ix0) = 1#1 :=
    congrFun (h c) (ix3 ⟨R.val / 4352, by omega⟩ ⟨R.val % 4352, hR⟩ k)
  rw [key] at hc
  rw [e0] at hc
  revert hc
  show (FloatOps.cmpf (F := Ideal) .oeq _ (Ideal.ofBits .bf16 0x0000#16) = 1#1) → _
  intro hc
  rw [Ideal.ofBits_zero_bf16] at hc
  by_contra hne
  have : FloatOps.cmpf (F := Ideal) (φ := .bf16) .oeq ((m ((c : Thread nD τ).loc main_arg0) : FVec Ideal S17408x16384 .bf16) (ix2 R ⟨2048 + k, by omega⟩)) (0 : EReal)
      = BitVec.ofBool (decide ((m ((c : Thread nD τ).loc main_arg0) : FVec Ideal S17408x16384 .bf16) (ix2 R ⟨2048 + k, by omega⟩) = (0 : EReal))) := rfl
  rw [this, decide_eq_false hne] at hc
  exact absurd hc (by decide)

/-- Kernel and reference end with equal results. -/
theorem algebraic : algebraic_Kernel9Ideal_Reference9Ideal_pre_padding := by
  intro m g m' g' hpre hagree
  refine ⟨_, (θ_run _ _ _).mono (fun r h c => ⟨(h c).1.trans (final m c (padded m hpre c)), (h c).2⟩) (run_blocks m g), ?_⟩
  refine (θ_run _ _ _).mono (fun r h c => ⟨(h c).1.trans ?_, (h c).2⟩) (Cert.Reference9Ideal.Value.run m' g')
  obtain ⟨h0, h1, h2, h3, h4⟩ := hagree c
  rw [Cert.Reference9Ideal.MixerA.res_eq, h0, h1, h2, h3, h4]

end Cert.Kernel9Ideal.MixerA
-- ==== Proof.FirstNorm.lean ====
/-
  The first layer norm: what the tiled kernel leaves in its two results is the norm of the learned tokens and of the
  input's rows, and zero on the padding.
-/
module

public import proofs.«01_k».proof.Defs
public import proofs.«01_k».proof.Proof.Gen.Kernel10Ideal.Value
public import proofs.«01_k».proof.Proof.Gen.Reference10Ideal.Run
public import proofs.«01_k».proof.Proof.RowNorm
public import Idealize.ShloMosaic.Lib.Pipeline.ValueKit
public import Idealize.ShloMosaic.Lib.StableHlo.RunRead
public import Idealize.ShloMosaic.Lib.Quiescent

@[expose] public section

set_option maxRecDepth 16384

noncomputable section

namespace Cert.Reference10Ideal.FirstNorm

open Idealize.ShloMosaic Idealize.ShloMosaic.TcCoe Idealize.SL.Sem
open Cert.Reference10Ideal Cert.Reference10Ideal.Gen Cert.RowNorm

/-- The learned tokens before every sequence of the input. -/
def joined (x : FVec Ideal S4x4096x2048 .f32) (w : FVec Ideal S16x2048 .f32) : FVec Ideal S4x4112x2048 .f32 :=
  concatenate S4x4112x2048 1 [⟨S4x16x2048, (broadcastInDim S4x16x2048 ![0, 1, 2] bcast_S1x16x2048_S4x16x2048_0_1_2 (broadcastInDim S1x16x2048 ![1, 2] bcast_S16x2048_S1x16x2048_1_2 w))⟩, ⟨S4x4096x2048, x⟩] concatenates_S4x16x2048_S4x4096x2048_S4x4112x2048_d1

/-- Every row's mean, -/
def means (x : FVec Ideal S4x4112x2048 .f32) : FVec Ideal S4x4112x1 .f32 :=
  Host.divf (broadcastInDim S4x4112x1 ![0, 1] bcast_S4x4112_S4x4112x1_0_1 (Host.reduceAdd x (constant S_ .f32 0x00000000#32) reducesTo_S4x4112x2048_S4x4112_d2 h_S_))
    (broadcastInDim S4x4112x1 ![] bcast_S_S4x4112x1 (constant S_ .f32 0x45000000#32))

/-- the rows less their means, -/
def centred (x : FVec Ideal S4x4112x2048 .f32) : FVec Ideal S4x4112x2048 .f32 :=
  subf x (broadcastInDim S4x4112x2048 ![0, 1, 2] bcast_S4x4112x1_S4x4112x2048_0_1_2 (means x))

/-- and the rows' layer norm. -/
def normed (x : FVec Ideal S4x4112x2048 .f32) (g b : FVec Ideal S2048 .f32) : FVec Ideal S4x4112x2048 .f32 :=
  addf (mulf (mulf (centred x) (broadcastInDim S4x4112x2048 ![0, 1, 2] bcast_S4x4112x1_S4x4112x2048_0_1_2 (Host.rsqrt (addf (means (mulf (centred x) (centred x)))
      (broadcastInDim S4x4112x1 ![] bcast_S_S4x4112x1 (constant S_ .f32 0x3727C5AC#32))))))
      (broadcastInDim S4x4112x2048 ![0, 1, 2] bcast_S1x1x2048_S4x4112x2048_0_1_2 (broadcastInDim S1x1x2048 ![2] bcast_S2048_S1x1x2048_2 g)))
    (broadcastInDim S4x4112x2048 ![0, 1, 2] bcast_S1x1x2048_S4x4112x2048_0_1_2 (broadcastInDim S1x1x2048 ![2] bcast_S2048_S1x1x2048_2 b))

/-- Every sequence behind its padding, the sequences one after another. -/
def padded (x : FVec Ideal S4x4112x2048 .f32) : FVec Ideal S17408x2048 .f32 :=
  shapeCast _ (pad S4x4352x2048 ![0, 240, 0] ![0, 0, 0] ![0, 0, 0] x
    (sitofp .f32 (constantI S_ 32 0#32)) pads_S4x4112x2048_S4x4352x2048_000_24000_000 h_S_) shapeCasts_S4x4352x2048_S17408x2048

/-- The reference terminates with its arguments unchanged and every semaphore at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run _ _ _).mono (fun r h => ⟨fun c => (h c).2.2, Idealize.ShloMosaic.sem_eq_zero_of_no_sems (by decide) r.2⟩) (Value.run m ρ)

/-- One entry of the joined rows. -/
theorem joined_at (x : FVec Ideal S4x4096x2048 .f32) (w : FVec Ideal S16x2048 .f32) (s : Fin 4) (q : Fin 4112) (n : Fin 2048) :
    joined x w (ix3 s q n) = if h : q.val < 16 then w (ix2 ⟨q.val, h⟩ n) else x (ix3 s ⟨q.val - 16, by omega⟩ n) := by
  pointwise [joined]

/-- One entry of the reference's norm. -/
theorem means_at (x : FVec Ideal S4x4112x2048 .f32) (s : Fin 4) (q : Fin 4112) : means x (ix3 s q 0) = mean (fun j => x (ix3 s q j)) := by
  unfold mean
  pointwise [means]
theorem centred_at (x : FVec Ideal S4x4112x2048 .f32) (s : Fin 4) (q : Fin 4112) (n : Fin 2048) : centred x (ix3 s q n) = x (ix3 s q n) - mean (fun j => x (ix3 s q j)) := by
  rw [← means_at]
  pointwise [centred]
theorem normed_at (x : FVec Ideal S4x4112x2048 .f32) (g b : FVec Ideal S2048 .f32) (s : Fin 4) (q : Fin 4112) (n : Fin 2048) :
    normed x g b (ix3 s q n) = rowNorm (fun j => x (ix3 s q j)) (fun j => g (ix1 j)) (fun j => b (ix1 j)) n := by
  unfold rowNorm
  simp only [← centred_at]
  rw [show mean (fun j => centred x (ix3 s q j) * centred x (ix3 s q j)) = means (mulf (centred x) (centred x)) (ix3 s q 0) from (means_at (mulf (centred x) (centred x)) s q).symm]
  pointwise [normed]

/-- One entry of the reference's result. -/
theorem padded_at (x : FVec Ideal S4x4112x2048 .f32) (R : Fin 17408) (n : Fin 2048) :
    padded x (ix2 R n) = if h : 240 ≤ R.val % 4352 then x (ix3 ⟨R.val / 4352, by omega⟩ ⟨R.val % 4352 - 240, by omega⟩ n) else 0 := by
  pointwise [padded]
  have hR := R.isLt
  by_cases hq : 240 ≤ R.val % 4352
  · simp only [dif_pos (show R.val / 4352 < 4 ∧ 240 ≤ R.val % 4352 ∧ R.val % 4352 - 240 < 4112 by omega), dif_pos hq]
  · simp only [dif_neg (show ¬ (R.val / 4352 < 4 ∧ 240 ≤ R.val % 4352 ∧ R.val % 4352 - 240 < 4112) by omega), dif_neg hq]
    show ((((0#32 : BitVec 32).toInt : ℝ) : EReal)) = 0
    simp

end Cert.Reference10Ideal.FirstNorm

namespace Cert.Kernel10Ideal.FirstNorm

open Idealize.ShloMosaic Idealize.ShloMosaic.TcCoe Idealize.SL.Sem
open Idealize.ShloMosaic.Pipeline (Dat)
open Cert.Kernel10Ideal Cert.Kernel10Ideal.Gen Cert.Kernel10Ideal.Value Cert.RowNorm
open Cert.Reference10Ideal.FirstNorm (joined normed padded joined_at normed_at padded_at)

variable (m : (ℓ : Loc nD τ sig) → Buf (Elt Ideal) ℓ)

theorem idx : ∀ t : Fin cfg0.N, win0_0.index t = ![t.val / 17, t.val % 17 - 1, 0] ∧ win0_1.index t = ![0, 0] ∧ win0_2.index t = ![0, 0]
    ∧ win0_3.index t = ![0, 0] ∧ win0_4.index t = ![t.val, 0] ∧ win0_5.index t = ![t.val, 0] ∧ t.val < 68 :=
  (by decide +kernel : ∀ t : Fin grid0.N, _)

/-- The norm's two vectors the region finds. -/
theorem V_scale (c : Dev nD) : V m c main_v0 = (broadcastInDim S1x2048 ![1] bcast_S2048_S1x2048_1 (m ((c : Thread nD τ).loc main_arg2) : FVec Ideal S2048 .f32) : FVec Ideal S1x2048 .f32) := by
  unfold V; simp only [hostOps0]; after_results
theorem V_shift (c : Dev nD) : V m c main_v1 = (broadcastInDim S1x2048 ![1] bcast_S2048_S1x2048_1 (m ((c : Thread nD τ).loc main_arg3) : FVec Ideal S2048 .f32) : FVec Ideal S1x2048 .f32) := by
  unfold V; simp only [hostOps0]; after_results

/-- The blocks a grid point reads, entry by entry. -/
theorem rows_at (c : Dev nD) (t : Fin cfg0.N) (r : Fin 256) (k : Fin 2048) :
    iblk m c 0 t (ix3 0 r k) = m ((c : Thread nD τ).loc main_arg0) (ix3 ⟨t.val / 17, by have := (idx t).2.2.2.2.2.2; omega⟩ ⟨(t.val % 17 - 1) * 256 + r, by omega⟩ k) := by
  blk_ext [iblk, V, idx t]
theorem learned_at (c : Dev nD) (t : Fin cfg0.N) (r : Fin 16) (k : Fin 2048) :
    iblk m c 1 t (ix2 r k) = m ((c : Thread nD τ).loc main_arg1) (ix2 r k) := by
  blk_ext [iblk, V, idx t]
theorem scale_at (c : Dev nD) (t : Fin cfg0.N) (n : Fin 2048) :
    iblk m c 2 t (ix2 0 n) = m ((c : Thread nD τ).loc main_arg2) (ix1 n) := by
  blk_simp [iblk]
  erw [V_scale]
  pointwise
  blk_ext [idx t]
theorem shift_at (c : Dev nD) (t : Fin cfg0.N) (n : Fin 2048) :
    iblk m c 3 t (ix2 0 n) = m ((c : Thread nD τ).loc main_arg3) (ix1 n) := by
  blk_simp [iblk]
  erw [V_shift]
  pointwise
  blk_ext [idx t]

/-- One entry of the learned tokens' norm, and of the input rows'. -/
theorem pay3_at (x : Vec Ideal S16x2048 .f32) (g b : Vec Ideal S1x2048 .f32) (r : Fin 16) (n : Fin 2048) :
    k0_pay3 x g b (ix2 r n) = rowNorm (fun j => x (ix2 r j)) (fun j => g (ix2 0 j)) (fun j => b (ix2 0 j)) n := by
  unfold k0_pay3 rowNorm mean
  pointwise
theorem pay4_at (x : Vec Ideal S16x2048 .f32) (g b : Vec Ideal S1x2048 .f32) (r : Fin 16) (n : Fin 2048) :
    k0_pay4 x g b (ix2 r n) = rowNorm (fun j => x (ix2 r j)) (fun j => g (ix2 0 j)) (fun j => b (ix2 0 j)) n := by
  unfold k0_pay4
  pointwise [pay3_at]
theorem pay5_at (x : Vec Ideal S1x256x2048 .f32) (g b : Vec Ideal S1x2048 .f32) (r : Fin 256) (n : Fin 2048) :
    k0_pay5 x g b (ix2 r n) = rowNorm (fun j => x (ix3 0 r j)) (fun j => g (ix2 0 j)) (fun j => b (ix2 0 j)) n := by
  unfold k0_pay5 rowNorm mean
  pointwise
theorem pay6_at (x : Vec Ideal S1x256x2048 .f32) (g b : Vec Ideal S1x2048 .f32) (r : Fin 256) (n : Fin 2048) :
    k0_pay6 x g b (ix2 r n) = rowNorm (fun j => x (ix3 0 r j)) (fun j => g (ix2 0 j)) (fun j => b (ix2 0 j)) n := by
  unfold k0_pay6
  pointwise [pay5_at]

section
variable (c : Dev nD) (i : grid0.Coords) (arg2 : Memref sig .tc .vmem S1x256x2048 .f32) (harg2 : arg2.IsWhole) (arg3 : Memref sig .tc .vmem S16x2048 .f32) (harg3 : arg3.IsWhole)
  (arg4 : Memref sig .tc .vmem S1x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S256x2048 .bf16) (harg7 : arg7.IsWhole)
  (x0 : Vec Ideal S1x256x2048 .f32) (x1 : Vec Ideal S16x2048 .f32) (x2 x3 : Vec Ideal S1x2048 .f32)

/-- A later point of a sequence leaves its rows' norm, -/
theorem outB4_eq (h0 h1) : out0_B_4 (F := Ideal) c i arg2 harg2 arg3 harg3 arg4 harg4 arg5 harg5 arg6 harg6 arg7 harg7 h0 h1 x0 x1 x2 x3 = k0_pay5 x0 x2 x3 := by
  frame_out
theorem outB5_eq (h0 h1) : out0_B_5 (F := Ideal) c i arg2 harg2 arg3 harg3 arg4 harg4 arg5 harg5 arg6 harg6 arg7 harg7 h0 h1 x0 x1 x2 x3 = k0_pay6 x0 x2 x3 := by
  frame_out

/-- and its first point the learned tokens' norm in its last rows, over the zeros it stores first. -/
theorem outA4_eq (h0 h1) : out0_A_4 (F := Ideal) c i arg2 harg2 arg3 harg3 arg4 harg4 arg5 harg5 arg6 harg6 arg7 harg7 h0 h1 x0 x1 x2 x3
    = View.canon (Val := Elt Ideal) [⟨Rect.unit ![240, 0] ![16, 2048] inb_S256x2048_S16x2048_240_0, k0_pay3 (F := Ideal) x1 x2 x3⟩, ⟨Rect.unit ![0, 0] ![256, 2048] inb_S256x2048_S256x2048_0_0, k0_pay1 (F := Ideal)⟩] := by
  frame_out
theorem outA5_eq (h0 h1) : out0_A_5 (F := Ideal) c i arg2 harg2 arg3 harg3 arg4 harg4 arg5 harg5 arg6 harg6 arg7 harg7 h0 h1 x0 x1 x2 x3
    = View.canon (Val := Elt Ideal) [⟨Rect.unit ![240, 0] ![16, 2048] inb_S256x2048_S16x2048_240_0, k0_pay4 (F := Ideal) x1 x2 x3⟩, ⟨Rect.unit ![0, 0] ![256, 2048] inb_S256x2048_S256x2048_0_0, k0_pay2 (F := Ideal)⟩] := by
  frame_out
end

theorem last_rows (r : Fin 256) (n : Fin 2048) (h : 240 ≤ r.val) :
    (Rect.unit (s := S256x2048) ![240, 0] ![16, 2048] inb_S256x2048_S16x2048_240_0).emb (ix2 ⟨r.val - 240, by omega⟩ n) = ix2 r n := by
  funext a
  apply Fin.ext
  match a with
  | ⟨0, _⟩ => show 240 + 1 * (r.val - 240) = r.val; omega
  | ⟨1, _⟩ => show 0 + 1 * n.val = n.val; omega

theorem first_rows (r : Fin 256) (n : Fin 2048) (h : ¬ 240 ≤ r.val) :
    (ix2 r n : S256x2048.Idx) ∉ (Rect.unit (s := S256x2048) ![240, 0] ![16, 2048] inb_S256x2048_S16x2048_240_0).set := by
  intro hm
  exact h (Rect.mem_set_unit.mp hm 0).1

/-- One entry of the first point's block. -/
theorem low_at {e : EltTy} (p : S16x2048.Idx → Elt Ideal e) (z : S256x2048.Idx → Elt Ideal e) (r : Fin 256) (n : Fin 2048) :
    View.canon (Val := Elt Ideal) [⟨Rect.unit ![240, 0] ![16, 2048] inb_S256x2048_S16x2048_240_0, p⟩, ⟨Rect.unit ![0, 0] ![256, 2048] inb_S256x2048_S256x2048_0_0, z⟩] (ix2 r n : S256x2048.Idx)
      = if h : 240 ≤ r.val then p (ix2 ⟨r.val - 240, by omega⟩ n) else z (ix2 r n) := by
  by_cases h : 240 ≤ r.val
  · rw [dif_pos h]
    have e := View.canon_cons_emb (Val := Elt Ideal) (Rect.unit (s := S256x2048) ![240, 0] ![16, 2048] inb_S256x2048_S16x2048_240_0) p [⟨Rect.unit ![0, 0] ![256, 2048] inb_S256x2048_S256x2048_0_0, z⟩] (ix2 ⟨r.val - 240, by omega⟩ n)
    rw [last_rows r n h] at e
    exact e
  · rw [dif_neg h]
    refine (View.canon_cons_of_not_mem (Val := Elt Ideal) ⟨Rect.unit (s := S256x2048) ![240, 0] ![16, 2048] inb_S256x2048_S16x2048_240_0, p⟩ [⟨Rect.unit ![0, 0] ![256, 2048] inb_S256x2048_S256x2048_0_0, z⟩] (first_rows r n h)).trans ?_
    generalize hi : (ix2 r n : S256x2048.Idx) = i
    canon_tiles y hy
    refine congrArg z ?_
    rw [eq_ix2 y, eq_ix2 i]
    congr 1 <;> exact Fin.ext (by omega)

/-- The result both arrays hold. -/
abbrev result (c : Dev nD) : FVec Ideal S17408x2048 .f32 :=
  padded (normed (joined (m ((c : Thread nD τ).loc main_arg0)) (m ((c : Thread nD τ).loc main_arg1))) (m ((c : Thread nD τ).loc main_arg2)) (m ((c : Thread nD τ).loc main_arg3)))

/-- A later point's row, and the first point's, is the result's. -/
theorem later (c : Dev nD) (t : Fin cfg0.N) (h1 : 1 ≤ t.val % 17) (r : Fin 256) (n : Fin 2048) :
    rowNorm (fun j => iblk m c 0 t (ix3 0 r j)) (fun j => iblk m c 2 t (ix2 0 j)) (fun j => iblk m c 3 t (ix2 0 j)) n
      = result m c (ix2 ⟨t.val * 256 + r, by have := (idx t).2.2.2.2.2.2; omega⟩ n) := by
  have ht := (idx t).2.2.2.2.2.2
  have hr := r.isLt
  refine Eq.trans ?_ (padded_at _ _ n).symm
  rw [dif_pos (by show 240 ≤ (t.val * 256 + r.val) % 4352; omega)]
  refine Eq.trans ?_ (normed_at _ _ _ _ _ n).symm
  refine parts rfl (fun j => (rows_at m c t r j).trans (Eq.trans ?_ (joined_at _ _ _ _ j).symm)) (scale_at m c t) (shift_at m c t)
  rw [dif_neg (by show ¬ (t.val * 256 + r.val) % 4352 - 240 < 16; omega)]
  refine congrArg _ ?_
  congr 1
  · exact Fin.ext (by show t.val / 17 = (t.val * 256 + r.val) / 4352; omega)
  · exact Fin.ext (by show (t.val % 17 - 1) * 256 + r.val = (t.val * 256 + r.val) % 4352 - 240 - 16; omega)

theorem start (c : Dev nD) (t : Fin cfg0.N) (h0 : t.val % 17 = 0) (r : Fin 256) (n : Fin 2048) :
    (if h : 240 ≤ r.val then rowNorm (fun j => iblk m c 1 t (ix2 ⟨r.val - 240, by omega⟩ j)) (fun j => iblk m c 2 t (ix2 0 j)) (fun j => iblk m c 3 t (ix2 0 j)) n else 0)
      = result m c (ix2 ⟨t.val * 256 + r, by have := (idx t).2.2.2.2.2.2; omega⟩ n) := by
  have ht := (idx t).2.2.2.2.2.2
  have hr := r.isLt
  refine Eq.trans ?_ (padded_at _ _ n).symm
  by_cases h : 240 ≤ r.val
  · rw [dif_pos h, dif_pos (by show 240 ≤ (t.val * 256 + r.val) % 4352; omega)]
    refine Eq.trans ?_ (normed_at _ _ _ _ _ n).symm
    refine parts rfl (fun j => (learned_at m c t _ j).trans (Eq.trans ?_ (joined_at _ _ _ _ j).symm)) (scale_at m c t) (shift_at m c t)
    rw [dif_pos (by show (t.val * 256 + r.val) % 4352 - 240 < 16; omega)]
    refine congrArg _ ?_
    congr 1
    exact Fin.ext (by show r.val - 240 = (t.val * 256 + r.val) % 4352 - 240; omega)
  · rw [dif_neg h, dif_neg (by show ¬ 240 ≤ (t.val * 256 + r.val) % 4352; omega)]

/-- One entry of what a grid point stores in each result. -/
theorem point4 (c : Dev nD) (t : Fin cfg0.N) (y : S256x2048.Idx) :
    (outsAt0 m c t.val t.isLt).1 y = result m c (((cfg0.win 4).blk t).view.emb y) := by
  obtain ⟨r, n, rfl⟩ : ∃ (r : Fin 256) (n : Fin 2048), y = ix2 r n := ⟨y 0, y 1, eq_ix2 y⟩
  have he : ((cfg0.win 4).blk t).view.emb (ix2 r n) = ix2 ⟨t.val * 256 + r, by have := (idx t).2.2.2.2.2.2; omega⟩ n := by
    blk_ext [idx t]
  rw [he]
  by_cases h0 : t.val % 17 = 0
  · rw [outsAt0_A m c t h0 (by omega), ← start m c t h0 r n]
    dsimp only
    rw [outA4_eq, low_at]
    by_cases h : 240 ≤ r.val
    · rw [dif_pos h, dif_pos h]
      exact pay3_at _ _ _ _ n
    · rw [dif_neg h, dif_neg h]
      exact Ideal.ofBits_zero_f32
  · rw [outsAt0_B m c t h0 (by omega), ← later m c t (by omega) r n]
    dsimp only
    rw [outB4_eq]
    exact pay5_at _ _ _ r n

theorem point5 (c : Dev nD) (t : Fin cfg0.N) (y : S256x2048.Idx) :
    (outsAt0 m c t.val t.isLt).2 y = (truncf .bf16 (result m c) bitsLt_bf16_f32 : FVec Ideal S17408x2048 .bf16) (((cfg0.win 5).blk t).view.emb y) := by
  obtain ⟨r, n, rfl⟩ : ∃ (r : Fin 256) (n : Fin 2048), y = ix2 r n := ⟨y 0, y 1, eq_ix2 y⟩
  have he : ((cfg0.win 5).blk t).view.emb (ix2 r n) = ix2 ⟨t.val * 256 + r, by have := (idx t).2.2.2.2.2.2; omega⟩ n := by
    blk_ext [idx t]
  rw [he]
  show _ = result m c _
  by_cases h0 : t.val % 17 = 0
  · rw [outsAt0_A m c t h0 (by omega), ← start m c t h0 r n]
    dsimp only
    rw [outA5_eq, low_at]
    by_cases h : 240 ≤ r.val
    · rw [dif_pos h, dif_pos h]
      exact pay4_at _ _ _ _ n
    · rw [dif_neg h, dif_neg h]
      exact Ideal.ofBits_zero_bf16
  · rw [outsAt0_B m c t h0 (by omega), ← later m c t (by omega) r n]
    dsimp only
    rw [outB5_eq]
    exact pay6_at _ _ _ r n

/-- The results after the run. -/
theorem final4 (c : Dev nD) : (dats m 0 c).arrAt 4 (cfgs 0).N = result m c := by
  refine (dats m 0 c).arrAt_eq_of_covers 4 _ (by decide +kernel) fun t _ y => ?_
  blk_simp
  rw [after0_4]
  exact point4 m c t y
theorem final5 (c : Dev nD) : (dats m 0 c).arrAt 5 (cfgs 0).N = (truncf .bf16 (result m c) bitsLt_bf16_f32 : FVec Ideal S17408x2048 .bf16) := by
  refine (dats m 0 c).arrAt_eq_of_covers 5 _ (by decide +kernel) fun t _ y => ?_
  blk_simp
  rw [after0_5]
  exact point5 m c t y

/-- Kernel and reference end with equal results. -/
theorem algebraic : algebraic_Kernel10Ideal_Reference10Ideal := by
  intro m g m' g' _ hagree
  refine ⟨_, _, (θ_run _ _ _).mono (fun r h c => ⟨(h c).1.trans (final4 m c), (h c).2.1.trans (final5 m c), (h c).2.2⟩) (run_blocks m g), ?_⟩
  refine (θ_run _ _ _).mono (fun r h c => ⟨(h c).1.trans ?_, (h c).2.1.trans ?_, (h c).2.2⟩) (Cert.Reference10Ideal.Value.run m' g')
  · obtain ⟨h0, h1, h2, h3⟩ := hagree c
    rw [h0, h1, h2, h3]
    rfl
  · obtain ⟨h0, h1, h2, h3⟩ := hagree c
    unfold Cert.Reference10Ideal.Value.res_main_v29
    rw [h0, h1, h2, h3]
    rfl

end Cert.Kernel10Ideal.FirstNorm
-- ==== Proof.Dt.lean ====
/-
  The step sizes and their running sums: what the tiled kernel leaves in its two results is the softplus of the
  projected rows, and within every chunk the running sum of their products with the rates.
-/
module

public import proofs.«01_k».proof.Defs
public import proofs.«01_k».proof.Proof.Gen.Kernel11Ideal.Value
public import proofs.«01_k».proof.Proof.Gen.Reference11Ideal.Run
public import proofs.«01_k».proof.Proof.RowNorm
public import Idealize.ShloMosaic.Lib.Pipeline.ValueKit
public import Idealize.ShloMosaic.Lib.StableHlo.RunRead
public import Idealize.ShloMosaic.Lib.Quiescent

@[expose] public section

set_option maxRecDepth 16384

noncomputable section

namespace Cert.Reference11Ideal.Dt

open Idealize.ShloMosaic Idealize.ShloMosaic.TcCoe Idealize.SL.Sem
open Cert.Reference11Ideal Cert.Reference11Ideal.Gen

/-- The 64 lanes in use, and zero in the others. -/
def lane (f : Fin 64 → EReal) (n : Fin 128) : EReal := if h : n.val < 64 then f ⟨n.val, h⟩ else 0

/-- The softplus. -/
def softplus (x : EReal) : EReal := max x 0 + Ideal.log1p (Ideal.exp (-(max x (-x))))

/-- The matrix's last 64 columns, -/
def weights (w : FVec Ideal S2048x20544 .f32) : FVec Ideal S2048x128 .f32 :=
  pad S2048x128 ![0, 0] ![0, 64] ![0, 0] (extractStridedSlice S2048x64 ![0, 16384] w slices_S2048x20544_S2048x64_0_16384) (sitofp .f32 (constantI S_ 32 0#32)) pads_S2048x64_S2048x128_000_0640 h_S_

/-- a vector over the lanes, -/
def lanes (b : FVec Ideal S64 .f32) : FVec Ideal S128 .f32 :=
  pad S128 ![0] ![64] ![0] b (sitofp .f32 (constantI S_ 32 0#32)) pads_S64_S128_0640 h_S_

/-- a vector on every row, -/
def spread (b : FVec Ideal S128 .f32) : FVec Ideal S17408x128 .f32 :=
  broadcastInDim S17408x128 ![0, 1] bcast_S1x128_S17408x128_0_1 (broadcastInDim S1x128 ![1] bcast_S128_S1x128_1 b)

/-- the projected rows, -/
def rows (x : FVec Ideal S17408x2048 .bf16) (w : FVec Ideal S2048x20544 .f32) (b : FVec Ideal S64 .f32) : FVec Ideal S17408x128 .f32 :=
  addf (Host.dotGeneral dot_S17408x2048_S2048x128_S17408x128_1_0_0_1_n_n none (extf .f32 x bitsLt_bf16_f32) (weights w)) (spread (lanes b))

def zeros : FVec Ideal S17408x128 .f32 := broadcastInDim S17408x128 ![] bcast_S_S17408x128 (constant S_ .f32 0x00000000#32)

/-- the step sizes, -/
def soft (x : FVec Ideal S17408x128 .f32) : FVec Ideal S17408x128 .f32 :=
  select (cmpf .une (subf x zeros) (subf x zeros)) (addf x zeros) (addf (maximumf x zeros) (Host.log1p (Host.exp (Host.negf (Host.absf (subf x zeros))))))

/-- their products with the rates on the rows of tokens, chunk by chunk, -/
def chunks (d : FVec Ideal S17408x128 .f32) : FVec Ideal S68x256x128 .f32 :=
  shapeCast _ (pad S4x4352x128 ![0, 240, 0] ![0, 0, 0] ![0, 0, 0] (extractStridedSlice S4x4112x128 ![0, 240, 0] (shapeCast _ d shapeCasts_S17408x128_S4x4352x128) slices_S4x4352x128_S4x4112x128_0_240_0) (sitofp .f32 (constantI S_ 32 0#32)) pads_S4x4112x128_S4x4352x128_000_24000_000 h_S_) shapeCasts_S4x4352x128_S68x256x128

/-- and the running sums within the chunks. -/
def sums (x : FVec Ideal S68x256x128 .f32) : FVec Ideal S68x256x128 .f32 :=
  Host.reduceWindowAdd ![1, 256, 1] ![1, 1, 1] ![0, 255, 0] ![0, 0, 0] x (broadcastInDim S_ ![] bcast_S_S_ (constant S_ .f32 0x00000000#32)) reduceWindows_S68x256x128_S68x256x128_w1s1p0_0_w256s1p255_0_w1s1p0_0 h_S_

def rates (a : FVec Ideal S64 .f32) : FVec Ideal S17408x128 .f32 := spread (Host.negf (Host.exp (lanes a)))

def running (d : FVec Ideal S17408x128 .f32) (a : FVec Ideal S64 .f32) : FVec Ideal S17408x128 .f32 :=
  shapeCast _ (sums (chunks (mulf d (rates a)))) shapeCasts_S68x256x128_S17408x128

theorem res_eq (m : (ℓ : Loc nD τ sig) → Buf (Elt Ideal) ℓ) (c : Dev nD) : Value.res_main_v20 m c
    = running (soft (rows (m ((c.tc : Thread nD τ).loc main_arg0)) (m ((c.tc : Thread nD τ).loc main_arg1)) (m ((c.tc : Thread nD τ).loc main_arg2)))) (m ((c.tc : Thread nD τ).loc main_arg3)) := rfl

/-- The reference terminates with its arguments unchanged and every semaphore at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run _ _ _).mono (fun r h => ⟨fun c => (h c).2.2, Idealize.ShloMosaic.sem_eq_zero_of_no_sems (by decide) r.2⟩) (Value.run m ρ)

theorem zero_word : (FloatOps.sitofp (F := Ideal) .f32 (0#32 : BitVec 32)) = (0 : EReal) := by
  show ((((0#32 : BitVec 32).toInt : ℝ) : EReal)) = 0
  simp

theorem weights_at (w : FVec Ideal S2048x20544 .f32) (k : Fin 2048) (n : Fin 128) : weights w (ix2 k n) = lane (fun j => w (ix2 k ⟨16384 + j.val, by omega⟩)) n := by
  unfold lane
  pointwise [weights]
  rw [zero_word]
theorem lanes_at (b : FVec Ideal S64 .f32) (n : Fin 128) : lanes b (ix1 n) = lane (fun j => b (ix1 j)) n := by
  unfold lane
  pointwise [lanes]
  rw [zero_word]
theorem rows_at (x : FVec Ideal S17408x2048 .bf16) (w : FVec Ideal S2048x20544 .f32) (b : FVec Ideal S64 .f32) (R : Fin 17408) (n : Fin 128) :
    rows x w b (ix2 R n) = (∑ k : Fin 2048, x (ix2 R k) * lane (fun j => w (ix2 k ⟨16384 + j.val, by omega⟩)) n) + lane (fun j => b (ix1 j)) n := by
  simp only [← weights_at, ← lanes_at]
  pointwise [rows, spread]
theorem soft_at (x : FVec Ideal S17408x128 .f32) (R : Fin 17408) (n : Fin 128) : soft x (ix2 R n) = softplus (x (ix2 R n)) := by
  pointwise [soft, zeros]
  rw [if_neg (by simp)]
  rfl
theorem rates_at (a : FVec Ideal S64 .f32) (R : Fin 17408) (n : Fin 128) : rates a (ix2 R n) = -(Ideal.exp (lane (fun j => a (ix1 j)) n)) := by
  rw [← lanes_at]
  pointwise [rates, spread]

theorem chunks_at (d : FVec Ideal S17408x128 .f32) (t : Fin 68) (r : Fin 256) (n : Fin 128) :
    chunks d (ix3 t r n) = if (t.val * 256 + r.val) % 4352 < 240 then 0 else d (ix2 ⟨t.val * 256 + r.val, by omega⟩ n) := by
  pointwise [chunks]
  have ht := t.isLt
  have hr := r.isLt
  by_cases hq : (t.val * 256 + r.val) % 4352 < 240
  · simp only [if_pos hq, dif_neg (show ¬ (t.val / 17 < 4 ∧ 240 ≤ t.val % 17 * 256 + r.val ∧ t.val % 17 * 256 + r.val - 240 < 4112) by omega)]
    exact zero_word
  · simp only [if_neg hq, dif_pos (show t.val / 17 < 4 ∧ 240 ≤ t.val % 17 * 256 + r.val ∧ t.val % 17 * 256 + r.val - 240 < 4112 by omega)]
    exact congrArg (fun q => d (ix2 q n)) (Fin.ext (by show t.val / 17 * 4352 + (240 + (t.val % 17 * 256 + r.val - 240)) = t.val * 256 + r.val; omega))

/-- A sum taken in order is the sum. -/
theorem folded {n : ℕ} (f : Fin n → EReal) (v : EReal) : (List.finRange n).foldl (fun r i => r + f i) v = v + ∑ i, f i := by
  have h : ∀ (l : List (Fin n)) (v : EReal), l.foldl (fun r i => r + f i) v = v + (l.map f).sum := by
    intro l
    induction l with
    | nil => intro v; simp
    | cons i l ih => intro v; simp [ih, add_assoc]
  rw [h, Fin.sum_univ_def]

/-- A window of one column's 256 rows. -/
abbrev Window : Shape := ⟨3, ![1, 256, 1]⟩

/-- The window's positions, by the row they read. -/
def place (r : Fin 256) : Fin 256 ≃ Window.Idx where
  toFun k := (ix3 (0 : Fin 1) (k + ⟨255 - r.val, by omega⟩ : Fin 256) (0 : Fin 1) : Window.Idx)
  invFun i := (show Fin 256 from i 1) - ⟨255 - r.val, by omega⟩
  left_inv k := by
    show k + _ - _ = k
    simp
  right_inv i := by
    funext a
    match a with
    | ⟨0, _⟩ => exact Subsingleton.elim (α := Fin 1) _ _
    | ⟨1, _⟩ => exact sub_add_cancel (show Fin 256 from i 1) _
    | ⟨2, _⟩ => exact Subsingleton.elim (α := Fin 1) _ _

/-- The entry a window's position reads. -/
def entry (x : FVec Ideal S68x256x128 .f32) (t : Fin 68) (r : Fin 256) (n : Fin 128) (v : EReal) (i : Window.Idx) : EReal :=
  let p : Fin 3 → ℕ := fun a => ((ix3 t r n : S68x256x128.Idx) a).val * (![1, 1, 1] : Fin 3 → ℕ) a + (i a).val
  if hin : ∀ a : Fin 3, (![0, 255, 0] : Fin 3 → ℕ) a ≤ p a ∧ p a - (![0, 255, 0] : Fin 3 → ℕ) a < S68x256x128.size a then x (fun a => ⟨p a - (![0, 255, 0] : Fin 3 → ℕ) a, (hin a).2⟩) else v

theorem entry_at (x : FVec Ideal S68x256x128 .f32) (t : Fin 68) (r : Fin 256) (n : Fin 128) (v : EReal) (k : Fin 256) :
    entry x t r n v (place r k) = if k.val ≤ r.val then x (ix3 t k n) else v := by
  have hk := k.isLt
  have hr := r.isLt
  have hp : (k + ⟨255 - r.val, by omega⟩ : Fin 256).val = (k.val + (255 - r.val)) % 256 := Fin.val_add _ _
  unfold entry
  by_cases h : k.val ≤ r.val
  · have e : (k + ⟨255 - r.val, by omega⟩ : Fin 256).val = k.val + (255 - r.val) := by rw [hp, Nat.mod_eq_of_lt (by omega)]
    have e1 : r.val * 1 + (k + ⟨255 - r.val, by omega⟩ : Fin 256).val = 255 + k.val := by rw [e]; omega
    rw [if_pos h, dif_pos (by
      intro a
      match a with
      | ⟨0, _⟩ => exact ⟨Nat.zero_le _, by show t.val * 1 + 0 - 0 < 68; omega⟩
      | ⟨1, _⟩ => exact ⟨by show 255 ≤ r.val * 1 + (k + ⟨255 - r.val, by omega⟩ : Fin 256).val; omega, by show r.val * 1 + (k + ⟨255 - r.val, by omega⟩ : Fin 256).val - 255 < 256; omega⟩
      | ⟨2, _⟩ => exact ⟨Nat.zero_le _, by show n.val * 1 + 0 - 0 < 128; omega⟩)]
    refine congrArg x ?_
    funext a
    apply Fin.ext
    match a with
    | ⟨0, _⟩ => show t.val * 1 + 0 - 0 = t.val; omega
    | ⟨1, _⟩ => show r.val * 1 + (k + ⟨255 - r.val, by omega⟩ : Fin 256).val - 255 = k.val; omega
    | ⟨2, _⟩ => show n.val * 1 + 0 - 0 = n.val; omega
  · rw [if_neg h, dif_neg ?_]
    intro hin
    have h1 : 255 ≤ r.val * 1 + (k + ⟨255 - r.val, by omega⟩ : Fin 256).val := (hin 1).1
    rw [hp, show k.val + (255 - r.val) = (k.val - r.val - 1) + 256 by omega, Nat.add_mod_right, Nat.mod_eq_of_lt (by omega)] at h1
    omega

/-- One entry of the running sums. -/
theorem sums_at (x : FVec Ideal S68x256x128 .f32) (t : Fin 68) (r : Fin 256) (n : Fin 128) :
    sums x (ix3 t r n) = ∑ k : Fin 256, if k.val ≤ r.val then x (ix3 t k n) else 0 := by
  have h : sums x (ix3 t r n) = (List.finRange Window.numel).foldl (fun q i => q + entry x t r n (Ideal.ofBits .f32 0x00000000#32) (Window.rowMajor.symm i)) (Ideal.ofBits .f32 0x00000000#32) := by
    unfold sums Host.reduceWindowAdd
    simp only [Ideal.hostReduceWindowAdd_def]
    unfold Ideal.hostReduceWindowAdd Host.reduceWindow
    have hv : broadcastInDim S_ ![] bcast_S_S_ (constant (F := Ideal) S_ .f32 0x00000000#32) (Shape.Idx.first h_S_) = Ideal.ofBits .f32 0x00000000#32 := rfl
    simp only [hv]
    unfold entry
    rfl
  rw [h, folded, Ideal.ofBits_zero_f32, zero_add, Equiv.sum_comp Window.rowMajor.symm (entry x t r n 0), ← Equiv.sum_comp (place r)]
  exact Finset.sum_congr rfl fun k _ => entry_at x t r n 0 k

/-- One entry of the reference's second result. -/
theorem running_at (d : FVec Ideal S17408x128 .f32) (a : FVec Ideal S64 .f32) (t : Fin 68) (r : Fin 256) (n : Fin 128) :
    running d a (ix2 ⟨t.val * 256 + r.val, by omega⟩ n) = ∑ k : Fin 256, if k.val ≤ r.val then
      (if (t.val * 256 + k.val) % 4352 < 240 then 0 else d (ix2 ⟨t.val * 256 + k.val, by omega⟩ n) * -(Ideal.exp (lane (fun j => a (ix1 j)) n))) else 0 := by
  have e : running d a (ix2 ⟨t.val * 256 + r.val, by omega⟩ n) = sums (chunks (mulf d (rates a))) (ix3 t r n) := by
    pointwise [running]
  rw [e, sums_at]
  refine Finset.sum_congr rfl fun k _ => ?_
  rw [chunks_at, ← rates_at]
  rfl

end Cert.Reference11Ideal.Dt

namespace Cert.Kernel11Ideal.Dt

open Idealize.ShloMosaic Idealize.ShloMosaic.TcCoe Idealize.SL.Sem
open Idealize.ShloMosaic.Pipeline (Dat)
open Cert.Kernel11Ideal Cert.Kernel11Ideal.Gen Cert.Kernel11Ideal.Value
open Cert.Reference11Ideal.Dt (lane softplus rows soft rates running rows_at soft_at running_at zero_word)
open Cert.RowNorm (factors)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ t.val < 68 :=
  (by decide +kernel : ∀ t : Fin grid0.N, _)

/-- The matrix and the two vectors the region finds. -/
theorem V_weights (c : Dev nD) : V m c main_v6 = (truncf .bf16 (select (broadcastInDim S2048x128 ![0, 1] bcast_S1x128_S2048x128_0_1
      (cmpi .slt (broadcastInDim S1x128 ![1] bcast_S128_S1x128_1 (iotaInDim S128 32 0)) (broadcastInDim S1x128 ![] bcast_S_S1x128 (constantI S_ 32 64#32))))
    (extractStridedSlice S2048x128 ![0, 16384] (m ((c : Thread nD τ).loc main_arg1) : FVec Ideal S2048x20544 .f32) slices_S2048x20544_S2048x128_0_16384)
    (broadcastInDim S2048x128 ![] bcast_S_S2048x128 (constant S_ .f32 0x00000000#32))) bitsLt_bf16_f32 : FVec Ideal S2048x128 .bf16) := by
  unfold V; simp only [hostOps0, hostOps0_1, hostOps0_2, hostOps0_3, hostOps0_4, hostOps0_5, List.flatten_cons, List.flatten_nil, List.append_nil, List.cons_append, List.nil_append,
    StableHlo.TRef.unary, StableHlo.TRef.binary, StableHlo.TRef.ternary, StableHlo.TRef.toBuf, StableHlo.TRef.ofBuf, cast_eq]
  after_results_simp <;> rfl
theorem V_bias (c : Dev nD) : V m c main_v8 = (pad S1x128 ![0, 0] ![0, 64] ![0, 0] (broadcastInDim S1x64 ![1] bcast_S64_S1x64_1 (m ((c : Thread nD τ).loc main_arg2) : FVec Ideal S64 .f32))
    (sitofp .f32 (constantI S_ 32 0#32)) pads_S1x64_S1x128_000_0640 h_S_ : FVec Ideal S1x128 .f32) := by
  unfold V; simp only [hostOps0, hostOps0_1, hostOps0_2, hostOps0_3, hostOps0_4, hostOps0_5, List.flatten_cons, List.flatten_nil, List.append_nil, List.cons_append, List.nil_append,
    StableHlo.TRef.unary, StableHlo.TRef.binary, StableHlo.TRef.ternary, StableHlo.TRef.toBuf, StableHlo.TRef.ofBuf, cast_eq]
  after_results_simp <;> rfl
theorem V_log (c : Dev nD) : V m c main_v10 = (pad S1x128 ![0, 0] ![0, 64] ![0, 0] (broadcastInDim S1x64 ![1] bcast_S64_S1x64_1 (m ((c : Thread nD τ).loc main_arg3) : FVec Ideal S64 .f32))
    (sitofp .f32 (constantI S_ 32 0#32)) pads_S1x64_S1x128_000_0640 h_S_ : FVec Ideal S1x128 .f32) := by
  unfold V; simp only [hostOps0, hostOps0_1, hostOps0_2, hostOps0_3, hostOps0_4, hostOps0_5, List.flatten_cons, List.flatten_nil, List.append_nil, List.cons_append, List.nil_append,
    StableHlo.TRef.unary, StableHlo.TRef.binary, StableHlo.TRef.ternary, StableHlo.TRef.toBuf, StableHlo.TRef.ofBuf, cast_eq]
  after_results_simp <;> rfl

theorem used : ∀ n : Fin 128, IntOp.cmpi CmpIPredicate.slt (BitVec.ofNat 32 n.val) 64#32 = if n.val < 64 then 1#1 else 0#1 := by decide +kernel

/-- The blocks a grid point reads, entry by entry. -/
theorem x_at (c : Dev nD) (t : Fin cfg0.N) (r : Fin 256) (k : Fin 2048) :
    iblk m c 0 t (ix2 r k) = m ((c : Thread nD τ).loc main_arg0) (ix2 ⟨t.val * 256 + r, by have := (idx t).2.2.2.2.2.2; omega⟩ k) := by
  blk_ext [iblk, V, idx t]
theorem matrix_at (w : FVec Ideal S2048x20544 .f32) (k : Fin 2048) (n : Fin 128) :
    (truncf .bf16 (select (broadcastInDim S2048x128 ![0, 1] bcast_S1x128_S2048x128_0_1
        (cmpi .slt (broadcastInDim S1x128 ![1] bcast_S128_S1x128_1 (iotaInDim S128 32 0)) (broadcastInDim S1x128 ![] bcast_S_S1x128 (constantI S_ 32 64#32))))
      (extractStridedSlice S2048x128 ![0, 16384] w slices_S2048x20544_S2048x128_0_16384)
      (broadcastInDim S2048x128 ![] bcast_S_S2048x128 (constant S_ .f32 0x00000000#32))) bitsLt_bf16_f32 : FVec Ideal S2048x128 .bf16) (ix2 k n)
      = lane (fun j => w (ix2 k ⟨16384 + j.val, by omega⟩)) n := by
  unfold lane
  pointwise
  rw [used n]
  by_cases h : n.val < 64
  · rw [if_pos h, dif_pos h]
    rfl
  · rw [if_neg h, dif_neg h]
    rfl
theorem vector_at (b : FVec Ideal S64 .f32) (n : Fin 128) :
    (pad S1x128 ![0, 0] ![0, 64] ![0, 0] (broadcastInDim S1x64 ![1] bcast_S64_S1x64_1 b) (sitofp .f32 (constantI S_ 32 0#32)) pads_S1x64_S1x128_000_0640 h_S_ : FVec Ideal S1x128 .f32) (ix2 0 n)
      = lane (fun j => b (ix1 j)) n := by
  unfold lane
  pointwise
  rw [zero_word]
theorem weights_at (c : Dev nD) (t : Fin cfg0.N) (k : Fin 2048) (n : Fin 128) :
    iblk m c 1 t (ix2 k n) = lane (fun j => m ((c : Thread nD τ).loc main_arg1) (ix2 k ⟨16384 + j.val, by omega⟩)) n := by
  have he : ((cfg0.win 1).blk t).view.emb (ix2 k n) = ix2 k n := by blk_ext [idx t]
  show V m c main_v6 (((cfg0.win 1).blk t).view.emb (ix2 k n)) = _
  rw [he, V_weights]
  exact matrix_at _ k n
theorem bias_at (c : Dev nD) (t : Fin cfg0.N) (n : Fin 128) :
    iblk m c 2 t (ix2 0 n) = lane (fun j => m ((c : Thread nD τ).loc main_arg2) (ix1 j)) n := by
  have he : ((cfg0.win 2).blk t).view.emb (ix2 0 n) = ix2 0 n := by blk_ext [idx t]
  show V m c main_v8 (((cfg0.win 2).blk t).view.emb (ix2 0 n)) = _
  rw [he, V_bias]
  exact vector_at _ n
theorem log_at (c : Dev nD) (t : Fin cfg0.N) (n : Fin 128) :
    iblk m c 3 t (ix2 0 n) = lane (fun j => m ((c : Thread nD τ).loc main_arg3) (ix1 j)) n := by
  have he : ((cfg0.win 3).blk t).view.emb (ix2 0 n) = ix2 0 n := by blk_ext [idx t]
  show V m c main_v10 (((cfg0.win 3).blk t).view.emb (ix2 0 n)) = _
  rw [he, V_log]
  exact vector_at _ n

/-- One entry of the step sizes' block, and of the rates. -/
theorem pay2_at (x : Vec Ideal S256x2048 .bf16) (w : Vec Ideal S2048x128 .bf16) (b : Vec Ideal S1x128 .f32) (r : Fin 256) (n : Fin 128) :
    k0_pay2 x w b (ix2 r n) = softplus ((∑ k : Fin 2048, x (ix2 r k) * w (ix2 k n)) + b (ix2 0 n)) := by
  unfold k0_pay2
  pointwise
  rw [zero_sub]
  rfl
theorem pay3_at (a : Vec Ideal S1x128 .f32) (n : Fin 128) : k0_pay3 a (ix2 0 n) = -(Ideal.exp (a (ix2 0 n))) := by
  unfold k0_pay3
  pointwise
  exact zero_sub _

/-- The triangle's words. -/
theorem tri : ∀ r k : Fin 256, IntOp.cmpi CmpIPredicate.sge (BitVec.ofNat 32 r.val) (BitVec.ofNat 32 k.val) = if k.val ≤ r.val then 1#1 else 0#1 := by decide +kernel

theorem low : ∀ r : Fin 256, IntOp.cmpi CmpIPredicate.sge (BitVec.ofNat 32 r.val) 0#32 = 1#1 := by decide +kernel
theorem high : ∀ r : Fin 256, IntOp.cmpi CmpIPredicate.slt (BitVec.ofNat 32 r.val) 256#32 = 1#1 := by decide +kernel

theorem ones (v : EReal) : (FloatOps.sitofp (F := Ideal) .f32 (BitVec.setWidth 32 (IntOp.andi (1#1) (IntOp.andi (IntOp.andi (1#1) (1#1)) (1#1))))) * v = v := by
  have h : (FloatOps.sitofp (F := Ideal) .f32 (BitVec.setWidth 32 (IntOp.andi (1#1) (IntOp.andi (IntOp.andi (1#1) (1#1)) (1#1))))) = (1 : EReal) := by
    show ((((BitVec.setWidth 32 (IntOp.andi (1#1) (IntOp.andi (IntOp.andi (1#1) (1#1)) (1#1)))).toInt : ℝ) : EReal)) = 1
    rw [show (BitVec.setWidth 32 (IntOp.andi (1#1) (IntOp.andi (IntOp.andi (1#1) (1#1)) (1#1)))).toInt = 1 by decide]
    simp
  rw [h, one_mul]
theorem none (v : EReal) : (FloatOps.sitofp (F := Ideal) .f32 (BitVec.setWidth 32 (IntOp.andi (0#1) (IntOp.andi (IntOp.andi (1#1) (1#1)) (1#1))))) * v = 0 := by
  have h : (FloatOps.sitofp (F := Ideal) .f32 (BitVec.setWidth 32 (IntOp.andi (0#1) (IntOp.andi (IntOp.andi (1#1) (1#1)) (1#1))))) = (0 : EReal) := by
    show ((((BitVec.setWidth 32 (IntOp.andi (0#1) (IntOp.andi (IntOp.andi (1#1) (1#1)) (1#1)))).toInt : ℝ) : EReal)) = 0
    rw [show (BitVec.setWidth 32 (IntOp.andi (0#1) (IntOp.andi (IntOp.andi (1#1) (1#1)) (1#1)))).toInt = 0 by decide]
    simp
  rw [h, zero_mul]

theorem both (w : BitVec 1) : Scalar.select w (0 : EReal) 0 = 0 := by
  unfold Scalar.select
  split <;> rfl

/-- One entry of the product with the triangle. -/
theorem pay1_at (d : FVec Ideal S256x128 .f32) (a : FVec Ideal S1x128 .f32) (s : BitVec 32) (r : Fin 256) (n : Fin 128) :
    k0_pay1 d a (iota .tc S256x1 32 [0] iota_S256x1_d0_w32) s (ix2 r n) = ∑ k : Fin 256, if k.val ≤ r.val then
      Scalar.select (IntOp.ori (IntOp.cmpi CmpIPredicate.slt (BitVec.ofNat 32 k.val) 0#32) (IntOp.cmpi CmpIPredicate.sge (BitVec.ofNat 32 k.val) s)) (d (ix2 k n) * a (ix2 0 n)) 0 else 0 := by
  unfold k0_pay1
  pointwise
  refine Finset.sum_congr rfl fun k _ => ?_
  rw [tri r k, low r, high r, low k]
  by_cases h : k.val ≤ r.val
  · rw [if_pos h, if_pos h, ones]
  · rw [if_neg h, if_neg h, none]
    exact both _

/-- The first row of a grid point's tile that holds a token. -/
theorem start_at : ∀ t : Fin cfg0.N, Scalar.select (Scalar.cmpi CmpIPredicate.eq (Scalar.select (Scalar.andi (Scalar.xori (Scalar.cmpi CmpIPredicate.slt (Scalar.remsi (Scalar.addi (Scalar.muli (BitVec.ofNat 32 ↑(grid0.coords t 0)) 1#32) 0#32) (Scalar.select (Scalar.cmpi CmpIPredicate.eq 17#32 0#32) 1#32 17#32)) 0#32) (Scalar.cmpi CmpIPredicate.slt (Scalar.select (Scalar.cmpi CmpIPredicate.eq 17#32 0#32) 1#32 17#32) 0#32)) (Scalar.cmpi CmpIPredicate.ne (Scalar.remsi (Scalar.addi (Scalar.muli (BitVec.ofNat 32 ↑(grid0.coords t 0)) 1#32) 0#32) (Scalar.select (Scalar.cmpi CmpIPredicate.eq 17#32 0#32) 1#32 17#32)) 0#32)) (Scalar.addi (Scalar.remsi (Scalar.addi (Scalar.muli (BitVec.ofNat 32 ↑(grid0.coords t 0)) 1#32) 0#32) (Scalar.select (Scalar.cmpi CmpIPredicate.eq 17#32 0#32) 1#32 17#32)) (Scalar.select (Scalar.cmpi CmpIPredicate.eq 17#32 0#32) 1#32 17#32)) (Scalar.remsi (Scalar.addi (Scalar.muli (BitVec.ofNat 32 ↑(grid0.coords t 0)) 1#32) 0#32) (Scalar.select (Scalar.cmpi CmpIPredicate.eq 17#32 0#32) 1#32 17#32))) 0#32) 240#32 0#32 = if t.val % 17 = 0 then 240#32 else 0#32 :=
  (by decide +kernel : ∀ t : Fin grid0.N, _)

/-- The comparisons of a row's number with it. -/
theorem past_some : ∀ r : Fin 256, IntOp.ori (IntOp.cmpi CmpIPredicate.slt (BitVec.ofNat 32 ↑r) 0#32) (IntOp.cmpi CmpIPredicate.sge (BitVec.ofNat 32 ↑r) 240#32)
    = if r.val < 240 then 0#1 else 1#1 := by decide +kernel
theorem past_none : ∀ r : Fin 256, IntOp.ori (IntOp.cmpi CmpIPredicate.slt (BitVec.ofNat 32 ↑r) 0#32) (IntOp.cmpi CmpIPredicate.sge (BitVec.ofNat 32 ↑r) 0#32)
    = 1#1 := by decide +kernel

/-- A grid point's rows of tokens are the array's. -/
theorem tokens (t : Fin cfg0.N) (k : Fin 256) (a : EReal) :
    Scalar.select (IntOp.ori (IntOp.cmpi CmpIPredicate.slt (BitVec.ofNat 32 k.val) 0#32) (IntOp.cmpi CmpIPredicate.sge (BitVec.ofNat 32 k.val) (if t.val % 17 = 0 then 240#32 else 0#32))) a 0
      = if (t.val * 256 + k.val) % 4352 < 240 then 0 else a := by
  have hk := k.isLt
  by_cases ht : t.val % 17 = 0
  · rw [if_pos ht, past_some k]
    by_cases h : k.val < 240
    · rw [if_pos h, if_pos (by omega)]
      rfl
    · rw [if_neg h, if_neg (by omega)]
      rfl
  · rw [if_neg ht, past_none k, if_neg (by omega)]
    rfl

/-- A grid point's two blocks, from the blocks it reads. -/
theorem out4_eq (p : grid0.Coords) (x : Vec Ideal S256x2048 .bf16) (w : Vec Ideal S2048x128 .bf16) (b a : Vec Ideal S1x128 .f32) :
    out0_4 (F := Ideal) p x w b a = k0_pay2 x w b := by
  unfold out0_4 k0_pay4
  refine (View.canon_cons_unit_lit (S := S256x128) _ _ _ (by decide)).trans ?_
  rw [show View.ld x r0_0 = x from View.ld_unit_lit _ _ (by decide), show View.ld w r0_1 = w from View.ld_unit_lit _ _ (by decide), show View.ld b r0_2 = b from View.ld_unit_lit _ _ (by decide)]
theorem out5_eq (t : Fin cfg0.N) (x : Vec Ideal S256x2048 .bf16) (w : Vec Ideal S2048x128 .bf16) (b a : Vec Ideal S1x128 .f32) :
    out0_5 (F := Ideal) (grid0.coords t) x w b a = k0_pay1 (k0_pay2 x w b) (k0_pay3 a) (iota .tc S256x1 32 [0] iota_S256x1_d0_w32) (if t.val % 17 = 0 then 240#32 else 0#32) := by
  unfold out0_5 k0_pay4
  refine (View.canon_cons_unit_lit (S := S256x128) _ _ _ (by decide)).trans ?_
  rw [show View.ld x r0_0 = x from View.ld_unit_lit _ _ (by decide), show View.ld w r0_1 = w from View.ld_unit_lit _ _ (by decide), show View.ld b r0_2 = b from View.ld_unit_lit _ _ (by decide),
    show View.ld a r0_2 = a from View.ld_unit_lit _ _ (by decide), start_at t]

/-- The step sizes, of the arguments. -/
abbrev steps (c : Dev nD) : FVec Ideal S17408x128 .f32 := soft (rows (m ((c : Thread nD τ).loc main_arg0)) (m ((c : Thread nD τ).loc main_arg1)) (m ((c : Thread nD τ).loc main_arg2)))

/-- One entry of a grid point's step sizes. -/
theorem step (c : Dev nD) (t : Fin cfg0.N) (r : Fin 256) (n : Fin 128) :
    k0_pay2 (iblk m c 0 t) (iblk m c 1 t) (iblk m c 2 t) (ix2 r n) = steps m c (ix2 ⟨t.val * 256 + r, by have := (idx t).2.2.2.2.2.2; omega⟩ n) := by
  refine (pay2_at _ _ _ r n).trans (Eq.trans ?_ (soft_at _ _ n).symm)
  rw [rows_at, bias_at m c t n, Finset.sum_congr rfl fun k _ => factors (x_at m c t r k) (weights_at m c t k n)]

/-- One entry of what a grid point stores in each result. -/
theorem point4 (c : Dev nD) (t : Fin cfg0.N) (y : S256x128.Idx) :
    out0_4 (grid0.coords t) (iblk m c 0 t) (iblk m c 1 t) (iblk m c 2 t) (iblk m c 3 t) y = steps m c (((cfg0.win 4).blk t).view.emb y) := by
  obtain ⟨r, n, rfl⟩ : ∃ (r : Fin 256) (n : Fin 128), y = ix2 r n := ⟨y 0, y 1, eq_ix2 y⟩
  have he : ((cfg0.win 4).blk t).view.emb (ix2 r n) = ix2 ⟨t.val * 256 + r, by have := (idx t).2.2.2.2.2.2; omega⟩ n := by
    blk_ext [idx t]
  rw [he, out4_eq]
  exact step m c t r n
theorem point5 (c : Dev nD) (t : Fin cfg0.N) (y : S256x128.Idx) :
    out0_5 (grid0.coords t) (iblk m c 0 t) (iblk m c 1 t) (iblk m c 2 t) (iblk m c 3 t) y
      = (running (steps m c) (m ((c : Thread nD τ).loc main_arg3)) : FVec Ideal S17408x128 .f32) (((cfg0.win 5).blk t).view.emb y) := by
  obtain ⟨r, n, rfl⟩ : ∃ (r : Fin 256) (n : Fin 128), y = ix2 r n := ⟨y 0, y 1, eq_ix2 y⟩
  have he : ((cfg0.win 5).blk t).view.emb (ix2 r n) = ix2 ⟨t.val * 256 + r, by have := (idx t).2.2.2.2.2.2; omega⟩ n := by
    blk_ext [idx t]
  rw [he, out5_eq]
  refine (pay1_at _ _ _ r n).trans (Eq.trans ?_ (running_at _ _ t r n).symm)
  refine Finset.sum_congr rfl fun k _ => ?_
  rw [tokens t k, step m c t k n, pay3_at, log_at m c t n]

/-- The results after the run. -/
theorem final4 (c : Dev nD) : (dats m 0 c).arrAt 4 (cfgs 0).N = steps m c := by
  refine (dats m 0 c).arrAt_eq_of_covers 4 _ (by decide +kernel) fun t _ y => ?_
  blk_simp
  rw [after0_4]
  exact point4 m c t y
theorem final5 (c : Dev nD) : (dats m 0 c).arrAt 5 (cfgs 0).N = (running (steps m c) (m ((c : Thread nD τ).loc main_arg3)) : FVec Ideal S17408x128 .f32) := by
  refine (dats m 0 c).arrAt_eq_of_covers 5 _ (by decide +kernel) fun t _ y => ?_
  blk_simp
  rw [after0_5]
  exact point5 m c t y

/-- Kernel and reference end with equal results. -/
theorem algebraic : algebraic_Kernel11Ideal_Reference11Ideal := by
  intro m g m' g' _ hagree
  refine ⟨_, _, (θ_run _ _ _).mono (fun r h c => ⟨(h c).1.trans (final4 m c), (h c).2.1.trans (final5 m c), (h c).2.2⟩) (run_blocks m g), ?_⟩
  refine (θ_run _ _ _).mono (fun r h c => ⟨(h c).1.trans ?_, (h c).2.1.trans ?_, (h c).2.2⟩) (Cert.Reference11Ideal.Value.run m' g')
  · obtain ⟨h0, h1, h2, h3⟩ := hagree c
    rw [h0, h1, h2]
    rfl
  · obtain ⟨h0, h1, h2, h3⟩ := hagree c
    rw [Cert.Reference11Ideal.Dt.res_eq, h0, h1, h2, h3]

end Cert.Kernel11Ideal.Dt
-- ==== Proof.lean ====
/-
  The claim: the scan kernel and its idealisation run and leave their arguments, the reference does, and the one named
  constant is what it stands for; and the kernels of the input and gate projections give the
  reference's products, the experts' kernel the reference's sum over the experts, the dense network's first kernel its
  hidden entries, the second mixer's output kernel the merged branches, the
  first mixer's kernel its gated short convolution's product, the first norm's kernel the normed rows and the step sizes'
  kernel the step sizes and their running sums.
-/
module

public import proofs.«01_k».proof.Defs
public import proofs.«01_k».proof.Proof.Gen.Kernel
public import proofs.«01_k».proof.Proof.LaunchedP
public import proofs.«01_k».proof.Proof.Gen.KernelIdeal
public import proofs.«01_k».proof.Proof.Gen.ReferenceIdeal
public import proofs.«01_k».proof.Proof.Launched
public import proofs.«01_k».proof.Proof.RefRun
public import proofs.«01_k».proof.Proof.Gen.Kernel2.Frame
public import proofs.«01_k».proof.Proof.InProj
public import proofs.«01_k».proof.Proof.Gen.Kernel3.Flash.Runs
public import proofs.«01_k».proof.Proof.Gen.Kernel3Ideal.Flash.Runs
public import proofs.«01_k».proof.Proof.Gen.Reference3Ideal.Run
public import proofs.«01_k».proof.Proof.Gen.Pre_experts
public import proofs.«01_k».proof.Proof.Gen.Pre_experts_finite
public import proofs.«01_k».proof.Proof.MoeTablesP
public import proofs.«01_k».proof.Proof.MoeAlg
public import proofs.«01_k».proof.Proof.Gen.Kernel4.Frame
public import proofs.«01_k».proof.Proof.Gen.Kernel5.Frame
public import proofs.«01_k».proof.Proof.Gen.Kernel6.Frame
public import proofs.«01_k».proof.Proof.Gen.Pre_finite
public import proofs.«01_k».proof.Proof.GateProj
public import proofs.«01_k».proof.Proof.GateUp
public import proofs.«01_k».proof.Proof.OutB
public import proofs.«01_k».proof.Proof.Gen.Kernel7.Frame
public import proofs.«01_k».proof.Proof.Gen.Kernel8.Frame
public import proofs.«01_k».proof.Proof.OutProj
public import proofs.«01_k».proof.Proof.Down
public import proofs.«01_k».proof.Proof.Gen.Kernel9.Frame
public import proofs.«01_k».proof.Proof.MixerA
public import proofs.«01_k».proof.Proof.Gen.Kernel10.Frame
public import proofs.«01_k».proof.Proof.FirstNorm
public import proofs.«01_k».proof.Proof.Gen.Kernel11.Frame
public import proofs.«01_k».proof.Proof.Dt
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_experts.Gen.facts, Cert.Pre_experts_finite.Gen.facts, Cert.Pre_finite.Gen.facts, Cert.Pre_padding.Gen.facts,
    fun m ρ _ => Cert.Kernel.Scan.frame m ρ,
    fun m ρ _ => Cert.KernelIdeal.Scan.frame m ρ,
    fun m ρ _ => Cert.ReferenceIdeal.Ref.frame m ρ,
    fun m ρ _ => Cert.Kernel2.Gen.frame m ρ,
    fun m ρ _ => Cert.Kernel2Ideal.Gen.frame m ρ,
    fun m ρ _ => Cert.Kernel2Ideal.InProj.reference_frame m ρ,
    fun m ρ h => Cert.Kernel3.Moe.frame (Cert.Kernel3.Moe.tables m (Cert.Kernel3.Moe.range_of_pre m h)) m ρ (Cert.Kernel3.Moe.tables_eq m _),
    fun m ρ h => Cert.Kernel3Ideal.Moe.frame (Cert.Kernel3Ideal.Moe.tables m (Cert.Kernel3Ideal.Moe.range_of_pre m h)) m ρ (Cert.Kernel3Ideal.Moe.tables_eq m _),
    fun m ρ h => Cert.Kernel3Ideal.Moe.frame (Cert.Kernel3Ideal.Moe.tables m (Cert.Kernel3Ideal.Moe.range_of_finite m h)) m ρ (Cert.Kernel3Ideal.Moe.tables_eq m _),
    fun m ρ _ => Cert.Reference3Ideal.Moe.frame m ρ,
    fun m ρ _ => Cert.Reference3Ideal.Moe.frame m ρ,
    fun m ρ _ => Cert.Kernel4.Gen.frame m ρ,
    fun m ρ _ => Cert.Kernel4Ideal.Gen.frame m ρ,
    fun m ρ _ => Cert.Reference4Ideal.Gates.frame m ρ,
    fun m ρ _ => Cert.Kernel5.Gen.frame m ρ,
    fun m ρ _ => Cert.Kernel5Ideal.Gen.frame m ρ,
    fun m ρ _ => Cert.Kernel5Ideal.Gen.frame m ρ,
    fun m ρ _ => Cert.Reference5Ideal.GateUp.frame m ρ,
    fun m ρ _ => Cert.Reference5Ideal.GateUp.frame m ρ,
    fun m ρ _ => Cert.Kernel6.Gen.frame m ρ,
    fun m ρ _ => Cert.Kernel6Ideal.Gen.frame m ρ,
    fun m ρ _ => Cert.Reference6Ideal.OutB.frame m ρ,
    fun m ρ _ => Cert.Kernel7.Gen.frame m ρ,
    fun m ρ _ => Cert.Kernel7Ideal.Gen.frame m ρ,
    fun m ρ _ => Cert.Reference7Ideal.OutProj.frame m ρ,
    fun m ρ _ => Cert.Kernel8.Gen.frame m ρ,
    fun m ρ _ => Cert.Kernel8Ideal.Gen.frame m ρ,
    fun m ρ _ => Cert.Reference8Ideal.Down.frame m ρ,
    fun m ρ _ => Cert.Kernel9.Gen.frame m ρ,
    fun m ρ _ => Cert.Kernel9Ideal.Gen.frame m ρ,
    fun m ρ _ => Cert.Kernel9Ideal.Gen.frame m ρ,
    fun m ρ _ => Cert.Reference9Ideal.MixerA.frame m ρ,
    fun m ρ _ => Cert.Reference9Ideal.MixerA.frame m ρ,
    fun m ρ _ => Cert.Kernel10.Gen.frame m ρ,
    fun m ρ _ => Cert.Kernel10Ideal.Gen.frame m ρ,
    fun m ρ _ => Cert.Reference10Ideal.FirstNorm.frame m ρ,
    fun m ρ _ => Cert.Kernel11.Gen.frame m ρ,
    fun m ρ _ => Cert.Kernel11Ideal.Gen.frame m ρ,
    fun m ρ _ => Cert.Reference11Ideal.Dt.frame m ρ,
    IdealRules.named_const.statement Cert.KernelIdeal.κ "log2e" .f32 0x3FB8AA3B#32 (((Real.log 2)⁻¹ : ℝ) : EReal) rfl,
    trivial, Cert.Kernel2Ideal.InProj.algebraic,
    trivial, Cert.Kernel3Ideal.Moe.algebraic,
    trivial, Cert.Kernel4Ideal.Gates.algebraic,
    trivial, Cert.Kernel5Ideal.GateUp.algebraic,
    trivial, Cert.Kernel6Ideal.OutB.algebraic,
    IdealRules.named_const.statement Cert.Kernel7Ideal.κ "alpha" .f32 0x3FB504F3#32 ((Real.sqrt 2 : ℝ) : EReal) rfl, Cert.Kernel7Ideal.OutProj.algebraic,
    IdealRules.named_const.statement Cert.Kernel8Ideal.κ "alpha" .f32 0x3FB504F3#32 ((Real.sqrt 2 : ℝ) : EReal) rfl, Cert.Kernel8Ideal.Down.algebraic,
    trivial, Cert.Kernel9Ideal.MixerA.algebraic,
    trivial, Cert.Kernel10Ideal.FirstNorm.algebraic,
    trivial, Cert.Kernel11Ideal.Dt.algebraic⟩

end Cert.Proof

end
